-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gates_laid_out [hPre_gates_laid_out : Cert.Pre_gates_laid_out.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gates_laid_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_gates_laid_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_gates_laid_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gates_laid_out [hPre_gates_laid_out : Cert.Pre_gates_laid_out.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gates_laid_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_gates_laid_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_gates_laid_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_gates_laid_out [hKernel3Ideal : Cert.Kernel3Ideal.Facts] [hPre_gates_laid_out : Cert.Pre_gates_laid_out.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gates_laid_out m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_gates_laid_out [hReference3Ideal : Cert.Reference3Ideal.Facts] [hPre_gates_laid_out : Cert.Pre_gates_laid_out.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gates_laid_out m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)) (v6 : (c : Dev Cert.Kernel2Ideal.nD) → Buf (Elt Ideal) ((c.tc : Thread Cert.Kernel2Ideal.nD Cert.Kernel2Ideal.τ).loc Cert.Kernel2Ideal.main_v16_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_v16_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v36) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_v39) = v5 c
          ∧ r.2.mem ((c.tc : Thread Cert.Reference2Ideal.nD Cert.Reference2Ideal.τ).loc Cert.Reference2Ideal.main_v42) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "scale" .f32 0x3E38AA3B#32 ((8⁻¹ * (Real.log 2)⁻¹ : ℝ) : EReal)
  ∧ IdealRules.named_const.Statement Cert.Kernel3Ideal.κ "log2e" .f32 0x3FB8AA3B#32 (((Real.log 2)⁻¹ : ℝ) : EReal)
  ∧ IdealRules.named_const.Statement Cert.Kernel3Ideal.κ "mask" .f32 0xF149F2CA#32 ⊥

def algebraic_Kernel3Ideal_Reference3Ideal_pre_gates_laid_out [hKernel3Ideal : Cert.Kernel3Ideal.Facts] [hReference3Ideal : Cert.Reference3Ideal.Facts] [hPre_gates_laid_out : Cert.Pre_gates_laid_out.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gates_laid_out m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v19)) (v1 : (c : Dev Cert.Kernel5Ideal.nD) → Buf (Elt Ideal) ((c.tc : Thread Cert.Kernel5Ideal.nD Cert.Kernel5Ideal.τ).loc Cert.Kernel5Ideal.main_v33)) (v2 : (c : Dev Cert.Kernel5Ideal.nD) → Buf (Elt Ideal) ((c.tc : Thread Cert.Kernel5Ideal.nD Cert.Kernel5Ideal.τ).loc Cert.Kernel5Ideal.main_v52)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_v33) = v1 c
          ∧ r.2.mem ((c.tc : Thread Cert.Kernel5Ideal.nD Cert.Kernel5Ideal.τ).loc Cert.Kernel5Ideal.main_v52) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gates_laid_out : Cert.Pre_gates_laid_out.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_gates_laid_out (hKernel3Ideal := hKernel3Ideal) (hPre_gates_laid_out := hPre_gates_laid_out)
    ∧ quiescent_Reference3Ideal (hReference3Ideal := hReference3Ideal)
    ∧ quiescent_Reference3Ideal_pre_gates_laid_out (hReference3Ideal := hReference3Ideal) (hPre_gates_laid_out := hPre_gates_laid_out)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_gates_laid_out (hKernel3Ideal := hKernel3Ideal) (hReference3Ideal := hReference3Ideal) (hPre_gates_laid_out := hPre_gates_laid_out)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_gates_laid_out.lean ====
abbrev S256x32768 : Shape := ⟨2, ![256, 32768]⟩
abbrev S32768x256 : Shape := ⟨2, ![32768, 256]⟩
abbrev S8x8x4096 : Shape := ⟨3, ![8, 8, 4096]⟩
abbrev S256 : Shape := ⟨1, ![256]⟩
abbrev S8x4096x2x2x64 : Shape := ⟨5, ![8, 4096, 2, 2, 64]⟩
abbrev S8x4x4096 : Shape := ⟨3, ![8, 4, 4096]⟩
abbrev S8x2x2x4096 : Shape := ⟨4, ![8, 2, 2, 4096]⟩
abbrev S8x4096x2x2 : Shape := ⟨4, ![8, 4096, 2, 2]⟩
abbrev S_ : Shape := ⟨0, ![]⟩
abbrev S8x4096x2x1x1 : Shape := ⟨5, ![8, 4096, 2, 1, 1]⟩
abbrev S8x4096x2 : Shape := ⟨3, ![8, 4096, 2]⟩
abbrev S8x4096x2x1 : Shape := ⟨4, ![8, 4096, 2, 1]⟩
abbrev S8x4096x2x2x1 : Shape := ⟨5, ![8, 4096, 2, 2, 1]⟩

class Facts : Prop where
  bitsLt_bf16_f32 : FTy.bits .bf16 < FTy.bits .f32
  shapeCasts_S32768x256_S8x4096x2x2x64 : S32768x256.ShapeCasts S8x4096x2x2x64
  slices_S8x8x4096_S8x4x4096_0_0_0 : S8x8x4096.Slices ![0, 0, 0] S8x4x4096
  shapeCasts_S8x4x4096_S8x2x2x4096 : S8x4x4096.ShapeCasts S8x2x2x4096
  transposes_S8x2x2x4096_S8x4096x2x2_0_3_1_2 : S8x2x2x4096.Transposes [0, 3, 1, 2] S8x4096x2x2
  slices_S8x4096x2x2x64_S8x4096x2x1x1_0_0_0_1_0 : S8x4096x2x2x64.Slices ![0, 0, 0, 1, 0] S8x4096x2x1x1
  shapeCasts_S8x4096x2x1x1_S8x4096x2 : S8x4096x2x1x1.ShapeCasts S8x4096x2
  slices_S8x4096x2x2x64_S8x4096x2x1x1_0_0_0_1_1 : S8x4096x2x2x64.Slices ![0, 0, 0, 1, 1] S8x4096x2x1x1
  slices_S8x4096x2x2x64_S8x4096x2x1x1_0_0_0_1_2 : S8x4096x2x2x64.Slices ![0, 0, 0, 1, 2] S8x4096x2x1x1
  bcast_S_S8x4096x2 : S_.BroadcastsInDim S8x4096x2 (![] : Fin 0 → Fin S8x4096x2.rank)
  slices_S8x4096x2x2_S8x4096x2x1_0_0_0_0 : S8x4096x2x2.Slices ![0, 0, 0, 0] S8x4096x2x1
  shapeCasts_S8x4096x2x1_S8x4096x2 : S8x4096x2x1.ShapeCasts S8x4096x2
  slices_S8x4096x2x2x64_S8x4096x2x1x1_0_0_0_0_0 : S8x4096x2x2x64.Slices ![0, 0, 0, 0, 0] S8x4096x2x1x1
  slices_S8x4096x2x2x64_S8x4096x2x1x1_0_0_0_0_1 : S8x4096x2x2x64.Slices ![0, 0, 0, 0, 1] S8x4096x2x1x1
  slices_S8x4096x2x2x64_S8x4096x2x1x1_0_0_0_0_2 : S8x4096x2x2x64.Slices ![0, 0, 0, 0, 2] S8x4096x2x1x1
  slices_S8x4096x2x2_S8x4096x2x1_0_0_0_1 : S8x4096x2x2.Slices ![0, 0, 0, 1] S8x4096x2x1
  slices_S8x4096x2x2x64_S8x4096x2x2x1_0_0_0_0_3 : S8x4096x2x2x64.Slices ![0, 0, 0, 0, 3] S8x4096x2x2x1
  shapeCasts_S8x4096x2x2x1_S8x4096x2x2 : S8x4096x2x2x1.ShapeCasts S8x4096x2x2
  bcast_S_S8x4096x2x2 : S_.BroadcastsInDim S8x4096x2x2 (![] : Fin 0 → Fin S8x4096x2x2.rank)

variable [Facts]

def fn_part1 {F : FTy → Type} [FloatOps F] (main_v1 : FVec F S8x4096x2x2x64 .f32) (main_v4 : FVec F S8x4096x2x2 .f32) (main_v5 : FVec F S_ .f32) (main_v19 : IVec S8x4096x2 1) (main_v21 : FVec F S8x4096x2 .f32) (main_v22 : FVec F S8x4096x2x1x1 .f32) : IVec S8x4096x2 1 × IVec S8x4096x2 1 × IVec S8x4096x2x2 1 :=
  let main_v23 : FVec F S8x4096x2 .f32 := shapeCast S8x4096x2 main_v22 shapeCasts_S8x4096x2x1x1_S8x4096x2
  let main_v24 : FVec F S8x4096x2 .f32 := addf main_v21 main_v23
  let main_v25 : FVec F S8x4096x2x1x1 .f32 := (extractStridedSlice S8x4096x2x1x1 ![0, 0, 0, 0, 2] · slices_S8x4096x2x2x64_S8x4096x2x1x1_0_0_0_0_2) main_v1
  let main_v26 : FVec F S8x4096x2 .f32 := shapeCast S8x4096x2 main_v25 shapeCasts_S8x4096x2x1x1_S8x4096x2
  let main_v27 : FVec F S8x4096x2 .f32 := addf main_v24 main_v26
  let main_v28 : FVec F S8x4096x2 .f32 := broadcastInDim S8x4096x2 ![] bcast_S_S8x4096x2 main_v5
  let main_v29 : FVec F S8x4096x2 .f32 := mulf main_v27 main_v28
  let main_v30 : FVec F S8x4096x2x1 .f32 := (extractStridedSlice S8x4096x2x1 ![0, 0, 0, 1] · slices_S8x4096x2x2_S8x4096x2x1_0_0_0_1) main_v4
  let main_v31 : FVec F S8x4096x2 .f32 := shapeCast S8x4096x2 main_v30 shapeCasts_S8x4096x2x1_S8x4096x2
  let main_v32 : FVec F S8x4096x2 .f32 := Host.negf main_v31
  let main_v33 : IVec S8x4096x2 1 := cmpf .oeq main_v29 main_v32
  let main_v34 : FVec F S8x4096x2x2x1 .f32 := (extractStridedSlice S8x4096x2x2x1 ![0, 0, 0, 0, 3] · slices_S8x4096x2x2x64_S8x4096x2x2x1_0_0_0_0_3) main_v1
  let main_v35 : FVec F S8x4096x2x2 .f32 := shapeCast S8x4096x2x2 main_v34 shapeCasts_S8x4096x2x2x1_S8x4096x2x2
  let main_cst_0 : FVec F S_ .f32 := constant S_ .f32 0x3F800000#32
  let main_v36 : FVec F S8x4096x2x2 .f32 := broadcastInDim S8x4096x2x2 ![] bcast_S_S8x4096x2x2 main_cst_0
  let main_v37 : IVec S8x4096x2x2 1 := cmpf .oeq main_v35 main_v36
  (main_v19, main_v33, main_v37)

def fn {F : FTy → Type} [FloatOps F] (main_arg0 : FVec F S256x32768 .f32) (main_arg1 : FVec F S32768x256 .bf16) (main_arg2 : FVec F S32768x256 .bf16) (main_arg3 : FVec F S256x32768 .bf16) (main_arg4 : FVec F S8x8x4096 .f32) (main_arg5 : FVec F S256 .f32) : IVec S8x4096x2 1 × IVec S8x4096x2 1 × IVec S8x4096x2x2 1 :=
  let main_v0 : FVec F S32768x256 .f32 := (extf .f32 · bitsLt_bf16_f32) main_arg2
  let main_v1 : FVec F S8x4096x2x2x64 .f32 := shapeCast S8x4096x2x2x64 main_v0 shapeCasts_S32768x256_S8x4096x2x2x64
  let main_v2 : FVec F S8x4x4096 .f32 := (extractStridedSlice S8x4x4096 ![0, 0, 0] · slices_S8x8x4096_S8x4x4096_0_0_0) main_arg4
  let main_v3 : FVec F S8x2x2x4096 .f32 := shapeCast S8x2x2x4096 main_v2 shapeCasts_S8x4x4096_S8x2x2x4096
  let main_v4 : FVec F S8x4096x2x2 .f32 := (transpose S8x4096x2x2 [0, 3, 1, 2] · transposes_S8x2x2x4096_S8x4096x2x2_0_3_1_2) main_v3
  let main_cst : FVec F S_ .f32 := constant S_ .f32 0x40000000#32
  let main_v5 : FVec F S_ .f32 := Host.log main_cst
  let main_v6 : FVec F S8x4096x2x1x1 .f32 := (extractStridedSlice S8x4096x2x1x1 ![0, 0, 0, 1, 0] · slices_S8x4096x2x2x64_S8x4096x2x1x1_0_0_0_1_0) main_v1
  let main_v7 : FVec F S8x4096x2 .f32 := shapeCast S8x4096x2 main_v6 shapeCasts_S8x4096x2x1x1_S8x4096x2
  let main_v8 : FVec F S8x4096x2x1x1 .f32 := (extractStridedSlice S8x4096x2x1x1 ![0, 0, 0, 1, 1] · slices_S8x4096x2x2x64_S8x4096x2x1x1_0_0_0_1_1) main_v1
  let main_v9 : FVec F S8x4096x2 .f32 := shapeCast S8x4096x2 main_v8 shapeCasts_S8x4096x2x1x1_S8x4096x2
  let main_v10 : FVec F S8x4096x2 .f32 := addf main_v7 main_v9
  let main_v11 : FVec F S8x4096x2x1x1 .f32 := (extractStridedSlice S8x4096x2x1x1 ![0, 0, 0, 1, 2] · slices_S8x4096x2x2x64_S8x4096x2x1x1_0_0_0_1_2) main_v1
  let main_v12 : FVec F S8x4096x2 .f32 := shapeCast S8x4096x2 main_v11 shapeCasts_S8x4096x2x1x1_S8x4096x2
  let main_v13 : FVec F S8x4096x2 .f32 := addf main_v10 main_v12
  let main_v14 : FVec F S8x4096x2 .f32 := broadcastInDim S8x4096x2 ![] bcast_S_S8x4096x2 main_v5
  let main_v15 : FVec F S8x4096x2 .f32 := mulf main_v13 main_v14
  let main_v16 : FVec F S8x4096x2x1 .f32 := (extractStridedSlice S8x4096x2x1 ![0, 0, 0, 0] · slices_S8x4096x2x2_S8x4096x2x1_0_0_0_0) main_v4
  let main_v17 : FVec F S8x4096x2 .f32 := shapeCast S8x4096x2 main_v16 shapeCasts_S8x4096x2x1_S8x4096x2
  let main_v18 : FVec F S8x4096x2 .f32 := Host.negf main_v17
  let main_v19 : IVec S8x4096x2 1 := cmpf .oeq main_v15 main_v18
  let main_v20 : FVec F S8x4096x2x1x1 .f32 := (extractStridedSlice S8x4096x2x1x1 ![0, 0, 0, 0, 0] · slices_S8x4096x2x2x64_S8x4096x2x1x1_0_0_0_0_0) main_v1
  let main_v21 : FVec F S8x4096x2 .f32 := shapeCast S8x4096x2 main_v20 shapeCasts_S8x4096x2x1x1_S8x4096x2
  let main_v22 : FVec F S8x4096x2x1x1 .f32 := (extractStridedSlice S8x4096x2x1x1 ![0, 0, 0, 0, 1] · slices_S8x4096x2x2x64_S8x4096x2x1x1_0_0_0_0_1) main_v1
  fn_part1 (F := F) main_v1 main_v4 main_v5 main_v19 main_v21 main_v22
-- ==== Kernel.lean ====
abbrev S4096x2048 : Shape := ⟨2, ![4096, 2048]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x256 : Shape := ⟨2, ![512, 256]⟩
abbrev S512x1024 : Shape := ⟨2, ![512, 1024]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 20
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S32768x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4096x2048 : Shape := ⟨2, ![4096, 2048]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4096x8x256 : Shape := ⟨3, ![4096, 8, 256]⟩
abbrev S8x4096x256 : Shape := ⟨3, ![8, 4096, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S4096x2048, .f32⟩
  | .hbm, ⟨13, _⟩ => ⟨S4096x8x256, .f32⟩
  | .hbm, ⟨14, _⟩ => ⟨S8x4096x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S32768x2816, .f32⟩
  | .hbm, ⟨55, _⟩ => ⟨S32768x2816, .f32⟩
  | .hbm, ⟨56, _⟩ => ⟨S32768x2816, .f32⟩
  | .hbm, ⟨57, _⟩ => ⟨S_, .f32⟩
  | .hbm, ⟨58, _⟩ => ⟨S32768x2816, .f32⟩
  | .hbm, ⟨59, _⟩ => ⟨S32768x2816, .f32⟩
  | .hbm, ⟨60, _⟩ => ⟨S_, .f32⟩
  | .hbm, ⟨61, _⟩ => ⟨S32768x2816, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S1x1024, .f32⟩
  | .hbm, ⟨81, _⟩ => ⟨S32768x1024, .f32⟩
  | .hbm, ⟨82, _⟩ => ⟨S32768x1024, .f32⟩
  | .hbm, ⟨83, _⟩ => ⟨S32768x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x3084 : Shape := ⟨2, ![1024, 3084]⟩
abbrev S1024x4 : Shape := ⟨2, ![1024, 4]⟩
abbrev S_ : Shape := ⟨0, ![]⟩
abbrev S1024x16 : Shape := ⟨2, ![1024, 16]⟩
abbrev S1024x1280 : Shape := ⟨2, ![1024, 1280]⟩
abbrev S1024x256 : Shape := ⟨2, ![1024, 256]⟩
abbrev S1024x1024 : Shape := ⟨2, ![1024, 1024]⟩
abbrev S1024x2560 : Shape := ⟨2, ![1024, 2560]⟩
abbrev S1024x528 : Shape := ⟨2, ![1024, 528]⟩
abbrev S528x1024 : Shape := ⟨2, ![528, 1024]⟩
abbrev S1x1024 : Shape := ⟨2, ![1, 1024]⟩
abbrev S4096x2048 : Shape := ⟨2, ![4096, 2048]⟩
abbrev S32768x256 : Shape := ⟨2, ![32768, 256]⟩
abbrev S256x32768 : Shape := ⟨2, ![256, 32768]⟩
abbrev S128x4096 : Shape := ⟨2, ![128, 4096]⟩
abbrev S256x1024 : Shape := ⟨2, ![256, 1024]⟩
abbrev S16x1024 : Shape := ⟨2, ![16, 1024]⟩
abbrev S1024x1 : Shape := ⟨2, ![1024, 1]⟩

abbrev nBuf : Space → Nat
  | .hbm => 27
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3084, .f32⟩
  | .hbm, ⟨3, _⟩ => ⟨S1024x4, .f32⟩
  | .hbm, ⟨4, _⟩ => ⟨S1024x4, .f32⟩
  | .hbm, ⟨5, _⟩ => ⟨S1024x4, .f32⟩
  | .hbm, ⟨6, _⟩ => ⟨S_, .f32⟩
  | .hbm, ⟨7, _⟩ => ⟨S1024x4, .f32⟩
  | .hbm, ⟨8, _⟩ => ⟨S1024x16, .f32⟩
  | .hbm, ⟨9, _⟩ => ⟨S1024x1280, .f32⟩
  | .hbm, ⟨10, _⟩ => ⟨S1024x256, .f32⟩
  | .hbm, ⟨11, _⟩ => ⟨S1024x1024, .f32⟩
  | .hbm, ⟨12, _⟩ => ⟨S1024x2560, .f32⟩
  | .hbm, ⟨13, _⟩ => ⟨S1024x2560, .bf16⟩
  | .hbm, ⟨14, _⟩ => ⟨S1024x256, .f32⟩
  | .hbm, ⟨15, _⟩ => ⟨S1024x256, .f32⟩
  | .hbm, ⟨16, _⟩ => ⟨S1024x528, .f32⟩
  | .hbm, ⟨17, _⟩ => ⟨S528x1024, .f32⟩
  | .hbm, ⟨18, _⟩ => ⟨S528x1024, .bf16⟩
  | .hbm, ⟨19, _⟩ => ⟨S1x1024, .f32⟩
  | .hbm, ⟨20, _⟩ => ⟨S4096x2048, .f32⟩
  | .hbm, ⟨21, _⟩ => ⟨S32768x1024, .f32⟩
  | .hbm, ⟨22, _⟩ => ⟨S32768x256, .bf16⟩
  | .hbm, ⟨23, _⟩ => ⟨S32768x1024, .f32⟩
  | .hbm, ⟨24, _⟩ => ⟨S256x32768, .f32⟩
  | .hbm, ⟨25, _⟩ => ⟨S256x32768, .bf16⟩
  | .hbm, ⟨26, _⟩ => ⟨S128x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S528x1024, .bf16⟩
  | .local _ .vmem, ⟨5, _⟩ => ⟨S1024x256, .f32⟩
  | .local _ .vmem, ⟨6, _⟩ => ⟨S1024x256, .f32⟩
  | .local _ .vmem, ⟨7, _⟩ => ⟨S1024x1024, .f32⟩
  | .local _ .vmem, ⟨8, _⟩ => ⟨S1024x1024, .f32⟩
  | .local _ .vmem, ⟨9, _⟩ => ⟨S1024x256, .bf16⟩
  | .local _ .vmem, ⟨10, _⟩ => ⟨S1024x256, .bf16⟩
  | .local _ .vmem, ⟨11, _⟩ => ⟨S1024x1024, .f32⟩
  | .local _ .vmem, ⟨12, _⟩ => ⟨S1024x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S16x1024, .f32⟩
  | .local _ .vmem, ⟨18, _⟩ => ⟨S16x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v16_2 : Ref sig .tc := ⟨.hbm, 22, rfl⟩
abbrev main_v16_3 : Ref sig .tc := ⟨.hbm, 23, rfl⟩
abbrev main_v16_4 : Ref sig .tc := ⟨.hbm, 24, rfl⟩
abbrev main_v16_5 : Ref sig .tc := ⟨.hbm, 25, rfl⟩
abbrev main_v16_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S528x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S1024 : Shape := ⟨1, ![1024]⟩
abbrev S1024x3084 : Shape := ⟨2, ![1024, 3084]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3084 : Shape := ⟨2, ![32768, 3084]⟩
abbrev S32768x256 : Shape := ⟨2, ![32768, 256]⟩
abbrev S32768x4 : Shape := ⟨2, ![32768, 4]⟩
abbrev S8x4096x256 : Shape := ⟨3, ![8, 4096, 256]⟩
abbrev S4096x8x256 : Shape := ⟨3, ![4096, 8, 256]⟩
abbrev S4096x2048 : Shape := ⟨2, ![4096, 2048]⟩
abbrev S32768x16 : Shape := ⟨2, ![32768, 16]⟩
abbrev S256x32768 : Shape := ⟨2, ![256, 32768]⟩
abbrev S8x4096x16 : Shape := ⟨3, ![8, 4096, 16]⟩
abbrev S8x16x4096 : Shape := ⟨3, ![8, 16, 4096]⟩
abbrev S128x4096 : Shape := ⟨2, ![128, 4096]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3084, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3084, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x4, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x4, .f32⟩
  | .hbm, ⟨34, _⟩ => ⟨S32768x4, .f32⟩
  | .hbm, ⟨35, _⟩ => ⟨S8x4096x256, .f32⟩
  | .hbm, ⟨36, _⟩ => ⟨S4096x8x256, .f32⟩
  | .hbm, ⟨37, _⟩ => ⟨S4096x2048, .f32⟩
  | .hbm, ⟨38, _⟩ => ⟨S_, .f32⟩
  | .hbm, ⟨39, _⟩ => ⟨S32768x4, .f32⟩
  | .hbm, ⟨40, _⟩ => ⟨S32768x16, .f32⟩
  | .hbm, ⟨41, _⟩ => ⟨S32768x1024, .f32⟩
  | .hbm, ⟨42, _⟩ => ⟨S32768x256, .bf16⟩
  | .hbm, ⟨43, _⟩ => ⟨S32768x1024, .f32⟩
  | .hbm, ⟨44, _⟩ => ⟨S256x32768, .f32⟩
  | .hbm, ⟨45, _⟩ => ⟨S256x32768, .f32⟩
  | .hbm, ⟨46, _⟩ => ⟨S256x32768, .bf16⟩
  | .hbm, ⟨47, _⟩ => ⟨S8x4096x16, .f32⟩
  | .hbm, ⟨48, _⟩ => ⟨S8x16x4096, .f32⟩
  | .hbm, ⟨49, _⟩ => ⟨S128x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== Kernel3.lean ====
abbrev S256x32768 : Shape := ⟨2, ![256, 32768]⟩
abbrev S32768x256 : Shape := ⟨2, ![32768, 256]⟩
abbrev S8x8x4096 : Shape := ⟨3, ![8, 8, 4096]⟩
abbrev S256 : Shape := ⟨1, ![256]⟩
abbrev S256x1 : Shape := ⟨2, ![256, 1]⟩
abbrev S256x1024 : Shape := ⟨2, ![256, 1024]⟩
abbrev S4096x256 : Shape := ⟨2, ![4096, 256]⟩
abbrev S256x4096 : Shape := ⟨2, ![256, 4096]⟩
abbrev S1x8x1024 : Shape := ⟨3, ![1, 8, 1024]⟩
abbrev S1024x256 : Shape := ⟨2, ![1024, 256]⟩
abbrev S4x4096x256 : Shape := ⟨3, ![4, 4096, 256]⟩
abbrev S512x256 : Shape := ⟨2, ![512, 256]⟩
abbrev S1x512x256 : Shape := ⟨3, ![1, 512, 256]⟩
abbrev S1x1x1024 : Shape := ⟨3, ![1, 1, 1024]⟩
abbrev S1x1024 : Shape := ⟨2, ![1, 1024]⟩
abbrev S16x512 : Shape := ⟨2, ![16, 512]⟩
abbrev S8x1024 : Shape := ⟨2, ![8, 1024]⟩
abbrev S64x1024 : Shape := ⟨2, ![64, 1024]⟩
abbrev S512x1024 : Shape := ⟨2, ![512, 1024]⟩
abbrev S1024 : Shape := ⟨1, ![1024]⟩
abbrev S64x512 : Shape := ⟨2, ![64, 512]⟩
abbrev S80x512 : Shape := ⟨2, ![80, 512]⟩
abbrev S80x256 : Shape := ⟨2, ![80, 256]⟩
abbrev S80x1024 : Shape := ⟨2, ![80, 1024]⟩
abbrev S256x512 : Shape := ⟨2, ![256, 512]⟩
abbrev S512x512 : Shape := ⟨2, ![512, 512]⟩
abbrev S8x512 : Shape := ⟨2, ![8, 512]⟩
abbrev S512 : Shape := ⟨1, ![512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S256x32768, .f32⟩
  | .hbm, ⟨1, _⟩ => ⟨S32768x256, .bf16⟩
  | .hbm, ⟨2, _⟩ => ⟨S32768x256, .bf16⟩
  | .hbm, ⟨3, _⟩ => ⟨S256x32768, .bf16⟩
  | .hbm, ⟨4, _⟩ => ⟨S8x8x4096, .f32⟩
  | .hbm, ⟨5, _⟩ => ⟨S256, .f32⟩
  | .hbm, ⟨6, _⟩ => ⟨S256x1, .f32⟩
  | .hbm, ⟨7, _⟩ => ⟨S32768x256, .bf16⟩
  | .local _ .vmem, ⟨0, _⟩ => ⟨S256x1024, .f32⟩
  | .local _ .vmem, ⟨1, _⟩ => ⟨S256x1024, .f32⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x4096, .bf16⟩
  | .local _ .vmem, ⟨7, _⟩ => ⟨S256x4096, .bf16⟩
  | .local _ .vmem, ⟨8, _⟩ => ⟨S1x8x1024, .f32⟩
  | .local _ .vmem, ⟨9, _⟩ => ⟨S1x8x1024, .f32⟩
  | .local _ .vmem, ⟨10, _⟩ => ⟨S256x1, .f32⟩
  | .local _ .vmem, ⟨11, _⟩ => ⟨S1024x256, .bf16⟩
  | .local _ .vmem, ⟨12, _⟩ => ⟨S1024x256, .bf16⟩
  | .local _ .vmem, ⟨13, _⟩ => ⟨S4x4096x256, .bf16⟩
  | _, _ => ⟨S256x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_80 : BitVec 32 := 0#32
  let c8_i32 : BitVec 32 := 8#32
  let v281 : BitVec 32 := Scalar.addi c0_i32_80 c8_i32
  let c1_i32_81 : BitVec 32 := 1#32
  ⟨c0_i32_80, v281, c1_i32_81⟩
def k0_mult1 (k0_t1 : Fin k0_t1_loop.trips) : BitVec 32 :=
  let c0_i32_80 : BitVec 32 := 0#32
  let c1_i32_81 : BitVec 32 := 1#32
  let arg10 : BitVec 32 := Scf.iv c0_i32_80 c1_i32_81 k0_t1
  let c512_i32 : BitVec 32 := 512#32
  let v282 : BitVec 32 := Scalar.muli arg10 c512_i32
  v282
def k0_off1 (k0_t1 : Fin k0_t1_loop.trips) : Fin 2 → Nat :=
  let c0_i32_80 : BitVec 32 := 0#32
  let c1_i32_81 : BitVec 32 := 1#32
  let arg10 : BitVec 32 := Scf.iv c0_i32_80 c1_i32_81 k0_t1
  let c512_i32 : BitVec 32 := 512#32
  let v282 : BitVec 32 := Scalar.muli arg10 c512_i32
  let v283 : BitVec 32 := v282
  let v284 : Index := Scalar.indexCast v283
  let c0_83 : Index := 0#32
  ![v284.toNat, 0]
def k0_off2 (k0_t1 : Fin k0_t1_loop.trips) : Fin 3 → Nat :=
  let c0_86 : Index := 0#32
  let c0_i32_80 : BitVec 32 := 0#32
  let c1_i32_81 : BitVec 32 := 1#32
  let arg10 : BitVec 32 := Scf.iv c0_i32_80 c1_i32_81 k0_t1
  let c512_i32 : BitVec 32 := 512#32
  let v282 : BitVec 32 := Scalar.muli arg10 c512_i32
  let v283 : BitVec 32 := v282
  let v291 : Index := Scalar.indexCast v283
  let c0_87 : Index := 0#32
  ![0, v291.toNat, 0]
def k0_off3 (k0_t1 : Fin k0_t1_loop.trips) : Fin 3 → Nat :=
  let c1_89 : Index := 1#32
  let c0_i32_80 : BitVec 32 := 0#32
  let c1_i32_81 : BitVec 32 := 1#32
  let arg10 : BitVec 32 := Scf.iv c0_i32_80 c1_i32_81 k0_t1
  let c512_i32 : BitVec 32 := 512#32
  let v282 : BitVec 32 := Scalar.muli arg10 c512_i32
  let v283 : BitVec 32 := v282
  let v298 : Index := Scalar.indexCast v283
  let c0_90 : Index := 0#32
  ![1, v298.toNat, 0]
def k0_off4 (k0_t1 : Fin k0_t1_loop.trips) : Fin 3 → Nat :=
  let c2_92 : Index := 2#32
  let c0_i32_80 : BitVec 32 := 0#32
  let c1_i32_81 : BitVec 32 := 1#32
  let arg10 : BitVec 32 := Scf.iv c0_i32_80 c1_i32_81 k0_t1
  let c512_i32 : BitVec 32 := 512#32
  let v282 : BitVec 32 := Scalar.muli arg10 c512_i32
  let v283 : BitVec 32 := v282
  let v305 : Index := Scalar.indexCast v283
  let c0_93 : Index := 0#32
  ![2, v305.toNat, 0]
def k0_off5 (k0_t1 : Fin k0_t1_loop.trips) : Fin 3 → Nat :=
  let c3_95 : Index := 3#32
  let c0_i32_80 : BitVec 32 := 0#32
  let c1_i32_81 : BitVec 32 := 1#32
  let arg10 : BitVec 32 := Scf.iv c0_i32_80 c1_i32_81 k0_t1
  let c512_i32 : BitVec 32 := 512#32
  let v282 : BitVec 32 := Scalar.muli arg10 c512_i32
  let v283 : BitVec 32 := v282
  let v312 : Index := Scalar.indexCast v283
  let c0_96 : Index := 0#32
  ![3, v312.toNat, 0]
@[reducible] def k0_t2_loop (i : grid0.Coords) : Scf.Loop 32 :=
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_51 : BitVec 32 := 1#32
  ⟨c0_i32_49, v199, c1_i32_51⟩
def k0_mult2 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32 : BitVec 32 := 512#32
  let v281 : BitVec 32 := Scalar.muli v278 c512_i32
  v281
def k0_off6 (i : grid0.Coords) (k0_t2 : Fin (k0_t2_loop i).trips) : Fin 3 → Nat :=
  let c0_82 : Index := 0#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32 : BitVec 32 := 512#32
  let v281 : BitVec 32 := Scalar.muli v278 c512_i32
  let v282 : BitVec 32 := v281
  let v283 : Index := Scalar.indexCast v282
  let c0_83 : Index := 0#32
  ![0, v283.toNat, 0]
def k0_mult3 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_86 : BitVec 32 := 512#32
  let v291 : BitVec 32 := Scalar.muli v278 c512_i32_86
  v291
def k0_off7 (i : grid0.Coords) (k0_t2 : Fin (k0_t2_loop i).trips) : Fin 3 → Nat :=
  let c1_87 : Index := 1#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_86 : BitVec 32 := 512#32
  let v291 : BitVec 32 := Scalar.muli v278 c512_i32_86
  let v292 : BitVec 32 := v291
  let v293 : Index := Scalar.indexCast v292
  let c0_88 : Index := 0#32
  ![1, v293.toNat, 0]
def k0_mult4 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_91 : BitVec 32 := 512#32
  let v301 : BitVec 32 := Scalar.muli v278 c512_i32_91
  v301
def k0_off8 (i : grid0.Coords) (k0_t2 : Fin (k0_t2_loop i).trips) : Fin 3 → Nat :=
  let c2_92 : Index := 2#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_91 : BitVec 32 := 512#32
  let v301 : BitVec 32 := Scalar.muli v278 c512_i32_91
  let v302 : BitVec 32 := v301
  let v303 : Index := Scalar.indexCast v302
  let c0_93 : Index := 0#32
  ![2, v303.toNat, 0]
def k0_mult5 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_96 : BitVec 32 := 512#32
  let v311 : BitVec 32 := Scalar.muli v278 c512_i32_96
  v311
def k0_off9 (i : grid0.Coords) (k0_t2 : Fin (k0_t2_loop i).trips) : Fin 2 → Nat :=
  let c0_97 : Index := 0#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_96 : BitVec 32 := 512#32
  let v311 : BitVec 32 := Scalar.muli v278 c512_i32_96
  let v312 : BitVec 32 := v311
  let v315 : Index := Scalar.indexCast v312
  ![0, v315.toNat]
def k0_mult6 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_100 : BitVec 32 := 512#32
  let v344 : BitVec 32 := Scalar.muli v278 c512_i32_100
  v344
def k0_off10 (i : grid0.Coords) (k0_t2 : Fin (k0_t2_loop i).trips) : Fin 3 → Nat :=
  let c3_101 : Index := 3#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_100 : BitVec 32 := 512#32
  let v344 : BitVec 32 := Scalar.muli v278 c512_i32_100
  let v345 : BitVec 32 := v344
  let v346 : Index := Scalar.indexCast v345
  let c0_102 : Index := 0#32
  ![3, v346.toNat, 0]
def k0_mult7 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_105 : BitVec 32 := 512#32
  let v354 : BitVec 32 := Scalar.muli v278 c512_i32_105
  v354
def k0_off11 (i : grid0.Coords) (k0_t2 : Fin (k0_t2_loop i).trips) : Fin 2 → Nat :=
  let c64 : Index := 64#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_105 : BitVec 32 := 512#32
  let v354 : BitVec 32 := Scalar.muli v278 c512_i32_105
  let v355 : BitVec 32 := v354
  let v358 : Index := Scalar.indexCast v355
  ![64, v358.toNat]
def k0_mult8 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_108 : BitVec 32 := 512#32
  let v387 : BitVec 32 := Scalar.muli v280 c512_i32_108
  v387
def k0_off12 (i : grid0.Coords) (k0_t2 : Fin (k0_t2_loop i).trips) : Fin 3 → Nat :=
  let c0_109 : Index := 0#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_108 : BitVec 32 := 512#32
  let v387 : BitVec 32 := Scalar.muli v280 c512_i32_108
  let v388 : BitVec 32 := v387
  let v389 : Index := Scalar.indexCast v388
  let c0_110 : Index := 0#32
  ![0, v389.toNat, 0]
def k0_mult9 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_113 : BitVec 32 := 512#32
  let v397 : BitVec 32 := Scalar.muli v278 c512_i32_113
  v397
def k0_off13 (i : grid0.Coords) (k0_t2 : Fin (k0_t2_loop i).trips) : Fin 2 → Nat :=
  let c128 : Index := 128#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_113 : BitVec 32 := 512#32
  let v397 : BitVec 32 := Scalar.muli v278 c512_i32_113
  let v398 : BitVec 32 := v397
  let v401 : Index := Scalar.indexCast v398
  ![128, v401.toNat]
def k0_mult10 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_116 : BitVec 32 := 512#32
  let v430 : BitVec 32 := Scalar.muli v280 c512_i32_116
  v430
def k0_off14 (i : grid0.Coords) (k0_t2 : Fin (k0_t2_loop i).trips) : Fin 3 → Nat :=
  let c1_117 : Index := 1#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_116 : BitVec 32 := 512#32
  let v430 : BitVec 32 := Scalar.muli v280 c512_i32_116
  let v431 : BitVec 32 := v430
  let v432 : Index := Scalar.indexCast v431
  let c0_118 : Index := 0#32
  ![1, v432.toNat, 0]
def k0_mult11 (i : grid0.Coords) (k0_t2 : Fin (k0_t2_loop i).trips) : BitVec 32 :=
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_121 : BitVec 32 := 512#32
  let v440 : BitVec 32 := Scalar.muli v278 c512_i32_121
  v440
def k0_off15 (i : grid0.Coords) (k0_t2 : Fin (k0_t2_loop i).trips) : Fin 2 → Nat :=
  let c192 : Index := 192#32
  let c2_i32_79 : BitVec 32 := 2#32
  let c0_i32_49 : BitVec 32 := 0#32
  let c1_i32_51 : BitVec 32 := 1#32
  let arg10 : BitVec 32 := Scf.iv c0_i32_49 c1_i32_51 k0_t2
  let v278 : BitVec 32 := Scalar.muli c2_i32_79 arg10
  let c512_i32_121 : BitVec 32 := 512#32
  let v440 : BitVec 32 := Scalar.muli v278 c512_i32_121
  let v441 : BitVec 32 := v440
  let v444 : Index := Scalar.indexCast v441
  ![192, v444.toNat]
def k0_mult12 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_124 : BitVec 32 := 512#32
  let v473 : BitVec 32 := Scalar.muli v280 c512_i32_124
  v473
def k0_off16 (i : grid0.Coords) (k0_t2 : Fin (k0_t2_loop i).trips) : Fin 3 → Nat :=
  let c2_125 : Index := 2#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_124 : BitVec 32 := 512#32
  let v473 : BitVec 32 := Scalar.muli v280 c512_i32_124
  let v474 : BitVec 32 := v473
  let v475 : Index := Scalar.indexCast v474
  let c0_126 : Index := 0#32
  ![2, v475.toNat, 0]
def k0_mult13 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_129 : BitVec 32 := 512#32
  let v483 : BitVec 32 := Scalar.muli v280 c512_i32_129
  v483
def k0_off17 (i : grid0.Coords) (k0_t2 : Fin (k0_t2_loop i).trips) : Fin 2 → Nat :=
  let c0_130 : Index := 0#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_129 : BitVec 32 := 512#32
  let v483 : BitVec 32 := Scalar.muli v280 c512_i32_129
  let v484 : BitVec 32 := v483
  let v487 : Index := Scalar.indexCast v484
  ![0, v487.toNat]
def k0_mult14 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_133 : BitVec 32 := 512#32
  let v516 : BitVec 32 := Scalar.muli v280 c512_i32_133
  v516
def k0_off18 (i : grid0.Coords) (k0_t2 : Fin (k0_t2_loop i).trips) : Fin 3 → Nat :=
  let c3_134 : Index := 3#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_133 : BitVec 32 := 512#32
  let v516 : BitVec 32 := Scalar.muli v280 c512_i32_133
  let v517 : BitVec 32 := v516
  let v518 : Index := Scalar.indexCast v517
  let c0_135 : Index := 0#32
  ![3, v518.toNat, 0]
def k0_mult15 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_138 : BitVec 32 := 512#32
  let v526 : BitVec 32 := Scalar.muli v280 c512_i32_138
  v526
def k0_off19 (i : grid0.Coords) (k0_t2 : Fin (k0_t2_loop i).trips) : Fin 2 → Nat :=
  let c64_139 : Index := 64#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_138 : BitVec 32 := 512#32
  let v526 : BitVec 32 := Scalar.muli v280 c512_i32_138
  let v527 : BitVec 32 := v526
  let v530 : Index := Scalar.indexCast v527
  ![64, v530.toNat]
def k0_mult16 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_142 : BitVec 32 := 512#32
  let v559 : BitVec 32 := Scalar.muli v280 c512_i32_142
  v559
def k0_off20 (i : grid0.Coords) (k0_t2 : Fin (k0_t2_loop i).trips) : Fin 2 → Nat :=
  let c128_143 : Index := 128#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_142 : BitVec 32 := 512#32
  let v559 : BitVec 32 := Scalar.muli v280 c512_i32_142
  let v560 : BitVec 32 := v559
  let v563 : Index := Scalar.indexCast v560
  ![128, v563.toNat]
def k0_mult17 (i : grid0.Coords) (k0_t2 : Fin (k0_t2_loop i).trips) : BitVec 32 :=
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_146 : BitVec 32 := 512#32
  let v592 : BitVec 32 := Scalar.muli v280 c512_i32_146
  v592
def k0_off21 (i : grid0.Coords) (k0_t2 : Fin (k0_t2_loop i).trips) : Fin 2 → Nat :=
  let c192_147 : Index := 192#32
  let c2_i32_80 : BitVec 32 := 2#32
  let c0_i32_49 : BitVec 32 := 0#32
  let c1_i32_51 : BitVec 32 := 1#32
  let arg10 : BitVec 32 := Scf.iv c0_i32_49 c1_i32_51 k0_t2
  let v279 : BitVec 32 := Scalar.muli c2_i32_80 arg10
  let c1_i32_81 : BitVec 32 := 1#32
  let v280 : BitVec 32 := Scalar.addi v279 c1_i32_81
  let c512_i32_146 : BitVec 32 := 512#32
  let v592 : BitVec 32 := Scalar.muli v280 c512_i32_146
  let v593 : BitVec 32 := v592
  let v596 : Index := Scalar.indexCast v593
  ![192, v596.toNat]
@[reducible] def k0_t3_loop (i : grid0.Coords) : Scf.Loop 32 :=
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let v196 : BitVec 32 := Scalar.addi c0_i32_49 v195
  let c1_i32_52 : BitVec 32 := 1#32
  ⟨v199, v196, c1_i32_52⟩
def k0_mult18 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32 : BitVec 32 := 512#32
  let v281 : BitVec 32 := Scalar.muli v278 c512_i32
  v281
def k0_off22 (i : grid0.Coords) (k0_t3 : Fin (k0_t3_loop i).trips) : Fin 3 → Nat :=
  let c0_82 : Index := 0#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32 : BitVec 32 := 512#32
  let v281 : BitVec 32 := Scalar.muli v278 c512_i32
  let v282 : BitVec 32 := v281
  let v283 : Index := Scalar.indexCast v282
  let c0_83 : Index := 0#32
  ![0, v283.toNat, 0]
def k0_mult19 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_86 : BitVec 32 := 512#32
  let v291 : BitVec 32 := Scalar.muli v278 c512_i32_86
  v291
def k0_off23 (i : grid0.Coords) (k0_t3 : Fin (k0_t3_loop i).trips) : Fin 3 → Nat :=
  let c1_87 : Index := 1#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_86 : BitVec 32 := 512#32
  let v291 : BitVec 32 := Scalar.muli v278 c512_i32_86
  let v292 : BitVec 32 := v291
  let v293 : Index := Scalar.indexCast v292
  let c0_88 : Index := 0#32
  ![1, v293.toNat, 0]
def k0_mult20 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_91 : BitVec 32 := 512#32
  let v301 : BitVec 32 := Scalar.muli v278 c512_i32_91
  v301
def k0_off24 (i : grid0.Coords) (k0_t3 : Fin (k0_t3_loop i).trips) : Fin 3 → Nat :=
  let c2_92 : Index := 2#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_91 : BitVec 32 := 512#32
  let v301 : BitVec 32 := Scalar.muli v278 c512_i32_91
  let v302 : BitVec 32 := v301
  let v303 : Index := Scalar.indexCast v302
  let c0_93 : Index := 0#32
  ![2, v303.toNat, 0]
def k0_mult21 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_96 : BitVec 32 := 512#32
  let v311 : BitVec 32 := Scalar.muli v278 c512_i32_96
  v311
def k0_off25 (i : grid0.Coords) (k0_t3 : Fin (k0_t3_loop i).trips) : Fin 2 → Nat :=
  let c0_97 : Index := 0#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_96 : BitVec 32 := 512#32
  let v311 : BitVec 32 := Scalar.muli v278 c512_i32_96
  let v312 : BitVec 32 := v311
  let v315 : Index := Scalar.indexCast v312
  ![0, v315.toNat]
def k0_mult22 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_100 : BitVec 32 := 512#32
  let v344 : BitVec 32 := Scalar.muli v278 c512_i32_100
  v344
def k0_off26 (i : grid0.Coords) (k0_t3 : Fin (k0_t3_loop i).trips) : Fin 3 → Nat :=
  let c3_101 : Index := 3#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_100 : BitVec 32 := 512#32
  let v344 : BitVec 32 := Scalar.muli v278 c512_i32_100
  let v345 : BitVec 32 := v344
  let v346 : Index := Scalar.indexCast v345
  let c0_102 : Index := 0#32
  ![3, v346.toNat, 0]
def k0_mult23 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_105 : BitVec 32 := 512#32
  let v354 : BitVec 32 := Scalar.muli v278 c512_i32_105
  v354
def k0_off27 (i : grid0.Coords) (k0_t3 : Fin (k0_t3_loop i).trips) : Fin 2 → Nat :=
  let c64 : Index := 64#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_105 : BitVec 32 := 512#32
  let v354 : BitVec 32 := Scalar.muli v278 c512_i32_105
  let v355 : BitVec 32 := v354
  let v358 : Index := Scalar.indexCast v355
  ![64, v358.toNat]
def k0_mult24 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_108 : BitVec 32 := 512#32
  let v387 : BitVec 32 := Scalar.muli v280 c512_i32_108
  v387
def k0_off28 (i : grid0.Coords) (k0_t3 : Fin (k0_t3_loop i).trips) : Fin 3 → Nat :=
  let c0_109 : Index := 0#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_108 : BitVec 32 := 512#32
  let v387 : BitVec 32 := Scalar.muli v280 c512_i32_108
  let v388 : BitVec 32 := v387
  let v389 : Index := Scalar.indexCast v388
  let c0_110 : Index := 0#32
  ![0, v389.toNat, 0]
def k0_mult25 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_113 : BitVec 32 := 512#32
  let v397 : BitVec 32 := Scalar.muli v278 c512_i32_113
  v397
def k0_off29 (i : grid0.Coords) (k0_t3 : Fin (k0_t3_loop i).trips) : Fin 2 → Nat :=
  let c128 : Index := 128#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_113 : BitVec 32 := 512#32
  let v397 : BitVec 32 := Scalar.muli v278 c512_i32_113
  let v398 : BitVec 32 := v397
  let v401 : Index := Scalar.indexCast v398
  ![128, v401.toNat]
def k0_mult26 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_116 : BitVec 32 := 512#32
  let v430 : BitVec 32 := Scalar.muli v280 c512_i32_116
  v430
def k0_off30 (i : grid0.Coords) (k0_t3 : Fin (k0_t3_loop i).trips) : Fin 3 → Nat :=
  let c1_117 : Index := 1#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_116 : BitVec 32 := 512#32
  let v430 : BitVec 32 := Scalar.muli v280 c512_i32_116
  let v431 : BitVec 32 := v430
  let v432 : Index := Scalar.indexCast v431
  let c0_118 : Index := 0#32
  ![1, v432.toNat, 0]
def k0_mult27 (i : grid0.Coords) (k0_t3 : Fin (k0_t3_loop i).trips) : BitVec 32 :=
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_121 : BitVec 32 := 512#32
  let v440 : BitVec 32 := Scalar.muli v278 c512_i32_121
  v440
def k0_off31 (i : grid0.Coords) (k0_t3 : Fin (k0_t3_loop i).trips) : Fin 2 → Nat :=
  let c192 : Index := 192#32
  let c2_i32_79 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v278 : BitVec 32 := Scalar.muli c2_i32_79 arg10
  let c512_i32_121 : BitVec 32 := 512#32
  let v440 : BitVec 32 := Scalar.muli v278 c512_i32_121
  let v441 : BitVec 32 := v440
  let v444 : Index := Scalar.indexCast v441
  ![192, v444.toNat]
def k0_mult28 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_124 : BitVec 32 := 512#32
  let v473 : BitVec 32 := Scalar.muli v280 c512_i32_124
  v473
def k0_off32 (i : grid0.Coords) (k0_t3 : Fin (k0_t3_loop i).trips) : Fin 3 → Nat :=
  let c2_125 : Index := 2#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_124 : BitVec 32 := 512#32
  let v473 : BitVec 32 := Scalar.muli v280 c512_i32_124
  let v474 : BitVec 32 := v473
  let v475 : Index := Scalar.indexCast v474
  let c0_126 : Index := 0#32
  ![2, v475.toNat, 0]
def k0_mult29 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_129 : BitVec 32 := 512#32
  let v483 : BitVec 32 := Scalar.muli v280 c512_i32_129
  v483
def k0_off33 (i : grid0.Coords) (k0_t3 : Fin (k0_t3_loop i).trips) : Fin 2 → Nat :=
  let c0_130 : Index := 0#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_129 : BitVec 32 := 512#32
  let v483 : BitVec 32 := Scalar.muli v280 c512_i32_129
  let v484 : BitVec 32 := v483
  let v487 : Index := Scalar.indexCast v484
  ![0, v487.toNat]
def k0_mult30 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_133 : BitVec 32 := 512#32
  let v516 : BitVec 32 := Scalar.muli v280 c512_i32_133
  v516
def k0_off34 (i : grid0.Coords) (k0_t3 : Fin (k0_t3_loop i).trips) : Fin 3 → Nat :=
  let c3_134 : Index := 3#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_133 : BitVec 32 := 512#32
  let v516 : BitVec 32 := Scalar.muli v280 c512_i32_133
  let v517 : BitVec 32 := v516
  let v518 : Index := Scalar.indexCast v517
  let c0_135 : Index := 0#32
  ![3, v518.toNat, 0]
def k0_mult31 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_138 : BitVec 32 := 512#32
  let v526 : BitVec 32 := Scalar.muli v280 c512_i32_138
  v526
def k0_off35 (i : grid0.Coords) (k0_t3 : Fin (k0_t3_loop i).trips) : Fin 2 → Nat :=
  let c64_139 : Index := 64#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_138 : BitVec 32 := 512#32
  let v526 : BitVec 32 := Scalar.muli v280 c512_i32_138
  let v527 : BitVec 32 := v526
  let v530 : Index := Scalar.indexCast v527
  ![64, v530.toNat]
def k0_mult32 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_142 : BitVec 32 := 512#32
  let v559 : BitVec 32 := Scalar.muli v280 c512_i32_142
  v559
def k0_off36 (i : grid0.Coords) (k0_t3 : Fin (k0_t3_loop i).trips) : Fin 2 → Nat :=
  let c128_143 : Index := 128#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_142 : BitVec 32 := 512#32
  let v559 : BitVec 32 := Scalar.muli v280 c512_i32_142
  let v560 : BitVec 32 := v559
  let v563 : Index := Scalar.indexCast v560
  ![128, v563.toNat]
def k0_mult33 (i : grid0.Coords) (k0_t3 : Fin (k0_t3_loop i).trips) : BitVec 32 :=
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_146 : BitVec 32 := 512#32
  let v592 : BitVec 32 := Scalar.muli v280 c512_i32_146
  v592
def k0_off37 (i : grid0.Coords) (k0_t3 : Fin (k0_t3_loop i).trips) : Fin 2 → Nat :=
  let c192_147 : Index := 192#32
  let c2_i32_80 : BitVec 32 := 2#32
  let c0_i32_49 : BitVec 32 := 0#32
  let arg1 : BitVec 32 := BitVec.ofNat 32 (i 1).val
  let c2_i32_41 : BitVec 32 := 2#32
  let v177 : BitVec 32 := Scalar.muli arg1 c2_i32_41
  let c0_i32_43 : BitVec 32 := 0#32
  let v179 : BitVec 1 := Scalar.cmpi .sgt v177 c0_i32_43
  let v180 : BitVec 32 := Scalar.extui v179
  let c0_i32_44 : BitVec 32 := 0#32
  let v181 : BitVec 1 := Scalar.cmpi .slt v177 c0_i32_44
  let v182 : BitVec 32 := Scalar.extui v181
  let v183 : BitVec 32 := Scalar.subi v180 v182
  let c2_i32_42 : BitVec 32 := 2#32
  let c0_i32_45 : BitVec 32 := 0#32
  let v184 : BitVec 1 := Scalar.cmpi .sgt c2_i32_42 c0_i32_45
  let v185 : BitVec 32 := Scalar.extui v184
  let c0_i32_46 : BitVec 32 := 0#32
  let v186 : BitVec 1 := Scalar.cmpi .slt c2_i32_42 c0_i32_46
  let v187 : BitVec 32 := Scalar.extui v186
  let v188 : BitVec 32 := Scalar.subi v185 v187
  let v189 : BitVec 1 := Scalar.cmpi .ne v183 v188
  let v190 : BitVec 32 := Scalar.remsi v177 c2_i32_42
  let c0_i32_47 : BitVec 32 := 0#32
  let v191 : BitVec 1 := Scalar.cmpi .ne v190 c0_i32_47
  let v192 : BitVec 1 := Scalar.andi v189 v191
  let v178 : BitVec 32 := Scalar.divsi v177 c2_i32_42
  let c1_i32_48 : BitVec 32 := 1#32
  let v193 : BitVec 32 := Scalar.subi v178 c1_i32_48
  let v194 : BitVec 32 := Scalar.select v192 v193 v178
  let v195 : BitVec 32 := Scalar.subi v194 c0_i32_49
  let c1_i32_50 : BitVec 32 := 1#32
  let v197 : BitVec 32 := Scalar.divsi v195 c1_i32_50
  let v198 : BitVec 32 := Scalar.muli v197 c1_i32_50
  let v199 : BitVec 32 := Scalar.addi c0_i32_49 v198
  let c1_i32_52 : BitVec 32 := 1#32
  let arg10 : BitVec 32 := Scf.iv v199 c1_i32_52 k0_t3
  let v279 : BitVec 32 := Scalar.muli c2_i32_80 arg10
  let c1_i32_81 : BitVec 32 := 1#32
  let v280 : BitVec 32 := Scalar.addi v279 c1_i32_81
  let c512_i32_146 : BitVec 32 := 512#32
  let v592 : BitVec 32 := Scalar.muli v280 c512_i32_146
  let v593 : BitVec 32 := v592
  let v596 : Index := Scalar.indexCast v593
  ![192, v596.toNat]
def k0_cond2 (i : grid0.Coords) : BitVec 1 :=
  let arg1 : BitVec 32 := BitVec.ofNat 32 (i 1).val
  let c2_i32_41 : BitVec 32 := 2#32
  let v177 : BitVec 32 := Scalar.muli arg1 c2_i32_41
  let c2_i32_55 : BitVec 32 := 2#32
  let c0_i32_56 : BitVec 32 := 0#32
  let v204 : BitVec 1 := Scalar.cmpi .eq c2_i32_55 c0_i32_56
  let c1_i32_57 : BitVec 32 := 1#32
  let v205 : BitVec 32 := Scalar.select v204 c1_i32_57 c2_i32_55
  let v206 : BitVec 32 := Scalar.remsi v177 v205
  let c0_i32_59 : BitVec 32 := 0#32
  let v208 : BitVec 1 := Scalar.cmpi .slt v206 c0_i32_59
  let c0_i32_60 : BitVec 32 := 0#32
  let v209 : BitVec 1 := Scalar.cmpi .slt v205 c0_i32_60
  let v210 : BitVec 1 := Scalar.xori v208 v209
  let c0_i32_58 : BitVec 32 := 0#32
  let v207 : BitVec 1 := Scalar.cmpi .ne v206 c0_i32_58
  let v211 : BitVec 1 := Scalar.andi v210 v207
  let v212 : BitVec 32 := Scalar.addi v206 v205
  let v213 : BitVec 32 := Scalar.select v211 v212 v206
  let c1_i32_61 : BitVec 32 := 1#32
  let v214 : BitVec 1 := Scalar.cmpi .eq v213 c1_i32_61
  let v215 : BitVec 32 := Scalar.extui v214
  let c0_i32_62 : BitVec 32 := 0#32
  let v216 : BitVec 1 := Scalar.cmpi .ne v215 c0_i32_62
  v216

def k0_mult34 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32 : BitVec 32 := 512#32
  let v279 : BitVec 32 := Scalar.muli v278 c512_i32
  v279
def k0_off38 (i : grid0.Coords) : Fin 3 → Nat :=
  let c0_80 : Index := 0#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32 : BitVec 32 := 512#32
  let v279 : BitVec 32 := Scalar.muli v278 c512_i32
  let v280 : BitVec 32 := v279
  let v281 : Index := Scalar.indexCast v280
  let c0_81 : Index := 0#32
  ![0, v281.toNat, 0]
def k0_mult35 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_84 : BitVec 32 := 512#32
  let v289 : BitVec 32 := Scalar.muli v278 c512_i32_84
  v289
def k0_off39 (i : grid0.Coords) : Fin 3 → Nat :=
  let c1_85 : Index := 1#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_84 : BitVec 32 := 512#32
  let v289 : BitVec 32 := Scalar.muli v278 c512_i32_84
  let v290 : BitVec 32 := v289
  let v291 : Index := Scalar.indexCast v290
  let c0_86 : Index := 0#32
  ![1, v291.toNat, 0]
def k0_mult36 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_89 : BitVec 32 := 512#32
  let v299 : BitVec 32 := Scalar.muli v278 c512_i32_89
  v299
def k0_off40 (i : grid0.Coords) : Fin 3 → Nat :=
  let c2_90 : Index := 2#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_89 : BitVec 32 := 512#32
  let v299 : BitVec 32 := Scalar.muli v278 c512_i32_89
  let v300 : BitVec 32 := v299
  let v301 : Index := Scalar.indexCast v300
  let c0_91 : Index := 0#32
  ![2, v301.toNat, 0]
def k0_mult37 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_94 : BitVec 32 := 512#32
  let v309 : BitVec 32 := Scalar.muli v278 c512_i32_94
  v309
def k0_off41 (i : grid0.Coords) : Fin 2 → Nat :=
  let c0_95 : Index := 0#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_94 : BitVec 32 := 512#32
  let v309 : BitVec 32 := Scalar.muli v278 c512_i32_94
  let v310 : BitVec 32 := v309
  let v313 : Index := Scalar.indexCast v310
  ![0, v313.toNat]
def k0_mult38 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_98 : BitVec 32 := 512#32
  let v342 : BitVec 32 := Scalar.muli v278 c512_i32_98
  v342
def k0_off42 (i : grid0.Coords) : Fin 3 → Nat :=
  let c3_99 : Index := 3#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_98 : BitVec 32 := 512#32
  let v342 : BitVec 32 := Scalar.muli v278 c512_i32_98
  let v343 : BitVec 32 := v342
  let v344 : Index := Scalar.indexCast v343
  let c0_100 : Index := 0#32
  ![3, v344.toNat, 0]
def k0_mult39 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_103 : BitVec 32 := 512#32
  let v352 : BitVec 32 := Scalar.muli v278 c512_i32_103
  v352
def k0_off43 (i : grid0.Coords) : Fin 2 → Nat :=
  let c64 : Index := 64#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_103 : BitVec 32 := 512#32
  let v352 : BitVec 32 := Scalar.muli v278 c512_i32_103
  let v353 : BitVec 32 := v352
  let v356 : Index := Scalar.indexCast v353
  ![64, v356.toNat]
def k0_mult40 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_106 : BitVec 32 := 512#32
  let v385 : BitVec 32 := Scalar.muli v202 c512_i32_106
  v385
def k0_off44 (i : grid0.Coords) (c0_i32_53 : BitVec 32) : Fin 3 → Nat :=
  let c0_107 : Index := 0#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_106 : BitVec 32 := 512#32
  let v385 : BitVec 32 := Scalar.muli v202 c512_i32_106
  let v386 : BitVec 32 := v385
  let v387 : Index := Scalar.indexCast v386
  let c0_108 : Index := 0#32
  ![0, v387.toNat, 0]
def k0_mult41 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_114 : BitVec 32 := 512#32
  let v404 : BitVec 32 := Scalar.muli v278 c512_i32_114
  v404
def k0_off45 (i : grid0.Coords) : Fin 2 → Nat :=
  let c128 : Index := 128#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_114 : BitVec 32 := 512#32
  let v404 : BitVec 32 := Scalar.muli v278 c512_i32_114
  let v405 : BitVec 32 := v404
  let v408 : Index := Scalar.indexCast v405
  ![128, v408.toNat]
def k0_mult42 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_117 : BitVec 32 := 512#32
  let v437 : BitVec 32 := Scalar.muli v202 c512_i32_117
  v437
def k0_off46 (i : grid0.Coords) (c0_i32_53 : BitVec 32) : Fin 3 → Nat :=
  let c1_118 : Index := 1#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_117 : BitVec 32 := 512#32
  let v437 : BitVec 32 := Scalar.muli v202 c512_i32_117
  let v438 : BitVec 32 := v437
  let v439 : Index := Scalar.indexCast v438
  let c0_119 : Index := 0#32
  ![1, v439.toNat, 0]
def k0_mult43 (i : grid0.Coords) : BitVec 32 :=
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_125 : BitVec 32 := 512#32
  let v456 : BitVec 32 := Scalar.muli v278 c512_i32_125
  v456
def k0_off47 (i : grid0.Coords) : Fin 2 → Nat :=
  let c192 : Index := 192#32
  let arg1 : BitVec 32 := BitVec.ofNat 32 (i 1).val
  let c2_i32_41 : BitVec 32 := 2#32
  let v177 : BitVec 32 := Scalar.muli arg1 c2_i32_41
  let c1_i32_79 : BitVec 32 := 1#32
  let v278 : BitVec 32 := Scalar.subi v177 c1_i32_79
  let c512_i32_125 : BitVec 32 := 512#32
  let v456 : BitVec 32 := Scalar.muli v278 c512_i32_125
  let v457 : BitVec 32 := v456
  let v460 : Index := Scalar.indexCast v457
  ![192, v460.toNat]
def k0_mult44 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_128 : BitVec 32 := 512#32
  let v489 : BitVec 32 := Scalar.muli v202 c512_i32_128
  v489
def k0_off48 (i : grid0.Coords) (c0_i32_53 : BitVec 32) : Fin 3 → Nat :=
  let c2_129 : Index := 2#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_128 : BitVec 32 := 512#32
  let v489 : BitVec 32 := Scalar.muli v202 c512_i32_128
  let v490 : BitVec 32 := v489
  let v491 : Index := Scalar.indexCast v490
  let c0_130 : Index := 0#32
  ![2, v491.toNat, 0]
def k0_mult45 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_136 : BitVec 32 := 512#32
  let v508 : BitVec 32 := Scalar.muli v202 c512_i32_136
  v508
def k0_off49 (i : grid0.Coords) (c0_i32_53 : BitVec 32) : Fin 2 → Nat :=
  let c0_137 : Index := 0#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_136 : BitVec 32 := 512#32
  let v508 : BitVec 32 := Scalar.muli v202 c512_i32_136
  let v509 : BitVec 32 := v508
  let v512 : Index := Scalar.indexCast v509
  ![0, v512.toNat]
def k0_mult46 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_140 : BitVec 32 := 512#32
  let v541 : BitVec 32 := Scalar.muli v202 c512_i32_140
  v541
def k0_off50 (i : grid0.Coords) (c0_i32_53 : BitVec 32) : Fin 3 → Nat :=
  let c3_141 : Index := 3#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_140 : BitVec 32 := 512#32
  let v541 : BitVec 32 := Scalar.muli v202 c512_i32_140
  let v542 : BitVec 32 := v541
  let v543 : Index := Scalar.indexCast v542
  let c0_142 : Index := 0#32
  ![3, v543.toNat, 0]
def k0_mult47 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_148 : BitVec 32 := 512#32
  let v560 : BitVec 32 := Scalar.muli v202 c512_i32_148
  v560
def k0_off51 (i : grid0.Coords) (c0_i32_53 : BitVec 32) : Fin 2 → Nat :=
  let c64_149 : Index := 64#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_148 : BitVec 32 := 512#32
  let v560 : BitVec 32 := Scalar.muli v202 c512_i32_148
  let v561 : BitVec 32 := v560
  let v564 : Index := Scalar.indexCast v561
  ![64, v564.toNat]
def k0_mult48 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_152 : BitVec 32 := 512#32
  let v593 : BitVec 32 := Scalar.muli v203 c512_i32_152
  v593
def k0_mult49 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_160 : BitVec 32 := 512#32
  let v614 : BitVec 32 := Scalar.muli v202 c512_i32_160
  v614
def k0_off52 (i : grid0.Coords) (c0_i32_53 : BitVec 32) : Fin 2 → Nat :=
  let c128_161 : Index := 128#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_160 : BitVec 32 := 512#32
  let v614 : BitVec 32 := Scalar.muli v202 c512_i32_160
  let v615 : BitVec 32 := v614
  let v618 : Index := Scalar.indexCast v615
  ![128, v618.toNat]
def k0_mult50 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_164 : BitVec 32 := 512#32
  let v647 : BitVec 32 := Scalar.muli v203 c512_i32_164
  v647
def k0_mult51 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_172 : BitVec 32 := 512#32
  let v668 : BitVec 32 := Scalar.muli v202 c512_i32_172
  v668
def k0_off53 (i : grid0.Coords) (c0_i32_53 : BitVec 32) : Fin 2 → Nat :=
  let c192_173 : Index := 192#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_172 : BitVec 32 := 512#32
  let v668 : BitVec 32 := Scalar.muli v202 c512_i32_172
  let v669 : BitVec 32 := v668
  let v672 : Index := Scalar.indexCast v669
  ![192, v672.toNat]
def k0_mult52 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_176 : BitVec 32 := 512#32
  let v701 : BitVec 32 := Scalar.muli v203 c512_i32_176
  v701
def k0_mult53 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_184 : BitVec 32 := 512#32
  let v722 : BitVec 32 := Scalar.muli v203 c512_i32_184
  v722
def k0_mult54 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_188 : BitVec 32 := 512#32
  let v762 : BitVec 32 := Scalar.muli v203 c512_i32_188
  v762
def k0_mult55 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_196 : BitVec 32 := 512#32
  let v783 : BitVec 32 := Scalar.muli v203 c512_i32_196
  v783
def k0_mult56 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_200 : BitVec 32 := 512#32
  let v823 : BitVec 32 := Scalar.muli v203 c512_i32_200
  v823
def k0_mult57 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_204 : BitVec 32 := 512#32
  let v863 : BitVec 32 := Scalar.muli v203 c512_i32_204
  v863
def k0_mult58 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32 : BitVec 32 := 512#32
  let v278 : BitVec 32 := Scalar.muli v202 c512_i32
  v278
def k0_off54 (i : grid0.Coords) (c0_i32_53 : BitVec 32) : Fin 3 → Nat :=
  let c0_79 : Index := 0#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32 : BitVec 32 := 512#32
  let v278 : BitVec 32 := Scalar.muli v202 c512_i32
  let v279 : BitVec 32 := v278
  let v280 : Index := Scalar.indexCast v279
  let c0_80 : Index := 0#32
  ![0, v280.toNat, 0]
def k0_mult59 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_86 : BitVec 32 := 512#32
  let v297 : BitVec 32 := Scalar.muli v202 c512_i32_86
  v297
def k0_off55 (i : grid0.Coords) (c0_i32_53 : BitVec 32) : Fin 3 → Nat :=
  let c1_87 : Index := 1#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_86 : BitVec 32 := 512#32
  let v297 : BitVec 32 := Scalar.muli v202 c512_i32_86
  let v298 : BitVec 32 := v297
  let v299 : Index := Scalar.indexCast v298
  let c0_88 : Index := 0#32
  ![1, v299.toNat, 0]
def k0_mult60 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_94 : BitVec 32 := 512#32
  let v316 : BitVec 32 := Scalar.muli v202 c512_i32_94
  v316
def k0_off56 (i : grid0.Coords) (c0_i32_53 : BitVec 32) : Fin 3 → Nat :=
  let c2_95 : Index := 2#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_94 : BitVec 32 := 512#32
  let v316 : BitVec 32 := Scalar.muli v202 c512_i32_94
  let v317 : BitVec 32 := v316
  let v318 : Index := Scalar.indexCast v317
  let c0_96 : Index := 0#32
  ![2, v318.toNat, 0]
def k0_mult61 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_102 : BitVec 32 := 512#32
  let v335 : BitVec 32 := Scalar.muli v202 c512_i32_102
  v335
def k0_off57 (i : grid0.Coords) (c0_i32_53 : BitVec 32) : Fin 2 → Nat :=
  let c0_103 : Index := 0#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_102 : BitVec 32 := 512#32
  let v335 : BitVec 32 := Scalar.muli v202 c512_i32_102
  let v336 : BitVec 32 := v335
  let v339 : Index := Scalar.indexCast v336
  ![0, v339.toNat]
def k0_mult62 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_106 : BitVec 32 := 512#32
  let v368 : BitVec 32 := Scalar.muli v202 c512_i32_106
  v368
def k0_off58 (i : grid0.Coords) (c0_i32_53 : BitVec 32) : Fin 3 → Nat :=
  let c3_107 : Index := 3#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_106 : BitVec 32 := 512#32
  let v368 : BitVec 32 := Scalar.muli v202 c512_i32_106
  let v369 : BitVec 32 := v368
  let v370 : Index := Scalar.indexCast v369
  let c0_108 : Index := 0#32
  ![3, v370.toNat, 0]
def k0_mult63 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_114 : BitVec 32 := 512#32
  let v387 : BitVec 32 := Scalar.muli v202 c512_i32_114
  v387
def k0_off59 (i : grid0.Coords) (c0_i32_53 : BitVec 32) : Fin 2 → Nat :=
  let c64 : Index := 64#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_114 : BitVec 32 := 512#32
  let v387 : BitVec 32 := Scalar.muli v202 c512_i32_114
  let v388 : BitVec 32 := v387
  let v391 : Index := Scalar.indexCast v388
  ![64, v391.toNat]
def k0_mult64 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_117 : BitVec 32 := 512#32
  let v420 : BitVec 32 := Scalar.muli v203 c512_i32_117
  v420
def k0_mult65 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_125 : BitVec 32 := 512#32
  let v441 : BitVec 32 := Scalar.muli v202 c512_i32_125
  v441
def k0_off60 (i : grid0.Coords) (c0_i32_53 : BitVec 32) : Fin 2 → Nat :=
  let c128 : Index := 128#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_125 : BitVec 32 := 512#32
  let v441 : BitVec 32 := Scalar.muli v202 c512_i32_125
  let v442 : BitVec 32 := v441
  let v445 : Index := Scalar.indexCast v442
  ![128, v445.toNat]
def k0_mult66 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_128 : BitVec 32 := 512#32
  let v474 : BitVec 32 := Scalar.muli v203 c512_i32_128
  v474
def k0_mult67 (i : grid0.Coords) : BitVec 32 :=
  let arg1 : BitVec 32 := BitVec.ofNat 32 (i 1).val
  let c2_i32_41 : BitVec 32 := 2#32
  let v177 : BitVec 32 := Scalar.muli arg1 c2_i32_41
  let c0_i32_53 : BitVec 32 := 0#32
  let v202 : BitVec 32 := Scalar.addi v177 c0_i32_53
  let c512_i32_136 : BitVec 32 := 512#32
  let v495 : BitVec 32 := Scalar.muli v202 c512_i32_136
  v495
def k0_off61 (i : grid0.Coords) (c0_i32_53 : BitVec 32) : Fin 2 → Nat :=
  let c192 : Index := 192#32
  let arg1 : BitVec 32 := BitVec.ofNat 32 (i 1).val
  let c2_i32_41 : BitVec 32 := 2#32
  let v177 : BitVec 32 := Scalar.muli arg1 c2_i32_41
  let v202 : BitVec 32 := Scalar.addi v177 c0_i32_53
  let c512_i32_136 : BitVec 32 := 512#32
  let v495 : BitVec 32 := Scalar.muli v202 c512_i32_136
  let v496 : BitVec 32 := v495
  let v499 : Index := Scalar.indexCast v496
  ![192, v499.toNat]
def k0_mult68 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_139 : BitVec 32 := 512#32
  let v528 : BitVec 32 := Scalar.muli v203 c512_i32_139
  v528
def k0_mult69 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_147 : BitVec 32 := 512#32
  let v549 : BitVec 32 := Scalar.muli v203 c512_i32_147
  v549
def k0_mult70 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_151 : BitVec 32 := 512#32
  let v589 : BitVec 32 := Scalar.muli v203 c512_i32_151
  v589
def k0_mult71 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_159 : BitVec 32 := 512#32
  let v610 : BitVec 32 := Scalar.muli v203 c512_i32_159
  v610
def k0_mult72 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_163 : BitVec 32 := 512#32
  let v650 : BitVec 32 := Scalar.muli v203 c512_i32_163
  v650
def k0_mult73 (i : grid0.Coords) : BitVec 32 :=
  let arg1 : BitVec 32 := BitVec.ofNat 32 (i 1).val
  let c2_i32_41 : BitVec 32 := 2#32
  let v177 : BitVec 32 := Scalar.muli arg1 c2_i32_41
  let c1_i32_54 : BitVec 32 := 1#32
  let v203 : BitVec 32 := Scalar.addi v177 c1_i32_54
  let c512_i32_167 : BitVec 32 := 512#32
  let v690 : BitVec 32 := Scalar.muli v203 c512_i32_167
  v690
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
variable {F : FTy → Type} [FloatOps F] [Named F]
def κ : String → Option EReal := fun
  | "log2e" => some (((Real.log 2)⁻¹ : ℝ) : EReal)
  | "mask" => some ⊥
  | "scale" => some ((8⁻¹ * (Real.log 2)⁻¹ : ℝ) : EReal)
  | _ => none
-- ==== Reference3Ideal.lean ====
abbrev S256x32768 : Shape := ⟨2, ![256, 32768]⟩
abbrev S32768x256 : Shape := ⟨2, ![32768, 256]⟩
abbrev S8x8x4096 : Shape := ⟨3, ![8, 8, 4096]⟩
abbrev S256 : Shape := ⟨1, ![256]⟩
abbrev S8x4096x4x64 : Shape := ⟨4, ![8, 4096, 4, 64]⟩
abbrev S8x4x4096x64 : Shape := ⟨4, ![8, 4, 4096, 64]⟩
abbrev S8x4x4096 : Shape := ⟨3, ![8, 4, 4096]⟩
abbrev S4096 : Shape := ⟨1, ![4096]⟩
abbrev S8x4x4096x4096 : Shape := ⟨4, ![8, 4, 4096, 4096]⟩
abbrev S_ : Shape := ⟨0, ![]⟩
abbrev S8x4x4096x1 : Shape := ⟨4, ![8, 4, 4096, 1]⟩
abbrev S8x4x1x4096 : Shape := ⟨4, ![8, 4, 1, 4096]⟩
abbrev S1x4096 : Shape := ⟨2, ![1, 4096]⟩
abbrev S4096x1 : Shape := ⟨2, ![4096, 1]⟩
abbrev S4096x4096 : Shape := ⟨2, ![4096, 4096]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S32768x256, .bf16⟩
  | .hbm, ⟨2, _⟩ => ⟨S32768x256, .bf16⟩
  | .hbm, ⟨3, _⟩ => ⟨S256x32768, .bf16⟩
  | .hbm, ⟨4, _⟩ => ⟨S8x8x4096, .f32⟩
  | .hbm, ⟨5, _⟩ => ⟨S256, .f32⟩
  | .hbm, ⟨6, _⟩ => ⟨S32768x256, .f32⟩
  | .hbm, ⟨7, _⟩ => ⟨S8x4096x4x64, .f32⟩
  | .hbm, ⟨8, _⟩ => ⟨S8x4x4096x64, .f32⟩
  | .hbm, ⟨9, _⟩ => ⟨S32768x256, .f32⟩
  | .hbm, ⟨10, _⟩ => ⟨S8x4096x4x64, .f32⟩
  | .hbm, ⟨11, _⟩ => ⟨S8x4x4096x64, .f32⟩
  | .hbm, ⟨12, _⟩ => ⟨S256x32768, .f32⟩
  | .hbm, ⟨13, _⟩ => ⟨S32768x256, .f32⟩
  | .hbm, ⟨14, _⟩ => ⟨S8x4096x4x64, .f32⟩
  | .hbm, ⟨15, _⟩ => ⟨S8x4x4096x64, .f32⟩
  | .hbm, ⟨16, _⟩ => ⟨S8x4x4096, .f32⟩
  | .hbm, ⟨17, _⟩ => ⟨S4096, .i32⟩
  | .hbm, ⟨18, _⟩ => ⟨S8x4x4096x4096, .f32⟩
  | .hbm, ⟨19, _⟩ => ⟨S_, .f32⟩
  | .hbm, ⟨20, _⟩ => ⟨S8x4x4096x4096, .f32⟩
  | .hbm, ⟨21, _⟩ => ⟨S8x4x4096x4096, .f32⟩
  | .hbm, ⟨22, _⟩ => ⟨S8x4x4096x1, .f32⟩
  | .hbm, ⟨23, _⟩ => ⟨S8x4x4096x4096, .f32⟩
  | .hbm, ⟨24, _⟩ => ⟨S8x4x4096x4096, .f32⟩
  | .hbm, ⟨25, _⟩ => ⟨S8x4x1x4096, .f32⟩
  | .hbm, ⟨26, _⟩ => ⟨S8x4x4096x4096, .f32⟩
  | .hbm, ⟨27, _⟩ => ⟨S8x4x4096x4096, .f32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S8x4x4096x4096, .i1⟩
  | .hbm, ⟨36, _⟩ => ⟨S8x4x4096x4096, .f32⟩
  | .hbm, ⟨37, _⟩ => ⟨S8x4x4096x4096, .f32⟩
  | .hbm, ⟨38, _⟩ => ⟨S_, .f32⟩
  | .hbm, ⟨39, _⟩ => ⟨S8x4x4096, .f32⟩
  | .hbm, ⟨40, _⟩ => ⟨S_, .f32⟩
  | .hbm, ⟨41, _⟩ => ⟨S8x4x4096, .f32⟩
  | .hbm, ⟨42, _⟩ => ⟨S8x4x4096, .f32⟩
  | .hbm, ⟨43, _⟩ => ⟨S8x4x4096x1, .f32⟩
  | .hbm, ⟨44, _⟩ => ⟨S8x4x4096x4096, .f32⟩
  | .hbm, ⟨45, _⟩ => ⟨S8x4x4096x4096, .f32⟩
  | .hbm, ⟨46, _⟩ => ⟨S8x4x4096x4096, .f32⟩
  | .hbm, ⟨47, _⟩ => ⟨S_, .f32⟩
  | .hbm, ⟨48, _⟩ => ⟨S8x4x4096, .f32⟩
  | .hbm, ⟨49, _⟩ => ⟨S8x4x4096x1, .f32⟩
  | .hbm, ⟨50, _⟩ => ⟨S8x4x4096x4096, .f32⟩
  | .hbm, ⟨51, _⟩ => ⟨S8x4x4096x4096, .f32⟩
  | .hbm, ⟨52, _⟩ => ⟨S8x4x4096x64, .f32⟩
  | .hbm, ⟨53, _⟩ => ⟨S8x4x4096x64, .f32⟩
  | .hbm, ⟨54, _⟩ => ⟨S_, .f32⟩
  | .hbm, ⟨55, _⟩ => ⟨S8x4x4096, .f32⟩
  | .hbm, ⟨56, _⟩ => ⟨S8x4x4096x1, .f32⟩
  | .hbm, ⟨57, _⟩ => ⟨S_, .f32⟩
  | .hbm, ⟨58, _⟩ => ⟨S8x4x4096x1, .f32⟩
  | .hbm, ⟨59, _⟩ => ⟨S8x4x4096x1, .f32⟩
  | .hbm, ⟨60, _⟩ => ⟨S_, .f32⟩
  | .hbm, ⟨61, _⟩ => ⟨S8x4x4096x1, .f32⟩
  | .hbm, ⟨62, _⟩ => ⟨S8x4x4096x1, .f32⟩
  | .hbm, ⟨63, _⟩ => ⟨S8x4x4096x1, .f32⟩
  | .hbm, ⟨64, _⟩ => ⟨S8x4x4096x64, .f32⟩
  | .hbm, ⟨65, _⟩ => ⟨S8x4x4096x64, .f32⟩
  | .hbm, ⟨66, _⟩ => ⟨S8x4096x4x64, .f32⟩
  | .hbm, ⟨67, _⟩ => ⟨S32768x256, .f32⟩
  | .hbm, ⟨68, _⟩ => ⟨S1x256, .f32⟩
  | .hbm, ⟨69, _⟩ => ⟨S32768x256, .f32⟩
  | .hbm, ⟨70, _⟩ => ⟨S32768x256, .f32⟩
  | .hbm, ⟨71, _⟩ => ⟨S32768x256, .bf16⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel4.lean ====
abbrev S2x256 : Shape := ⟨2, ![2, 256]⟩
abbrev S1x256 : Shape := ⟨2, ![1, 256]⟩

abbrev nBuf : Space → Nat
  | .hbm => 2
  | .vmem => 2
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .local _ .vmem, ⟨0, _⟩ => ⟨S2x256, .f32⟩
  | .local _ .vmem, ⟨1, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference4Ideal.lean ====
abbrev S2x256 : Shape := ⟨2, ![2, 256]⟩
abbrev S_ : Shape := ⟨0, ![]⟩
abbrev S256 : Shape := ⟨1, ![256]⟩
abbrev S1x256 : Shape := ⟨2, ![1, 256]⟩

abbrev nBuf : Space → Nat
  | .hbm => 24
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S_, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S2x256, .f32⟩
  | .hbm, ⟨8, _⟩ => ⟨S2x256, .f32⟩
  | .hbm, ⟨9, _⟩ => ⟨S2x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S_, .f32⟩
  | .hbm, ⟨17, _⟩ => ⟨S2x256, .f32⟩
  | .hbm, ⟨18, _⟩ => ⟨S1x256, .f32⟩
  | .hbm, ⟨19, _⟩ => ⟨S2x256, .f32⟩
  | .hbm, ⟨20, _⟩ => ⟨S2x256, .f32⟩
  | .hbm, ⟨21, _⟩ => ⟨S_, .f32⟩
  | .hbm, ⟨22, _⟩ => ⟨S2x256, .f32⟩
  | .hbm, ⟨23, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S16x64 : Shape := ⟨2, ![16, 64]⟩
abbrev S16x64x16 : Shape := ⟨3, ![16, 64, 16]⟩
abbrev S16x16x64 : Shape := ⟨3, ![16, 16, 64]⟩
abbrev S16 : Shape := ⟨1, ![16]⟩
abbrev S256x16 : Shape := ⟨2, ![256, 16]⟩
abbrev S1024x16 : Shape := ⟨2, ![1024, 16]⟩
abbrev S16x1 : Shape := ⟨2, ![16, 1]⟩
abbrev S16x16x1 : Shape := ⟨3, ![16, 16, 1]⟩
abbrev S256x1 : Shape := ⟨2, ![256, 1]⟩
abbrev S256x64 : Shape := ⟨2, ![256, 64]⟩
abbrev S1024 : Shape := ⟨1, ![1024]⟩
abbrev S1x1024 : Shape := ⟨2, ![1, 1024]⟩
abbrev S2x1024 : Shape := ⟨2, ![2, 1024]⟩
abbrev S256x1x64 : Shape := ⟨3, ![256, 1, 64]⟩
abbrev S256x16x1 : Shape := ⟨3, ![256, 16, 1]⟩
abbrev S256x16x64 : Shape := ⟨3, ![256, 16, 64]⟩
abbrev S256x1024 : Shape := ⟨2, ![256, 1024]⟩
abbrev S256x2048 : Shape := ⟨2, ![256, 2048]⟩
abbrev S1024x1x16 : Shape := ⟨3, ![1024, 1, 16]⟩
abbrev S1024x16x1 : Shape := ⟨3, ![1024, 16, 1]⟩
abbrev S1024x16x16 : Shape := ⟨3, ![1024, 16, 16]⟩
abbrev S1024x256 : Shape := ⟨2, ![1024, 256]⟩
abbrev S2048x256 : Shape := ⟨2, ![2048, 256]⟩

abbrev nBuf : Space → Nat
  | .hbm => 65
  | .vmem => 9
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64x16, .f32⟩
  | .hbm, ⟨3, _⟩ => ⟨S16x64x16, .f32⟩
  | .hbm, ⟨4, _⟩ => ⟨S16x16x64, .f32⟩
  | .hbm, ⟨5, _⟩ => ⟨S16x16x64, .f32⟩
  | .hbm, ⟨6, _⟩ => ⟨S16, .f32⟩
  | .hbm, ⟨7, _⟩ => ⟨S256x16, .f32⟩
  | .hbm, ⟨8, _⟩ => ⟨S1024x16, .f32⟩
  | .hbm, ⟨9, _⟩ => ⟨S16x1, .f32⟩
  | .hbm, ⟨10, _⟩ => ⟨S16x16x1, .f32⟩
  | .hbm, ⟨11, _⟩ => ⟨S256x1, .f32⟩
  | .hbm, ⟨12, _⟩ => ⟨S256x64, .f32⟩
  | .hbm, ⟨13, _⟩ => ⟨S16x16x64, .f32⟩
  | .hbm, ⟨14, _⟩ => ⟨S256x64, .f32⟩
  | .hbm, ⟨15, _⟩ => ⟨S16x16x64, .f32⟩
  | .hbm, ⟨16, _⟩ => ⟨S256x64, .f32⟩
  | .hbm, ⟨17, _⟩ => ⟨S16x16x64, .f32⟩
  | .hbm, ⟨18, _⟩ => ⟨S256x64, .f32⟩
  | .hbm, ⟨19, _⟩ => ⟨S16x16x64, .f32⟩
  | .hbm, ⟨20, _⟩ => ⟨S256x64, .f32⟩
  | .hbm, ⟨21, _⟩ => ⟨S256x64, .f32⟩
  | .hbm, ⟨22, _⟩ => ⟨S256x64, .f32⟩
  | .hbm, ⟨23, _⟩ => ⟨S256x64, .f32⟩
  | .hbm, ⟨24, _⟩ => ⟨S256x64, .f32⟩
  | .hbm, ⟨25, _⟩ => ⟨S16x64, .f32⟩
  | .hbm, ⟨26, _⟩ => ⟨S1024, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S2x1024, .f32⟩
  | .hbm, ⟨32, _⟩ => ⟨S256x1x64, .f32⟩
  | .hbm, ⟨33, _⟩ => ⟨S256x16x1, .f32⟩
  | .hbm, ⟨34, _⟩ => ⟨S256x16x64, .f32⟩
  | .hbm, ⟨35, _⟩ => ⟨S256x16x64, .f32⟩
  | .hbm, ⟨36, _⟩ => ⟨S256x16x64, .f32⟩
  | .hbm, ⟨37, _⟩ => ⟨S256x1024, .f32⟩
  | .hbm, ⟨38, _⟩ => ⟨S256x1x64, .f32⟩
  | .hbm, ⟨39, _⟩ => ⟨S256x16x1, .f32⟩
  | .hbm, ⟨40, _⟩ => ⟨S256x16x64, .f32⟩
  | .hbm, ⟨41, _⟩ => ⟨S256x16x64, .f32⟩
  | .hbm, ⟨42, _⟩ => ⟨S256x16x64, .f32⟩
  | .hbm, ⟨43, _⟩ => ⟨S256x1024, .f32⟩
  | .hbm, ⟨44, _⟩ => ⟨S256x2048, .f32⟩
  | .hbm, ⟨45, _⟩ => ⟨S256x2048, .bf16⟩
  | .hbm, ⟨46, _⟩ => ⟨S16x64x16, .f32⟩
  | .hbm, ⟨47, _⟩ => ⟨S1024x16, .f32⟩
  | .hbm, ⟨48, _⟩ => ⟨S1024x1x16, .f32⟩
  | .hbm, ⟨49, _⟩ => ⟨S1024x16x1, .f32⟩
  | .hbm, ⟨50, _⟩ => ⟨S1024x16x16, .f32⟩
  | .hbm, ⟨51, _⟩ => ⟨S1024x16x16, .f32⟩
  | .hbm, ⟨52, _⟩ => ⟨S1024x16x16, .f32⟩
  | .hbm, ⟨53, _⟩ => ⟨S1024x256, .f32⟩
  | .hbm, ⟨54, _⟩ => ⟨S16x64x16, .f32⟩
  | .hbm, ⟨55, _⟩ => ⟨S1024x16, .f32⟩
  | .hbm, ⟨56, _⟩ => ⟨S1024x1x16, .f32⟩
  | .hbm, ⟨57, _⟩ => ⟨S1024x16x1, .f32⟩
  | .hbm, ⟨58, _⟩ => ⟨S1024x16x16, .f32⟩
  | .hbm, ⟨59, _⟩ => ⟨S1024x16x16, .f32⟩
  | .hbm, ⟨60, _⟩ => ⟨S1024x16x16, .f32⟩
  | .hbm, ⟨61, _⟩ => ⟨S1024x256, .f32⟩
  | .hbm, ⟨62, _⟩ => ⟨S1024x256, .f32⟩
  | .hbm, ⟨63, _⟩ => ⟨S2048x256, .f32⟩
  | .hbm, ⟨64, _⟩ => ⟨S2048x256, .bf16⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference5Ideal.lean ====
abbrev S16x64 : Shape := ⟨2, ![16, 64]⟩
abbrev S16x64x16 : Shape := ⟨3, ![16, 64, 16]⟩
abbrev S16x16x64 : Shape := ⟨3, ![16, 16, 64]⟩
abbrev S16 : Shape := ⟨1, ![16]⟩
abbrev S_ : Shape := ⟨0, ![]⟩
abbrev S16x1 : Shape := ⟨2, ![16, 1]⟩
abbrev S16x64x1 : Shape := ⟨3, ![16, 64, 1]⟩
abbrev S1x16 : Shape := ⟨2, ![1, 16]⟩
abbrev S16x16 : Shape := ⟨2, ![16, 16]⟩
abbrev S1024 : Shape := ⟨1, ![1024]⟩
abbrev S1x1024 : Shape := ⟨2, ![1, 1024]⟩
abbrev S2x1024 : Shape := ⟨2, ![2, 1024]⟩
abbrev S16x1x16x1 : Shape := ⟨4, ![16, 1, 16, 1]⟩
abbrev S16x16x1x64 : Shape := ⟨4, ![16, 16, 1, 64]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩

abbrev nBuf : Space → Nat
  | .hbm => 111
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64x16, .f32⟩
  | .hbm, ⟨3, _⟩ => ⟨S16x64x16, .f32⟩
  | .hbm, ⟨4, _⟩ => ⟨S16x16x64, .f32⟩
  | .hbm, ⟨5, _⟩ => ⟨S16x16x64, .f32⟩
  | .hbm, ⟨6, _⟩ => ⟨S16, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16, .f32⟩
  | .hbm, ⟨11, _⟩ => ⟨S16x1, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S16x64x1, .f32⟩
  | .hbm, ⟨41, _⟩ => ⟨S16x64x16, .f32⟩
  | .hbm, ⟨42, _⟩ => ⟨S16x64x16, .f32⟩
  | .hbm, ⟨43, _⟩ => ⟨S16x64x1, .f32⟩
  | .hbm, ⟨44, _⟩ => ⟨S16x64x16, .f32⟩
  | .hbm, ⟨45, _⟩ => ⟨S16x64x16, .f32⟩
  | .hbm, ⟨46, _⟩ => ⟨S16x64x16, .f32⟩
  | .hbm, ⟨47, _⟩ => ⟨S16x64x1, .f32⟩
  | .hbm, ⟨48, _⟩ => ⟨S16x64x16, .f32⟩
  | .hbm, ⟨49, _⟩ => ⟨S16x64x16, .f32⟩
  | .hbm, ⟨50, _⟩ => ⟨S16x64x1, .f32⟩
  | .hbm, ⟨51, _⟩ => ⟨S16x64x16, .f32⟩
  | .hbm, ⟨52, _⟩ => ⟨S16x64x16, .f32⟩
  | .hbm, ⟨53, _⟩ => ⟨S16x64x16, .f32⟩
  | .hbm, ⟨54, _⟩ => ⟨S16, .i32⟩
  | .hbm, ⟨55, _⟩ => ⟨S16x1, .i32⟩
  | .hbm, ⟨56, _⟩ => ⟨S16, .i32⟩
  | .hbm, ⟨57, _⟩ => ⟨S1x16, .i32⟩
  | .hbm, ⟨58, _⟩ => ⟨S16x16, .i32⟩
  | .hbm, ⟨59, _⟩ => ⟨S16x16, .i32⟩
  | .hbm, ⟨60, _⟩ => ⟨S16x16, .i1⟩
  | .hbm, ⟨61, _⟩ => ⟨S1024, .f32⟩
  | .hbm, ⟨62, _⟩ => ⟨S1024, .f32⟩
  | .hbm, ⟨63, _⟩ => ⟨S1x1024, .f32⟩
  | .hbm, ⟨64, _⟩ => ⟨S1x1024, .f32⟩
  | .hbm, ⟨65, _⟩ => ⟨S2x1024, .f32⟩
  | .hbm, ⟨66, _⟩ => ⟨S16x1x16x1, .i1⟩
  | .hbm, ⟨67, _⟩ => ⟨S16x16x64, .f32⟩
  | .hbm, ⟨68, _⟩ => ⟨S16x16x1x64, .f32⟩
  | .hbm, ⟨69, _⟩ => ⟨S_, .f32⟩
  | .hbm, ⟨70, _⟩ => ⟨S_, .f32⟩
  | .hbm, ⟨71, _⟩ => ⟨S16x16x16x64, .i1⟩
  | .hbm, ⟨72, _⟩ => ⟨S16x16x16x64, .f32⟩
  | .hbm, ⟨73, _⟩ => ⟨S16x16x16x64, .f32⟩
  | .hbm, ⟨74, _⟩ => ⟨S16x16x16x64, .f32⟩
  | .hbm, ⟨75, _⟩ => ⟨S256x1024, .f32⟩
  | .hbm, ⟨76, _⟩ => ⟨S16x1x16x1, .i1⟩
  | .hbm, ⟨77, _⟩ => ⟨S16x16x64, .f32⟩
  | .hbm, ⟨78, _⟩ => ⟨S16x16x1x64, .f32⟩
  | .hbm, ⟨79, _⟩ => ⟨S_, .f32⟩
  | .hbm, ⟨80, _⟩ => ⟨S_, .f32⟩
  | .hbm, ⟨81, _⟩ => ⟨S16x16x16x64, .i1⟩
  | .hbm, ⟨82, _⟩ => ⟨S16x16x16x64, .f32⟩
  | .hbm, ⟨83, _⟩ => ⟨S16x16x16x64, .f32⟩
  | .hbm, ⟨84, _⟩ => ⟨S16x16x16x64, .f32⟩
  | .hbm, ⟨85, _⟩ => ⟨S256x1024, .f32⟩
  | .hbm, ⟨86, _⟩ => ⟨S256x2048, .f32⟩
  | .hbm, ⟨87, _⟩ => ⟨S256x2048, .bf16⟩
  | .hbm, ⟨88, _⟩ => ⟨S16x1x16x1, .i1⟩
  | .hbm, ⟨89, _⟩ => ⟨S16x64x16, .f32⟩
  | .hbm, ⟨90, _⟩ => ⟨S16x64x1x16, .f32⟩
  | .hbm, ⟨91, _⟩ => ⟨S_, .f32⟩
  | .hbm, ⟨92, _⟩ => ⟨S_, .f32⟩
  | .hbm, ⟨93, _⟩ => ⟨S16x64x16x16, .i1⟩
  | .hbm, ⟨94, _⟩ => ⟨S16x64x16x16, .f32⟩
  | .hbm, ⟨95, _⟩ => ⟨S16x64x16x16, .f32⟩
  | .hbm, ⟨96, _⟩ => ⟨S16x64x16x16, .f32⟩
  | .hbm, ⟨97, _⟩ => ⟨S1024x256, .f32⟩
  | .hbm, ⟨98, _⟩ => ⟨S16x1x16x1, .i1⟩
  | .hbm, ⟨99, _⟩ => ⟨S16x64x16, .f32⟩
  | .hbm, ⟨100, _⟩ => ⟨S16x64x1x16, .f32⟩
  | .hbm, ⟨101, _⟩ => ⟨S_, .f32⟩
  | .hbm, ⟨102, _⟩ => ⟨S_, .f32⟩
  | .hbm, ⟨103, _⟩ => ⟨S16x64x16x16, .i1⟩
  | .hbm, ⟨104, _⟩ => ⟨S16x64x16x16, .f32⟩
  | .hbm, ⟨105, _⟩ => ⟨S16x64x16x16, .f32⟩
  | .hbm, ⟨106, _⟩ => ⟨S16x64x16x16, .f32⟩
  | .hbm, ⟨107, _⟩ => ⟨S1024x256, .f32⟩
  | .hbm, ⟨108, _⟩ => ⟨S1024x256, .f32⟩
  | .hbm, ⟨109, _⟩ => ⟨S2048x256, .f32⟩
  | .hbm, ⟨110, _⟩ => ⟨S2048x256, .bf16⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_2 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_3 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_4 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_5 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== Proof.Rows.lean ====
module

public import Idealize.ShloMosaic.Lib.Pointwise

@[expose] public section

/-! The end of a layer as a function of ONE row: the joined outputs of the mixers in that row, the row of the residual stream, and the
    weights, over the extended reals. Each program is shown to compute these functions row by row. -/

noncomputable section

namespace Cert.Layer

open Idealize.ShloMosaic
open scoped BigOperators

/-- A row times a matrix, at one column. -/
def rowDot {n : ℕ} {k : Type} (x : Fin n → EReal) (w : Fin n → k → EReal) (j : k) : EReal := ∑ i, x i * w i j

/-- The reciprocal root of a row's mean square (with the small constant under the root), a row of 1024 entries. -/
def invRms (x : Fin 1024 → EReal) : EReal :=
  Ideal.rsqrt (Ideal.div (∑ k, x k * x k) (Ideal.ofBits .f32 0x44800000#32) + Ideal.ofBits .f32 0x358637BD#32)

/-- A row divided by its root mean square and scaled entry by entry by the gain. -/
def rms (x g : Fin 1024 → EReal) (j : Fin 1024) : EReal := x j * invRms x * g j

/-- The residual row after the mixers: the old row and the normalised row beside it. -/
def addRms (h x g : Fin 1024 → EReal) (j : Fin 1024) : EReal := h j + rms x g j

/-- The logistic function, as both programs spell it. -/
def sigm (z : EReal) : EReal := Ideal.div 1 (1 + Ideal.exp (-z))

/-- The feed-forward block's hidden row: the gate's column through `z · sigm z`, times the other projection. -/
def hidden {k : Type} (a : Fin 1024 → EReal) (wg wu : Fin 1024 → k → EReal) (f : k) : EReal :=
  rowDot a wg f * sigm (rowDot a wg f) * rowDot a wu f

/-- The layer's end, at one row: `y` the joined row of the mixers, `h` the residual row. -/
def endRow (y h : Fin 1024 → EReal) (wo : Fin 1024 → Fin 1024 → EReal) (g1 g2 : Fin 1024 → EReal)
    (wg wu : Fin 1024 → Fin 2816 → EReal) (wd : Fin 2816 → Fin 1024 → EReal) (g3 : Fin 1024 → EReal) : Fin 1024 → EReal :=
  addRms (addRms h (rowDot y wo) g1) (rowDot (hidden (rms (addRms h (rowDot y wo) g1) g2) wg wu) wd) g3

/-- A sum over `a + b` terms in two runs. -/
theorem sum_two {n : ℕ} (a b : ℕ) (h : a + b = n) (f : Fin n → EReal) :
    ∑ i, f i = (∑ i : Fin a, f ⟨i.val, by omega⟩) + ∑ i : Fin b, f ⟨a + i.val, by omega⟩ := by
  subst h
  rw [Fin.sum_univ_add]
  rfl

/-- A sum over 1024 terms in four runs of 256, added first to last. -/
theorem sum_four (f : Fin 1024 → EReal) :
    ∑ i, f i = (∑ i : Fin 256, f ⟨i.val, by omega⟩) + (∑ i : Fin 256, f ⟨256 + i.val, by omega⟩)
      + (∑ i : Fin 256, f ⟨512 + i.val, by omega⟩) + ∑ i : Fin 256, f ⟨768 + i.val, by omega⟩ := by
  rw [sum_two 768 256 rfl, sum_two 512 256 rfl, sum_two 256 256 rfl]

/-- Four rows of 256 entries side by side. -/
def joined (y0 y1 y2 y3 : Fin 256 → EReal) (k : Fin 1024) : EReal :=
  if h0 : k.val < 256 then y0 ⟨k.val, h0⟩ else if h1 : k.val < 512 then y1 ⟨k.val - 256, by omega⟩
    else if h2 : k.val < 768 then y2 ⟨k.val - 512, by omega⟩ else y3 ⟨k.val - 768, by omega⟩

/-- The four partial products of the output projection, added first to last. -/
def mix4 (a0 a1 a2 a3 : Fin 256 → EReal) (w0 w1 w2 w3 : Fin 256 → Fin 1024 → EReal) (j : Fin 1024) : EReal :=
  rowDot a0 w0 j + rowDot a1 w1 j + rowDot a2 w2 j + rowDot a3 w3 j

/-- The joined row times a matrix is the four partial products, each row with its quarter of the matrix, added first to last. -/
theorem rowDot_joined (y0 y1 y2 y3 : Fin 256 → EReal) (w : Fin 1024 → Fin 1024 → EReal) :
    rowDot (joined y0 y1 y2 y3) w = mix4 y0 y1 y2 y3 (fun i => w ⟨i.val, by omega⟩) (fun i => w ⟨256 + i.val, by omega⟩)
      (fun i => w ⟨512 + i.val, by omega⟩) (fun i => w ⟨768 + i.val, by omega⟩) := by
  funext j
  unfold mix4
  unfold rowDot
  rw [sum_four]
  refine congrArg₂ (· + ·) (congrArg₂ (· + ·) (congrArg₂ (· + ·) ?_ ?_) ?_) ?_ <;> refine Finset.sum_congr rfl fun i _ => congrArg (· * _) ?_
  · unfold joined; rw [dif_pos (by show i.val < 256; omega)]
  · unfold joined
    rw [dif_neg (by show ¬ 256 + i.val < 256; omega), dif_pos (by show 256 + i.val < 512; omega)]
    exact congrArg y1 (Fin.ext (by show 256 + i.val - 256 = i.val; omega))
  · unfold joined
    rw [dif_neg (by show ¬ 512 + i.val < 256; omega), dif_neg (by show ¬ 512 + i.val < 512; omega), dif_pos (by show 512 + i.val < 768; omega)]
    exact congrArg y2 (Fin.ext (by show 512 + i.val - 512 = i.val; omega))
  · unfold joined
    rw [dif_neg (by show ¬ 768 + i.val < 256; omega), dif_neg (by show ¬ 768 + i.val < 512; omega), dif_neg (by show ¬ 768 + i.val < 768; omega)]
    exact congrArg y3 (Fin.ext (by show 768 + i.val - 768 = i.val; omega))

/-- The hidden row times the down projection, in the two runs of 1536 and 1280 columns. -/
theorem rowDot_hidden (a : Fin 1024 → EReal) (wg wu : Fin 1024 → Fin 2816 → EReal) (wd : Fin 2816 → Fin 1024 → EReal) :
    rowDot (hidden a wg wu) wd
      = fun j => rowDot (hidden a (fun k (f : Fin 1536) => wg k ⟨f.val, by omega⟩) (fun k f => wu k ⟨f.val, by omega⟩)) (fun f => wd ⟨f.val, by omega⟩) j
        + rowDot (hidden a (fun k (f : Fin 1280) => wg k ⟨1536 + f.val, by omega⟩) (fun k f => wu k ⟨1536 + f.val, by omega⟩))
          (fun f => wd ⟨1536 + f.val, by omega⟩) j := by
  funext j
  unfold rowDot
  rw [sum_two 1536 1280 rfl]
  rfl

/-- Row `r` of the layer's end over whole arrays: the recurrent mixer's output is laid out time first, batch and channel
    together, the other three a row per token, batch first. -/
def rowOut (ya : Fin 4096 → Fin 2048 → EReal) (yb yc yd : Fin 32768 → Fin 256 → EReal) (h : Fin 32768 → Fin 1024 → EReal)
    (wo : Fin 1024 → Fin 1024 → EReal) (g1 g2 : Fin 1024 → EReal) (wg wu : Fin 1024 → Fin 2816 → EReal)
    (wd : Fin 2816 → Fin 1024 → EReal) (g3 : Fin 1024 → EReal) (r : Fin 32768) : Fin 1024 → EReal :=
  endRow (joined (fun k => ya ⟨r.val % 4096, by omega⟩ ⟨r.val / 4096 * 256 + k.val, by omega⟩) (yb r) (yc r) (yd r)) (h r) wo g1 g2 wg wu wd g3

end Cert.Layer

end
-- ==== Proof.Pay.lean ====
module

public import proofs.«01_k».proof.Proof.Gen.KernelIdeal.Frame
public import proofs.«01_k».proof.Proof.Rows
public import Idealize.ShloMosaic.Lib.Pointwise

@[expose] public section

set_option maxRecDepth 16384

/-! What one grid point's body computes, row by row: the payloads of the two halves of a 512-row block, read at an entry, and the whole
    block as `Layer.endRow` of its rows. -/

noncomputable section

namespace Cert.KernelIdeal.Pay

open Cert.KernelIdeal Cert.KernelIdeal.Gen Cert.Layer Idealize.ShloMosaic Idealize.ShloMosaic.TcCoe Idealize.SL.Sem
open scoped BigOperators

section First

/-! ### The first half of the block -/

variable (v0 v4 v9 v14 : Vec Ideal S256x256 .bf16) (v1 v5 v10 v15 : Vec Ideal S256x1024 .bf16) (p : Fin 256) (j : Fin 1024)

theorem pay4_apply :
    k0_pay4 (F := Ideal) v0 v1 v4 v5 v9 v10 v14 v15 (ix2 p j) =
      (let x := mix4 (fun k => v0 (ix2 p k)) (fun k => v4 (ix2 p k)) (fun k => v9 (ix2 p k)) (fun k => v14 (ix2 p k))
        (fun k j => v1 (ix2 k j)) (fun k j => v5 (ix2 k j)) (fun k j => v10 (ix2 k j)) (fun k j => v15 (ix2 k j))
       x j * invRms x) := by
  unfold k0_pay4
  pointwise
  rfl

theorem pay5_apply (v19 : Vec Ideal S256x1024 .f32) (v21 : FVec Ideal S1x1024 .f32) (v31 : FVec Ideal S256x1024 .f32) :
    k0_pay5 (F := Ideal) v19 v21 v31 (ix2 p j) = v19 (ix2 p j) + v31 (ix2 p j) * v21 (ix2 0 j) := by
  unfold k0_pay5
  pointwise

theorem pay3_eq (v : Vec Ideal S1x1024 .f32) : k0_pay3 (F := Ideal) v = v := by
  unfold k0_pay3
  exact shapeCast_self _ _

theorem pay10_apply (v34 : FVec Ideal S256x1024 .f32) (v70 : Vec Ideal S1x1024 .f32) :
    k0_pay10 (F := Ideal) v34 v70 (ix2 p j) = rms (fun k => v34 (ix2 p k)) (fun k => v70 (ix2 0 k)) j := by
  unfold k0_pay10
  pointwise
  rfl

theorem pay12_apply (v34 : FVec Ideal S256x1024 .f32) (v70 : Vec Ideal S1x1024 .f32) (v100 : Vec Ideal S1024x1536 .bf16) (f : Fin 1536) :
    k0_pay12 (F := Ideal) v34 v70 v100 (ix2 p f) = rowDot (fun k => k0_pay10 (F := Ideal) v34 v70 (ix2 p k)) (fun k f => v100 (ix2 k f)) f := by
  unfold k0_pay12
  pointwise
  rfl

theorem pay13_apply (v34 : FVec Ideal S256x1024 .f32) (v70 : Vec Ideal S1x1024 .f32) (v100 : Vec Ideal S1024x1536 .bf16) (f : Fin 1536) :
    k0_pay13 (F := Ideal) v34 v70 v100 (ix2 p f) = rowDot (fun k => k0_pay10 (F := Ideal) v34 v70 (ix2 p k)) (fun k f => v100 (ix2 k f)) f := by
  unfold k0_pay13
  pointwise
  rfl

theorem pay14_apply (v102 v105 : FVec Ideal S256x1536 .f32) (v122 : Vec Ideal S1536x1024 .bf16) :
    k0_pay14 (F := Ideal) v102 v105 v122 (ix2 p j) =
      rowDot (fun f => v102 (ix2 p f) * sigm (v102 (ix2 p f)) * v105 (ix2 p f)) (fun f j => v122 (ix2 f j)) j := by
  unfold k0_pay14
  pointwise
  simp only [zero_sub]
  rfl

theorem pay16_apply (v84 : FVec Ideal S256x1024 .bf16) (v138 : Vec Ideal S1024x1280 .bf16) (f : Fin 1280) :
    k0_pay16 (F := Ideal) v84 v138 (ix2 p f) = rowDot (fun k => v84 (ix2 p k)) (fun k f => v138 (ix2 k f)) f := by
  unfold k0_pay16
  pointwise
  rfl

theorem pay17_apply (v84 : FVec Ideal S256x1024 .bf16) (v138 : Vec Ideal S1024x1280 .bf16) (f : Fin 1280) :
    k0_pay17 (F := Ideal) v84 v138 (ix2 p f) = rowDot (fun k => v84 (ix2 p k)) (fun k f => v138 (ix2 k f)) f := by
  unfold k0_pay17
  pointwise
  rfl

theorem pay18_apply (v124 : FVec Ideal S256x1024 .f32) (v140 v143 : FVec Ideal S256x1280 .f32) (v160 : Vec Ideal S1280x1024 .bf16) :
    k0_pay18 (F := Ideal) v124 v140 v143 v160 (ix2 p j) =
      v124 (ix2 p j) + rowDot (fun f => v140 (ix2 p f) * sigm (v140 (ix2 p f)) * v143 (ix2 p f)) (fun f j => v160 (ix2 f j)) j := by
  unfold k0_pay18
  pointwise
  simp only [zero_sub]
  rfl

theorem pay20_eq (v : Vec Ideal S1x1024 .f32) : k0_pay20 (F := Ideal) v = v := by
  unfold k0_pay20
  exact shapeCast_self _ _

theorem pay1_apply (v34 v163 : FVec Ideal S256x1024 .f32) (v179 : FVec Ideal S1x1024 .f32) (v124 : FVec Ideal S256x1024 .f32)
    (v140 v143 : FVec Ideal S256x1280 .f32) (v160 : Vec Ideal S1280x1024 .bf16) (h : v163 = k0_pay18 (F := Ideal) v124 v140 v143 v160) :
    k0_pay1 (F := Ideal) v34 v163 v179 (k0_pay21 (F := Ideal) v124 v140 v143 v160) (Scalar.ofBits .f32 0x44800000#32) (ix2 p j) =
      addRms (fun k => v34 (ix2 p k)) (fun k => v163 (ix2 p k)) (fun k => v179 (ix2 0 k)) j := by
  unfold k0_pay1 k0_pay21
  rw [← h]
  pointwise
  rfl

end First

section Second

/-! ### The second half: the same computation, cut into other pieces -/

variable (v0 v4 v9 v14 : Vec Ideal S256x256 .bf16) (v1 v5 v10 v15 : Vec Ideal S256x1024 .bf16) (p : Fin 256) (j : Fin 1024)

theorem pay6_apply :
    k0_pay6 (F := Ideal) v0 v1 v4 v5 v9 v10 v14 v15 (ix2 p j) =
      mix4 (fun k => v0 (ix2 p k)) (fun k => v4 (ix2 p k)) (fun k => v9 (ix2 p k)) (fun k => v14 (ix2 p k))
        (fun k j => v1 (ix2 k j)) (fun k j => v5 (ix2 k j)) (fun k j => v10 (ix2 k j)) (fun k j => v15 (ix2 k j)) j := by
  unfold k0_pay6
  pointwise
  rfl

theorem pay7_eq (v : Vec Ideal S1x1024 .f32) : k0_pay7 (F := Ideal) v = v := by
  unfold k0_pay7
  exact shapeCast_self _ _

theorem pay8_apply :
    k0_pay8 (F := Ideal) v0 v1 v4 v5 v9 v10 v14 v15 (ix2 p 0) =
      invRms (fun k => k0_pay6 (F := Ideal) v0 v1 v4 v5 v9 v10 v14 v15 (ix2 p k)) := by
  unfold k0_pay8
  generalize k0_pay6 (F := Ideal) v0 v1 v4 v5 v9 v10 v14 v15 = x
  pointwise
  rfl

theorem pay9_apply (v53 : FVec Ideal S256x1024 .f32) (v54 : Vec Ideal S256x1024 .f32) (v56 : FVec Ideal S1x1024 .f32) (v64 : FVec Ideal S256x1 .f32) :
    k0_pay9 (F := Ideal) v53 v54 v56 v64 (ix2 p j) = v54 (ix2 p j) + v53 (ix2 p j) * v64 (ix2 p 0) * v56 (ix2 0 j) := by
  unfold k0_pay9
  pointwise

theorem pay11_apply (v53 : FVec Ideal S256x1024 .f32) (v54 : Vec Ideal S256x1024 .f32) (v56 : FVec Ideal S1x1024 .f32) (v64 : FVec Ideal S256x1 .f32)
    (v85 : Vec Ideal S1x1024 .f32) :
    k0_pay11 (F := Ideal) v53 v54 v56 v64 v85 (ix2 p j) =
      rms (fun k => k0_pay9 (F := Ideal) v53 v54 v56 v64 (ix2 p k)) (fun k => v85 (ix2 0 k)) j := by
  unfold k0_pay11
  generalize k0_pay9 (F := Ideal) v53 v54 v56 v64 = x
  pointwise
  rfl

theorem pay15_apply (v99 : FVec Ideal S256x1024 .bf16) (v106 v109 : Vec Ideal S1024x1536 .bf16) (v135 : Vec Ideal S1536x1024 .bf16) :
    k0_pay15 (F := Ideal) v99 v106 v109 v135 (ix2 p j) =
      rowDot (hidden (fun k => v99 (ix2 p k)) (fun k f => v106 (ix2 k f)) (fun k f => v109 (ix2 k f))) (fun f j => v135 (ix2 f j)) j := by
  unfold k0_pay15
  pointwise
  simp only [zero_sub]
  rfl

theorem pay19_apply (v99 : FVec Ideal S256x1024 .bf16) (v137 : FVec Ideal S256x1024 .f32) (v144 v147 : Vec Ideal S1024x1280 .bf16)
    (v174 : Vec Ideal S1280x1024 .bf16) :
    k0_pay19 (F := Ideal) v99 v137 v144 v147 v174 (ix2 p j) =
      v137 (ix2 p j) + rowDot (hidden (fun k => v99 (ix2 p k)) (fun k f => v144 (ix2 k f)) (fun k f => v147 (ix2 k f))) (fun f j => v174 (ix2 f j)) j := by
  unfold k0_pay19
  pointwise
  simp only [zero_sub]
  rfl

theorem pay2_apply (v69 v177 : FVec Ideal S256x1024 .f32) (v194 : Vec Ideal S1x1024 .f32) :
    k0_pay2 (F := Ideal) v69 v177 v194 (ix2 p j) =
      addRms (fun k => v69 (ix2 p k)) (fun k => v177 (ix2 p k)) (fun k => v194 (ix2 0 k)) j := by
  unfold k0_pay2
  pointwise
  rfl

end Second

/-! ### The block -/

section Block

variable (x0 x1 x2 x3 : Vec Ideal S512x256 .bf16) (x4 : Vec Ideal S512x1024 .f32) (x5 : Vec Ideal S1024x1024 .bf16) (x6 x7 : Vec Ideal S1x1024 .f32)
  (x8 x9 : Vec Ideal S1024x2816 .bf16) (x10 : Vec Ideal S2816x1024 .bf16) (x11 : Vec Ideal S1x1024 .f32)

/-- Row `p` of the block the body leaves, from row `p` of the blocks it read and the weights. -/
def blockRow (p : Fin 512) : Fin 1024 → EReal :=
  endRow (joined (fun k => x0 (ix2 p k)) (fun k => x1 (ix2 p k)) (fun k => x2 (ix2 p k)) (fun k => x3 (ix2 p k))) (fun k => x4 (ix2 p k))
    (fun k j => x5 (ix2 k j)) (fun k => x6 (ix2 0 k)) (fun k => x7 (ix2 0 k)) (fun k f => x8 (ix2 k f)) (fun k f => x9 (ix2 k f))
    (fun f j => x10 (ix2 f j)) (fun k => x11 (ix2 0 k))

theorem first_half (p : Fin 256) (j : Fin 1024) :
    (k0_pay1 (k0_pay22 x0 x1 x2 x3 x4 x5 x6 x7 x8 x9 x10 x11) (k0_pay18 (k0_pay28 x0 x1 x2 x3 x4 x5 x6 x7 x8 x9 x10 x11) (k0_pay29 x0 x1 x2 x3 x4 x5 x6 x7 x8 x9 x10 x11) (k0_pay30 x0 x1 x2 x3 x4 x5 x6 x7 x8 x9 x10 x11) (View.ld x10 r0_12)) (k0_pay20 (View.ld x11 r0_6)) (k0_pay21 (k0_pay28 x0 x1 x2 x3 x4 x5 x6 x7 x8 x9 x10 x11) (k0_pay29 x0 x1 x2 x3 x4 x5 x6 x7 x8 x9 x10 x11) (k0_pay30 x0 x1 x2 x3 x4 x5 x6 x7 x8 x9 x10 x11) (View.ld x10 r0_12)) (Scalar.ofBits .f32 0x44800000#32) : FVec Ideal S256x1024 .f32) (ix2 p j)
      = blockRow x0 x1 x2 x3 x4 x5 x6 x7 x8 x9 x10 x11 ⟨p.val, by omega⟩ j := by
  rw [pay1_apply _ _ _ _ _ _ _ _ _ rfl]
  unfold k0_pay28 k0_pay29 k0_pay30 k0_pay26 k0_pay22
  simp only [pay18_apply, pay14_apply, pay12_apply, pay13_apply, pay16_apply, pay17_apply, pay10_apply, pay5_apply, pay4_apply, pay3_eq, pay20_eq]
  unfold blockRow endRow
  rw [rowDot_joined, rowDot_hidden]
  pointwise
  rfl

theorem second_half (p : Fin 256) (j : Fin 1024) :
    (k0_pay2 (k0_pay9 (k0_pay23 x0 x1 x2 x3 x4 x5 x6 x7 x8 x9 x10 x11) (View.ld x4 r0_8) (k0_pay24 x0 x1 x2 x3 x4 x5 x6 x7 x8 x9 x10 x11) (k0_pay25 x0 x1 x2 x3 x4 x5 x6 x7 x8 x9 x10 x11)) (k0_pay19 (k0_pay27 x0 x1 x2 x3 x4 x5 x6 x7 x8 x9 x10 x11) (k0_pay15 (k0_pay27 x0 x1 x2 x3 x4 x5 x6 x7 x8 x9 x10 x11) (View.ld x8 r0_9) (View.ld x9 r0_9) (View.ld x10 r0_10)) (View.ld x8 r0_11) (View.ld x9 r0_11) (View.ld x10 r0_12)) (View.ld x11 r0_6) : FVec Ideal S256x1024 .f32) (ix2 p j)
      = blockRow x0 x1 x2 x3 x4 x5 x6 x7 x8 x9 x10 x11 ⟨256 + p.val, by omega⟩ j := by
  rw [pay2_apply]
  unfold k0_pay27 k0_pay25 k0_pay24 k0_pay23
  simp only [pay19_apply, pay15_apply, pay11_apply, pay9_apply, pay8_apply, pay6_apply, pay7_eq]
  unfold blockRow endRow
  rw [rowDot_joined, rowDot_hidden]
  pointwise
  rfl

/-- The block the body leaves, at an entry. -/
theorem out_apply (q : Fin 512) (j : Fin 1024) :
    (out0_12 x0 x1 x2 x3 x4 x5 x6 x7 x8 x9 x10 x11 : Vec Ideal S512x1024 .f32) (ix2 q j) = blockRow x0 x1 x2 x3 x4 x5 x6 x7 x8 x9 x10 x11 q j := by
  unfold out0_12
  refine View.canon_apply_of_pieces (show Vec Ideal S512x1024 .f32 from fun i => blockRow x0 x1 x2 x3 x4 x5 x6 x7 x8 x9 x10 x11 (i 0) (i 1)) _ ?_ (ix2 q j) (cover0_12 _ _ _)
  intro pc hpc x
  rcases List.mem_cons.mp hpc with rfl | hpc
  · obtain ⟨p, k, rfl⟩ : ∃ (p : Fin 256) (k : Fin 1024), x = ix2 p k := ⟨x 0, x 1, eq_ix2 x⟩
    refine (second_half x0 x1 x2 x3 x4 x5 x6 x7 x8 x9 x10 x11 p k).trans ?_
    refine congrArg₂ (blockRow x0 x1 x2 x3 x4 x5 x6 x7 x8 x9 x10 x11) (Fin.ext ?_) (Fin.ext ?_)
    · show 256 + p.val = 256 + 1 * p.val; omega
    · show k.val = 0 + 1 * k.val; omega
  · obtain rfl := List.mem_singleton.mp hpc
    obtain ⟨p, k, rfl⟩ : ∃ (p : Fin 256) (k : Fin 1024), x = ix2 p k := ⟨x 0, x 1, eq_ix2 x⟩
    refine (first_half x0 x1 x2 x3 x4 x5 x6 x7 x8 x9 x10 x11 p k).trans ?_
    refine congrArg₂ (blockRow x0 x1 x2 x3 x4 x5 x6 x7 x8 x9 x10 x11) (Fin.ext ?_) (Fin.ext ?_)
    · show p.val = 0 + 1 * p.val; omega
    · show k.val = 0 + 1 * k.val; omega

end Block

end Cert.KernelIdeal.Pay

end
-- ==== Proof.Final.lean ====
/-
  The kernel's result array: every entry is the layer's end of its row.
-/
module

public import proofs.«01_k».proof.Proof.Pay
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Pay Cert.Layer

/-- The layer's end over twelve argument arrays. -/
def tokens (a0 : FVec Ideal S4096x2048 .bf16) (a1 a2 a3 : FVec Ideal S32768x256 .bf16) (a4 : FVec Ideal S32768x1024 .f32)
    (a5 : FVec Ideal S1024x1024 .f32) (a6 a7 : FVec Ideal S1024 .f32) (a8 a9 : FVec Ideal S1024x2816 .f32)
    (a10 : FVec Ideal S2816x1024 .f32) (a11 : FVec Ideal S1024 .f32) : FVec Ideal S32768x1024 .f32 := fun i =>
  rowOut (fun p q => a0 (ix2 p q)) (fun r k => a1 (ix2 r k)) (fun r k => a2 (ix2 r k)) (fun r k => a3 (ix2 r k))
    (fun r k => a4 (ix2 r k)) (fun k j => a5 (ix2 k j)) (fun k => a6 (ix1 k)) (fun k => a7 (ix1 k)) (fun k f => a8 (ix2 k f))
    (fun k f => a9 (ix2 k f)) (fun f j => a10 (ix2 f j)) (fun k => a11 (ix1 k)) (i 0) (i 1)

/-- Equal arguments, equal results. -/
theorem tokens_congr {a0 b0 : FVec Ideal S4096x2048 .bf16} {a1 b1 : FVec Ideal S32768x256 .bf16} {a2 b2 : FVec Ideal S32768x256 .bf16} {a3 b3 : FVec Ideal S32768x256 .bf16} {a4 b4 : FVec Ideal S32768x1024 .f32} {a5 b5 : FVec Ideal S1024x1024 .f32} {a6 b6 : FVec Ideal S1024 .f32} {a7 b7 : FVec Ideal S1024 .f32} {a8 b8 : FVec Ideal S1024x2816 .f32} {a9 b9 : FVec Ideal S1024x2816 .f32} {a10 b10 : FVec Ideal S2816x1024 .f32} {a11 b11 : FVec Ideal S1024 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) :
    tokens a0 a1 a2 a3 a4 a5 a6 a7 a8 a9 a10 a11 = tokens b0 b1 b2 b3 b4 b5 b6 b7 b8 b9 b10 b11 := by
  subst h0 h1 h2 h3 h4 h5 h6 h7 h8 h9 h10 h11; rfl

variable (m : (ℓ : Loc nD τ sig) → Buf (Elt Ideal) ℓ) (ρ : Dev nD → PrngReg)

/-- The layer's end over the kernel's arguments on device `c`. -/
abbrev want (c : Dev nD) : FVec Ideal S32768x1024 .f32 :=
  tokens (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-! ### Where the windows' blocks lie -/

theorem at0 : ∀ t : Fin cfg0.N, win0_0.index t = ![t.val % 8, t.val / 8] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![t.val, 0] := (by decide +kernel : ∀ t : Fin grid0.N, _)
theorem lt64 (t : Fin cfg0.N) : t.val < 64 := t.isLt.trans_eq N_0

/-! ### The blocks a grid point reads, at an entry -/

theorem in0 (c : Dev nD) (t : Fin cfg0.N) (q : Fin 512) (k : Fin 256) (h1 : (t.val * 512 + q.val) % 4096 < 4096) (h2 : (t.val * 512 + q.val) / 4096 * 256 + k.val < 2048) :
    (iblk m c 0 t : FVec Ideal S512x256 .bf16) (ix2 q k) = m ((c : Thread nD τ).loc main_arg0) (ix2 ⟨(t.val * 512 + q.val) % 4096, h1⟩ ⟨(t.val * 512 + q.val) / 4096 * 256 + k.val, h2⟩) := by
  have e := at0 t
  blk_ext [iblk, V, e]

theorem in1 (c : Dev nD) (t : Fin cfg0.N) (q : Fin 512) (k : Fin 256) (h : t.val * 512 + q.val < 32768) :
    (iblk m c 1 t : FVec Ideal S512x256 .bf16) (ix2 q k) = m ((c : Thread nD τ).loc main_arg1) (ix2 ⟨t.val * 512 + q.val, h⟩ k) := by
  have e := at1 t
  blk_ext [iblk, V, e]

theorem in2 (c : Dev nD) (t : Fin cfg0.N) (q : Fin 512) (k : Fin 256) (h : t.val * 512 + q.val < 32768) :
    (iblk m c 2 t : FVec Ideal S512x256 .bf16) (ix2 q k) = m ((c : Thread nD τ).loc main_arg2) (ix2 ⟨t.val * 512 + q.val, h⟩ k) := by
  have e := at2 t
  blk_ext [iblk, V, e]

theorem in3 (c : Dev nD) (t : Fin cfg0.N) (q : Fin 512) (k : Fin 256) (h : t.val * 512 + q.val < 32768) :
    (iblk m c 3 t : FVec Ideal S512x256 .bf16) (ix2 q k) = m ((c : Thread nD τ).loc main_arg3) (ix2 ⟨t.val * 512 + q.val, h⟩ k) := by
  have e := at3 t
  blk_ext [iblk, V, e]

theorem in4 (c : Dev nD) (t : Fin cfg0.N) (q : Fin 512) (k : Fin 1024) (h : t.val * 512 + q.val < 32768) :
    (iblk m c 4 t : FVec Ideal S512x1024 .f32) (ix2 q k) = m ((c : Thread nD τ).loc main_arg4) (ix2 ⟨t.val * 512 + q.val, h⟩ k) := by
  have e := at4 t
  blk_ext [iblk, V, e]

theorem in5 (c : Dev nD) (t : Fin cfg0.N) (k : Fin 1024) (j : Fin 1024) :
    (iblk m c 5 t : FVec Ideal S1024x1024 .bf16) (ix2 k j) = m ((c : Thread nD τ).loc main_arg5) (ix2 k j) := by
  have e := at5 t
  blk_ext! [iblk, V, e]

theorem in6 (c : Dev nD) (t : Fin cfg0.N) (j : Fin 1024) :
    (iblk m c 6 t : FVec Ideal S1x1024 .f32) (ix2 0 j) = m ((c : Thread nD τ).loc main_arg6) (ix1 j) := by
  have e := at6 t
  blk_ext! [iblk, V, e]

theorem in7 (c : Dev nD) (t : Fin cfg0.N) (j : Fin 1024) :
    (iblk m c 7 t : FVec Ideal S1x1024 .f32) (ix2 0 j) = m ((c : Thread nD τ).loc main_arg7) (ix1 j) := by
  have e := at7 t
  blk_ext! [iblk, V, e]

theorem in8 (c : Dev nD) (t : Fin cfg0.N) (k : Fin 1024) (j : Fin 2816) :
    (iblk m c 8 t : FVec Ideal S1024x2816 .bf16) (ix2 k j) = m ((c : Thread nD τ).loc main_arg8) (ix2 k j) := by
  have e := at8 t
  blk_ext! [iblk, V, e]

theorem in9 (c : Dev nD) (t : Fin cfg0.N) (k : Fin 1024) (j : Fin 2816) :
    (iblk m c 9 t : FVec Ideal S1024x2816 .bf16) (ix2 k j) = m ((c : Thread nD τ).loc main_arg9) (ix2 k j) := by
  have e := at9 t
  blk_ext! [iblk, V, e]

theorem in10 (c : Dev nD) (t : Fin cfg0.N) (k : Fin 2816) (j : Fin 1024) :
    (iblk m c 10 t : FVec Ideal S2816x1024 .bf16) (ix2 k j) = m ((c : Thread nD τ).loc main_arg10) (ix2 k j) := by
  have e := at10 t
  blk_ext! [iblk, V, e]

theorem in11 (c : Dev nD) (t : Fin cfg0.N) (j : Fin 1024) :
    (iblk m c 11 t : FVec Ideal S1x1024 .f32) (ix2 0 j) = m ((c : Thread nD τ).loc main_arg11) (ix1 j) := by
  have e := at11 t
  blk_ext! [iblk, V, e]

/-- The result array after the run. -/
theorem final (c : Dev nD) : (dats m 0 c).arrAt 12 cfg0.N = want m c := by
  refine (dats m 0 c).arrAt_eq_of_covers 12 _ (by decide +kernel) fun t _ y => ?_
  blk_simp
  rw [after0_12]
  obtain ⟨q, j, rfl⟩ : ∃ (q : Fin 512) (j : Fin 1024), y = ix2 q j := ⟨y 0, y 1, eq_ix2 y⟩
  refine (out_apply _ _ _ _ _ _ _ _ _ _ _ _ q j).trans ?_
  have ht := lt64 t
  have hr : t.val * 512 + q.val < 32768 := by omega
  have e0 : ((win0_12.blk t).view.emb (ix2 q j) : S32768x1024.Idx) = ix2 ⟨t.val * 512 + q.val, hr⟩ j := by
    have e := at12 t
    blk_ext [e]
  refine Eq.trans ?_ (congrArg (want m c) e0).symm
  show _ = rowOut _ _ _ _ _ _ _ _ _ _ _ _ ⟨t.val * 512 + q.val, hr⟩ j
  unfold blockRow rowOut
  simp only [in1 m c t q _ hr, in2 m c t q _ hr, in3 m c t q _ hr, in4 m c t q _ hr, in5, in6, in7, in8, in9, in10, in11,
    fun k => in0 m c t q k (by omega) (by omega)]

end Cert.KernelIdeal.Final

end
-- ==== Proof.Ref.lean ====
/-
  The reference's result: every entry is the layer's end of its row.
-/
module

public import proofs.«01_k».proof.Proof.Final
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Layer

variable (x0 : FVec Ideal S4096x2048 .bf16) (x1 x2 x3 : FVec Ideal S32768x256 .bf16) (x4 : FVec Ideal S32768x1024 .f32)
    (x5 : FVec Ideal S1024x1024 .f32) (x6 x7 : FVec Ideal S1024 .f32) (x8 x9 : FVec Ideal S1024x2816 .f32)
    (x10 : FVec Ideal S2816x1024 .f32) (x11 : FVec Ideal S1024 .f32) (r : Fin 32768)

/-- The joined mixers. -/
theorem v7_apply (k : Fin 1024) : val_main_v7 (F := Ideal) x0 x1 x2 x3 (ix2 r k)
    = joined (fun k => x0 (ix2 ⟨r.val % 4096, by omega⟩ ⟨r.val / 4096 * 256 + k.val, by omega⟩)) (fun k => x1 (ix2 r k))
        (fun k => x2 (ix2 r k)) (fun k => x3 (ix2 r k)) k := by
  unfold val_main_v7 val_main_v6 val_main_v5 val_main_v4 val_main_v3 val_main_v2 val_main_v1 val_main_v0
  pointwise
  unfold joined
  have e3 : k.val - 256 - 256 - 256 = k.val - 768 := by omega
  have e2 : k.val - 256 - 256 = k.val - 512 := by omega
  by_cases h0 : k.val < 256
  · rw [dif_pos h0, dif_pos h0]
  rw [dif_neg h0, dif_neg h0]
  by_cases h1 : k.val < 512
  · rw [dif_pos h1, dif_pos (by omega)]
  rw [dif_neg h1, dif_neg (by omega)]
  by_cases h2 : k.val < 768
  · rw [dif_pos h2, dif_pos (by omega)]
    exact congrArg (fun z => x2 (ix2 r z)) (Fin.ext e2)
  rw [dif_neg h2, dif_neg (by omega)]
  exact congrArg (fun z => x3 (ix2 r z)) (Fin.ext e3)

theorem v8_apply (j : Fin 1024) : val_main_v8 (F := Ideal) x0 x1 x2 x3 x5 (ix2 r j)
    = rowDot (fun k => val_main_v7 (F := Ideal) x0 x1 x2 x3 (ix2 r k)) (fun k j => x5 (ix2 k j)) j := by
  unfold val_main_v8
  generalize val_main_v7 (F := Ideal) x0 x1 x2 x3 = y
  pointwise
  rfl

/-- The residual after the output projection. -/
theorem v22_apply (j : Fin 1024) : val_main_v22 (F := Ideal) x0 x1 x2 x3 x4 x5 x6 (ix2 r j)
    = addRms (fun k => x4 (ix2 r k)) (fun k => val_main_v8 (F := Ideal) x0 x1 x2 x3 x5 (ix2 r k)) (fun k => x6 (ix1 k)) j := by
  unfold val_main_v22 val_main_v21 val_main_v20 val_main_v19 val_main_v18 val_main_v17 val_main_v16 val_main_v15 val_main_v14 val_main_v13 val_main_v12 val_main_v11 val_main_v10 val_main_v9 val_main_cst val_main_cst_0 val_main_cst_1
  generalize val_main_v8 (F := Ideal) x0 x1 x2 x3 x5 = y
  pointwise
  rfl

theorem v35_apply (k : Fin 1024) : val_main_v35 (F := Ideal) x0 x1 x2 x3 x4 x5 x6 x7 (ix2 r k)
    = rms (fun k => val_main_v22 (F := Ideal) x0 x1 x2 x3 x4 x5 x6 (ix2 r k)) (fun k => x7 (ix1 k)) k := by
  unfold val_main_v35 val_main_v34 val_main_v33 val_main_v32 val_main_v31 val_main_v30 val_main_v29 val_main_v28 val_main_v27 val_main_v26 val_main_v25 val_main_v24 val_main_v23 val_main_cst_2 val_main_cst_3 val_main_cst_4
  generalize val_main_v22 (F := Ideal) x0 x1 x2 x3 x4 x5 x6 = y
  pointwise
  rfl

theorem v39_apply (f : Fin 2816) : val_main_v39 (F := Ideal) x0 x1 x2 x3 x4 x5 x6 x7 x8 x9 (ix2 r f)
    = hidden (fun k => val_main_v35 (F := Ideal) x0 x1 x2 x3 x4 x5 x6 x7 (ix2 r k)) (fun k f => x8 (ix2 k f)) (fun k f => x9 (ix2 k f)) f := by
  unfold val_main_v39 val_main_v38 val_main_v37 val_main_call0_v5 val_main_call0_v4 val_main_call0_v3 val_main_call0_v2 val_main_call0_v1 val_main_call0_v0 val_main_call0_cst val_main_call0_cst_0 val_main_v36
  generalize val_main_v35 (F := Ideal) x0 x1 x2 x3 x4 x5 x6 x7 = y
  pointwise
  rfl

theorem v40_apply (j : Fin 1024) : val_main_v40 (F := Ideal) x0 x1 x2 x3 x4 x5 x6 x7 x8 x9 x10 (ix2 r j)
    = rowDot (fun k => val_main_v39 (F := Ideal) x0 x1 x2 x3 x4 x5 x6 x7 x8 x9 (ix2 r k)) (fun k j => x10 (ix2 k j)) j := by
  unfold val_main_v40
  generalize val_main_v39 (F := Ideal) x0 x1 x2 x3 x4 x5 x6 x7 x8 x9 = y
  pointwise
  rfl

theorem v54_apply (j : Fin 1024) : val_main_v54 (F := Ideal) x0 x1 x2 x3 x4 x5 x6 x7 x8 x9 x10 x11 (ix2 r j)
    = addRms (fun k => val_main_v22 (F := Ideal) x0 x1 x2 x3 x4 x5 x6 (ix2 r k)) (fun k => val_main_v40 (F := Ideal) x0 x1 x2 x3 x4 x5 x6 x7 x8 x9 x10 (ix2 r k)) (fun k => x11 (ix1 k)) j := by
  unfold val_main_v54 val_main_v53 val_main_v52 val_main_v51 val_main_v50 val_main_v49 val_main_v48 val_main_v47 val_main_v46 val_main_v45 val_main_v44 val_main_v43 val_main_v42 val_main_v41 val_main_cst_5 val_main_cst_6 val_main_cst_7
  generalize val_main_v40 (F := Ideal) x0 x1 x2 x3 x4 x5 x6 x7 x8 x9 x10 = z
  generalize val_main_v22 (F := Ideal) x0 x1 x2 x3 x4 x5 x6 = y
  pointwise
  rfl

/-- The reference's result array. -/
theorem result_eq : val_main_v54 (F := Ideal) x0 x1 x2 x3 x4 x5 x6 x7 x8 x9 x10 x11
    = Cert.KernelIdeal.Final.tokens x0 x1 x2 x3 x4 x5 x6 x7 x8 x9 x10 x11 := by
  funext i
  obtain ⟨r, j, rfl⟩ : ∃ (r : Fin 32768) (j : Fin 1024), i = ix2 r j := ⟨i 0, i 1, eq_ix2 i⟩
  rw [v54_apply]
  simp only [v40_apply, v39_apply, v35_apply, v22_apply, v8_apply, v7_apply]
  rfl

end Cert.ReferenceIdeal.Rows

end
-- ==== Proof.InProj.lean ====
/-
  The input projection's seven result arrays: every entry is one column of the projection of one normalised row.
-/
module

public import proofs.«01_k».proof.Proof.Rows
public import proofs.«01_k».proof.Proof.Gen.Kernel2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Layer
open scoped BigOperators

/-! ### The results as functions of the arguments -/

section Results

variable (h : FVec Ideal S32768x1024 .f32) (g : FVec Ideal S1024 .f32) (w : FVec Ideal S1024x3084 .f32)

/-- Column `e` of the projection of the normalised row `r`. -/
def proj (r : Fin 32768) (e : Fin 3084) : EReal :=
  rowDot (rms (fun k => h (ix2 r k)) (fun k => g (ix1 k))) (fun k e => w (ix2 k e)) e

/-- Sequence `q / 256` at step `p`, column `q % 256`: the layout with the step first and the sequences side by side. -/
def steps (p : Fin 4096) (q : Fin 2048) : EReal := proj h g w ⟨q.val / 256 * 4096 + p.val, by omega⟩ ⟨q.val % 256, by omega⟩

/-- Gate `q % 16` of sequence `q / 16` at step `p`: twelve gates in three groups of four, then four rows of zeros. -/
def gate (q : Fin 128) (p : Fin 4096) : EReal :=
  if h0 : q.val % 16 < 4 then proj h g w ⟨q.val / 16 * 4096 + p.val, by omega⟩ ⟨q.val % 16 + 2048, by omega⟩
  else if h1 : q.val % 16 < 12 then proj h g w ⟨q.val / 16 * 4096 + p.val, by omega⟩ ⟨q.val % 16 + 3072, by omega⟩
  else 0

def want4 : FVec Ideal S4096x2048 .f32 := fun i => steps h g w (i 0) (i 1)
def want5 : FVec Ideal S32768x1024 .f32 := fun i => proj h g w (i 0) ⟨(i 1).val + 256, by have : (i 1).val < 1024 := (i 1).isLt; omega⟩
def want6 : FVec Ideal S32768x256 .bf16 := fun i => proj h g w (i 0) ⟨(i 1).val + 1536, by have : (i 1).val < 256 := (i 1).isLt; omega⟩
def want7 : FVec Ideal S32768x1024 .f32 := fun i => proj h g w (i 0) ⟨(i 1).val + 2052, by have : (i 1).val < 1024 := (i 1).isLt; omega⟩
def want8 : FVec Ideal S256x32768 .f32 := fun i => proj h g w (i 1) ⟨(i 0).val + 1280, by have : (i 0).val < 256 := (i 0).isLt; omega⟩
def want9 : FVec Ideal S256x32768 .bf16 := fun i => proj h g w (i 1) ⟨(i 0).val + 1792, by have : (i 0).val < 256 := (i 0).isLt; omega⟩
def want10 : FVec Ideal S128x4096 .f32 := fun i => gate h g w (i 0) (i 1)

end Results

/-! ### The payloads, read at an entry -/

section Payloads

variable (v0 : Vec Ideal S1024x1024 .f32) (v1 : Vec Ideal S1x1024 .f32) (y : FVec Ideal S1024x1024 .bf16) (q : Fin 1024)

theorem pay6_apply (k : Fin 1024) : k0_pay6 (F := Ideal) v0 v1 (ix2 q k) = rms (fun k => v0 (ix2 q k)) (fun k => v1 (ix2 0 k)) k := by
  unfold k0_pay6
  pointwise
  rfl

theorem pay7_apply (v : Vec Ideal S1024x256 .bf16) (j : Fin 256) : k0_pay7 (F := Ideal) v0 v1 v (ix2 q j)
    = rowDot (rms (fun k => v0 (ix2 q k)) (fun k => v1 (ix2 0 k))) (fun k j => v (ix2 k j)) j := by
  unfold k0_pay7
  simp only [funext (fun k => (pay6_apply v0 v1 q k).symm : ∀ k, _)]
  generalize k0_pay6 (F := Ideal) v0 v1 = y
  pointwise
  rfl

theorem pay9_apply (v : Vec Ideal S1024x256 .bf16) (j : Fin 256) : k0_pay9 (F := Ideal) v0 v1 v (ix2 q j)
    = rowDot (rms (fun k => v0 (ix2 q k)) (fun k => v1 (ix2 0 k))) (fun k j => v (ix2 k j)) j := by
  unfold k0_pay9
  simp only [funext (fun k => (pay6_apply v0 v1 q k).symm : ∀ k, _)]
  generalize k0_pay6 (F := Ideal) v0 v1 = y
  pointwise
  rfl

theorem pay8_apply (v : Vec Ideal S1024x1024 .bf16) (j : Fin 1024) : k0_pay8 (F := Ideal) v0 v1 v (ix2 q j)
    = rowDot (rms (fun k => v0 (ix2 q k)) (fun k => v1 (ix2 0 k))) (fun k j => v (ix2 k j)) j := by
  unfold k0_pay8
  simp only [funext (fun k => (pay6_apply v0 v1 q k).symm : ∀ k, _)]
  generalize k0_pay6 (F := Ideal) v0 v1 = y
  pointwise
  rfl

theorem pay1_apply (v : Vec Ideal S1024x1024 .bf16) (j : Fin 1024) :
    k0_pay1 (F := Ideal) (k0_pay6 v0 v1) (k0_pay10 v) (constant S1024x1024 .f32 0x00000000#32) (ix2 q j)
    = rowDot (rms (fun k => v0 (ix2 q k)) (fun k => v1 (ix2 0 k))) (fun k j => v (ix2 k j)) j := by
  unfold k0_pay1 k0_pay10
  simp only [funext (fun k => (pay6_apply v0 v1 q k).symm : ∀ k, _)]
  generalize k0_pay6 (F := Ideal) v0 v1 = y
  pointwise
  rfl

/-- The product with the transposed weights: the factors stand the other way round. -/
theorem pay2_apply (v : Vec Ideal S528x1024 .bf16) (e : Fin 528) : k0_pay2 (F := Ideal) (k0_pay6 v0 v1) v (ix2 e q)
    = rowDot (rms (fun k => v0 (ix2 q k)) (fun k => v1 (ix2 0 k))) (fun k e => v (ix2 e k)) e := by
  unfold k0_pay2
  simp only [funext (fun k => (pay6_apply v0 v1 q k).symm : ∀ k, _)]
  generalize k0_pay6 (F := Ideal) v0 v1 = y
  pointwise
  unfold rowDot
  exact Finset.sum_congr rfl fun k _ => mul_comm _ _

theorem pay3_apply (v : Vec Ideal S528x1024 .bf16) (e : Fin 256) : k0_pay3 (F := Ideal) y v (ix2 e q) = k0_pay2 (F := Ideal) y v (ix2 ⟨e.val, by omega⟩ q) := by
  unfold k0_pay3
  generalize k0_pay2 (F := Ideal) y v = z
  pointwise
  try rfl

theorem pay4_apply (v : Vec Ideal S528x1024 .bf16) (e : Fin 256) : k0_pay4 (F := Ideal) y v (ix2 e q) = k0_pay2 (F := Ideal) y v (ix2 ⟨256 + e.val, by omega⟩ q) := by
  unfold k0_pay4
  generalize k0_pay2 (F := Ideal) y v = z
  pointwise
  try rfl

theorem pay5_apply (v : Vec Ideal S528x1024 .bf16) (e : Fin 16) : k0_pay5 (F := Ideal) y v (ix2 e q) = k0_pay2 (F := Ideal) y v (ix2 ⟨512 + e.val, by omega⟩ q) := by
  unfold k0_pay5
  generalize k0_pay2 (F := Ideal) y v = z
  pointwise
  try rfl

end Payloads

/-! ### The blocks the body leaves, at an entry -/

section Blocks

variable (x0 : Vec Ideal S1024x1024 .f32) (x1 : Vec Ideal S1x1024 .f32) (x2 : Vec Ideal S1024x2560 .bf16) (x3 : Vec Ideal S528x1024 .bf16) (q : Fin 1024)

/-- Row `q` of the block of rows, normalised. -/
abbrev row : Fin 1024 → EReal := rms (fun k => x0 (ix2 q k)) (fun k => x1 (ix2 0 k))

/-- The normalised rows of the block, as the body's last part gets them. -/
theorem pay11_eq : k0_pay11 x0 x1 x2 x3 = k0_pay6 (F := Ideal) x0 x1 := by
  unfold k0_pay11
  rw [View.ld_unit_zero (by funext a; fin_cases a <;> rfl), View.ld_unit_zero (by funext a; fin_cases a <;> rfl)]

theorem out4_apply (j : Fin 256) : (out0_4 x0 x1 x2 x3 : Vec Ideal S1024x256 .f32) (ix2 q j)
    = rowDot (row x0 x1 q) (fun k e => x2 (ix2 k e)) ⟨j.val, by omega⟩ := by
  frame_out
  rw [pay7_apply]
  pointwise
  rfl

theorem out5_apply (j : Fin 1024) : (out0_5 x0 x1 x2 x3 : Vec Ideal S1024x1024 .f32) (ix2 q j)
    = rowDot (row x0 x1 q) (fun k e => x2 (ix2 k e)) ⟨256 + j.val, by omega⟩ := by
  frame_out
  rw [pay8_apply]
  pointwise
  rfl

theorem out6_apply (j : Fin 256) : (out0_6 x0 x1 x2 x3 : Vec Ideal S1024x256 .bf16) (ix2 q j)
    = rowDot (row x0 x1 q) (fun k e => x2 (ix2 k e)) ⟨1280 + j.val, by omega⟩ := by
  frame_out
  rw [pay9_apply]
  pointwise
  rfl

theorem out7_apply (j : Fin 1024) : (out0_7 x0 x1 x2 x3 : Vec Ideal S1024x1024 .f32) (ix2 q j)
    = rowDot (row x0 x1 q) (fun k e => x2 (ix2 k e)) ⟨1536 + j.val, by omega⟩ := by
  frame_out
  rw [pay11_eq, pay1_apply]
  pointwise
  rfl

theorem out8_apply (e : Fin 256) : (out0_8 x0 x1 x2 x3 : Vec Ideal S256x1024 .f32) (ix2 e q)
    = rowDot (row x0 x1 q) (fun k e => x3 (ix2 e k)) ⟨e.val, by omega⟩ := by
  frame_out
  rw [pay11_eq, pay3_apply, pay2_apply]

theorem out9_apply (e : Fin 256) : (out0_9 x0 x1 x2 x3 : Vec Ideal S256x1024 .bf16) (ix2 e q)
    = rowDot (row x0 x1 q) (fun k e => x3 (ix2 e k)) ⟨256 + e.val, by omega⟩ := by
  frame_out
  rw [pay11_eq, pay4_apply, pay2_apply]

theorem out10_apply (e : Fin 16) : (out0_10 x0 x1 x2 x3 : Vec Ideal S16x1024 .f32) (ix2 e q)
    = rowDot (row x0 x1 q) (fun k e => x3 (ix2 e k)) ⟨512 + e.val, by omega⟩ := by
  frame_out
  rw [pay11_eq, pay5_apply, pay2_apply]

end Blocks

/-! ### The blocks a grid point reads, at an entry -/

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val % 4, t.val / 4] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![0, t.val] := (by decide +kernel : ∀ t : Fin grid0.N, _)
theorem at9 : ∀ t : Fin cfg0.N, win0_9.index t = ![0, t.val] := (by decide +kernel : ∀ t : Fin grid0.N, _)
theorem at10 : ∀ t : Fin cfg0.N, win0_10.index t = ![t.val / 4, t.val % 4] := (by decide +kernel : ∀ t : Fin grid0.N, _)
theorem lt32 (t : Fin cfg0.N) : t.val < 32 := t.isLt.trans_eq N_0

theorem in0 (c : Dev nD) (t : Fin cfg0.N) (q : Fin 1024) (k : Fin 1024) (h : t.val * 1024 + q.val < 32768) :
    (iblk m c 0 t : FVec Ideal S1024x1024 .f32) (ix2 q k) = m ((c : Thread nD τ).loc main_arg0) (ix2 ⟨t.val * 1024 + q.val, h⟩ k) := by
  have e := at0 t
  blk_ext [iblk, V, e]

theorem in1 (c : Dev nD) (t : Fin cfg0.N) (j : Fin 1024) :
    (iblk m c 1 t : FVec Ideal S1x1024 .f32) (ix2 0 j) = m ((c : Thread nD τ).loc main_arg1) (ix1 j) := by
  have e := at1 t
  blk_ext! [iblk, V, e]

/-- The first host-prepared weight array: three column ranges joined. -/
theorem V9 (c : Dev nD) : (V m c main_v9 : FVec Ideal S1024x2560 .bf16) =
    (truncf .bf16 (concatenate S1024x2560 1 [⟨S1024x1280, (extractStridedSlice S1024x1280 ![0, 0] (m ((c : Thread nD τ).loc main_arg2)) slices_S1024x3084_S1024x1280_0_0 : (⟨S1024x1280, .f32⟩ : BufTy).Contents (Elt Ideal))⟩, ⟨S1024x256, (extractStridedSlice S1024x256 ![0, 1536] (m ((c : Thread nD τ).loc main_arg2)) slices_S1024x3084_S1024x256_0_1536 : (⟨S1024x256, .f32⟩ : BufTy).Contents (Elt Ideal))⟩, ⟨S1024x1024, (extractStridedSlice S1024x1024 ![0, 2052] (m ((c : Thread nD τ).loc main_arg2)) slices_S1024x3084_S1024x1024_0_2052 : (⟨S1024x1024, .f32⟩ : BufTy).Contents (Elt Ideal))⟩]
      concatenates_S1024x1280_S1024x256_S1024x1024_S1024x2560_d1) bitsLt_bf16_f32 : FVec Ideal S1024x2560 .bf16) := by
  show StableHlo.after hostOps0 (fun b => m (c, b)) (main_v9 : Ref sig .tc) = _
  after_results_simp <;> (try dsimp only [Matrix.cons_val]) <;> (try after_results_simp) <;> rfl

/-- The second host-prepared weight array: two column ranges and the gates' columns joined, transposed. -/
theorem V14 (c : Dev nD) : (V m c main_v14 : FVec Ideal S528x1024 .bf16) =
    (truncf .bf16 (transpose S528x1024 [1, 0] (concatenate S1024x528 1 [⟨S1024x256, (extractStridedSlice S1024x256 ![0, 1280] (m ((c : Thread nD τ).loc main_arg2)) slices_S1024x3084_S1024x256_0_1280 : (⟨S1024x256, .f32⟩ : BufTy).Contents (Elt Ideal))⟩, ⟨S1024x256, (extractStridedSlice S1024x256 ![0, 1792] (m ((c : Thread nD τ).loc main_arg2)) slices_S1024x3084_S1024x256_0_1792 : (⟨S1024x256, .f32⟩ : BufTy).Contents (Elt Ideal))⟩,
      ⟨S1024x16, (concatenate S1024x16 1 [⟨S1024x4, (extractStridedSlice S1024x4 ![0, 2048] (m ((c : Thread nD τ).loc main_arg2)) slices_S1024x3084_S1024x4_0_2048 : (⟨S1024x4, .f32⟩ : BufTy).Contents (Elt Ideal))⟩, ⟨S1024x4, (extractStridedSlice S1024x4 ![0, 3076] (m ((c : Thread nD τ).loc main_arg2)) slices_S1024x3084_S1024x4_0_3076 : (⟨S1024x4, .f32⟩ : BufTy).Contents (Elt Ideal))⟩, ⟨S1024x4, (extractStridedSlice S1024x4 ![0, 3080] (m ((c : Thread nD τ).loc main_arg2)) slices_S1024x3084_S1024x4_0_3080 : (⟨S1024x4, .f32⟩ : BufTy).Contents (Elt Ideal))⟩, ⟨S1024x4, (broadcastInDim S1024x4 ![] bcast_S_S1024x4 (constant (F := Ideal) S_ .f32 0x00000000#32) : (⟨S1024x4, .f32⟩ : BufTy).Contents (Elt Ideal))⟩] concatenates_S1024x4_S1024x4_S1024x4_S1024x4_S1024x16_d1 : (⟨S1024x16, .f32⟩ : BufTy).Contents (Elt Ideal))⟩]
      concatenates_S1024x256_S1024x256_S1024x16_S1024x528_d1) transposes_S1024x528_S528x1024_1_0) bitsLt_bf16_f32 : FVec Ideal S528x1024 .bf16) := by
  show StableHlo.after hostOps0 (fun b => m (c, b)) (main_v14 : Ref sig .tc) = _
  after_results_simp <;> (try dsimp only [Matrix.cons_val]) <;> (try after_results_simp) <;> rfl

/-- The prepared weights of the four results laid out by rows: three ranges of the columns. -/
theorem w2 (c : Dev nD) (k : Fin 1024) (e : Fin 2560) :
    (V m c main_v9 : FVec Ideal S1024x2560 .bf16) (ix2 k e) = m ((c : Thread nD τ).loc main_arg2) (ix2 k
      (if _ : e.val < 1280 then ⟨e.val, by omega⟩ else if _ : e.val < 1536 then ⟨e.val + 256, by omega⟩ else ⟨e.val + 516, by omega⟩)) := by
  rw [V9]
  generalize (m ((c : Thread nD τ).loc main_arg2) : FVec Ideal S1024x3084 .f32) = w
  pointwise
  by_cases h0 : e.val < 1280
  · rw [dif_pos h0, dif_pos h0]
  rw [dif_neg h0, dif_neg h0]
  by_cases h1 : e.val < 1536
  · rw [dif_pos h1, dif_pos (by omega)]
    exact congrArg (fun z => w (ix2 k z)) (Fin.ext (by show 1536 + (e.val - 1280) = e.val + 256; omega))
  rw [dif_neg h1, dif_neg (by omega)]
  exact congrArg (fun z => w (ix2 k z)) (Fin.ext (by show 2052 + (e.val - 1280 - 256) = e.val + 516; omega))

theorem in2 (c : Dev nD) (t : Fin cfg0.N) (k : Fin 1024) (e : Fin 2560) :
    (iblk m c 2 t : FVec Ideal S1024x2560 .bf16) (ix2 k e) = (V m c main_v9 : FVec Ideal S1024x2560 .bf16) (ix2 k e) := by
  have e := at2 t
  blk_ext [iblk, e]

/-- The prepared weights of the three transposed results, the gates' last four rows zero. -/
theorem w3 (c : Dev nD) (k : Fin 1024) (e : Fin 528) :
    (V m c main_v14 : FVec Ideal S528x1024 .bf16) (ix2 e k) =
      if _ : e.val < 256 then (m ((c : Thread nD τ).loc main_arg2) : FVec Ideal S1024x3084 .f32) (ix2 k ⟨e.val + 1280, by omega⟩)
      else if _ : e.val < 516 then (m ((c : Thread nD τ).loc main_arg2) : FVec Ideal S1024x3084 .f32) (ix2 k ⟨e.val + 1536, by omega⟩)
      else if _ : e.val < 524 then (m ((c : Thread nD τ).loc main_arg2) : FVec Ideal S1024x3084 .f32) (ix2 k ⟨e.val + 2560, by omega⟩)
      else (0 : EReal) := by
  rw [V14]
  generalize (m ((c : Thread nD τ).loc main_arg2) : FVec Ideal S1024x3084 .f32) = w
  pointwise
  have at' : ∀ {a b : ℕ} (ha : a < 3084) (hb : b < 3084), a = b → w (ix2 k ⟨a, ha⟩) = w (ix2 k ⟨b, hb⟩) := by
    rintro a _ ha hb rfl
    rfl
  by_cases h0 : e.val < 256
  · rw [dif_pos h0, dif_pos h0]
    exact at' _ _ (by omega)
  rw [dif_neg h0, dif_neg h0]
  by_cases h1 : e.val < 512
  · rw [dif_pos (by omega), dif_pos (by omega)]
    exact at' _ _ (by omega)
  rw [dif_neg (by omega)]
  by_cases h2 : e.val < 516
  · rw [dif_pos (by omega), dif_pos (by omega)]
    exact at' _ _ (by omega)
  rw [dif_neg (by omega), dif_neg h2]
  by_cases h3 : e.val < 520
  · rw [dif_pos (by omega), dif_pos (by omega)]
    exact at' _ _ (by omega)
  rw [dif_neg (by omega)]
  by_cases h4 : e.val < 524
  · rw [dif_pos (by omega), dif_pos (by omega)]
    exact at' _ _ (by omega)
  rw [dif_neg (by omega), dif_neg h4]

theorem in3 (c : Dev nD) (t : Fin cfg0.N) (e : Fin 528) (k : Fin 1024) :
    (iblk m c 3 t : FVec Ideal S528x1024 .bf16) (ix2 e k) = (V m c main_v14 : FVec Ideal S528x1024 .bf16) (ix2 e k) := by
  have e := at3 t
  blk_ext [iblk, e]

/-! ### A row of a block times a column of the prepared weights -/

section Columns

variable (c : Dev nD)

/-- The three arguments on device `c`. -/
abbrev argH : FVec Ideal S32768x1024 .f32 := m ((c : Thread nD τ).loc main_arg0)
abbrev argG : FVec Ideal S1024 .f32 := m ((c : Thread nD τ).loc main_arg1)
abbrev argW : FVec Ideal S1024x3084 .f32 := m ((c : Thread nD τ).loc main_arg2)

theorem row_eq (t : Fin cfg0.N) (q : Fin 1024) (r : Fin 32768) (hr : r.val = t.val * 1024 + q.val) :
    row (iblk m c 0 t) (iblk m c 1 t) q = rms (fun k => argH m c (ix2 r k)) (fun k => argG m c (ix1 k)) := by
  have h : t.val * 1024 + q.val < 32768 := hr ▸ r.isLt
  obtain rfl : r = ⟨t.val * 1024 + q.val, h⟩ := Fin.ext hr
  unfold row
  simp only [in0 m c t q _ h, in1]

theorem col2 (t : Fin cfg0.N) (q : Fin 1024) (e : Fin 2560) (r : Fin 32768) (e' : Fin 3084) (hr : r.val = t.val * 1024 + q.val)
    (he : e'.val = if e.val < 1280 then e.val else if e.val < 1536 then e.val + 256 else e.val + 516) :
    rowDot (row (iblk m c 0 t) (iblk m c 1 t) q) (fun k e => (iblk m c 2 t : FVec Ideal S1024x2560 .bf16) (ix2 k e)) e
      = proj (argH m c) (argG m c) (argW m c) r e' := by
  rw [row_eq m c t q r hr]
  refine Finset.sum_congr rfl fun k _ => congrArg _ (((in2 m c t k e).trans (w2 m c k e)).trans (congrArg (fun z => argW m c (ix2 k z)) (Fin.ext ?_)))
  rw [he]
  split_ifs <;> rfl

theorem col3 (t : Fin cfg0.N) (q : Fin 1024) (e : Fin 528) (r : Fin 32768) (e' : Fin 3084) (hr : r.val = t.val * 1024 + q.val)
    (hlt : e.val < 524) (he : e'.val = if e.val < 256 then e.val + 1280 else if e.val < 516 then e.val + 1536 else e.val + 2560) :
    rowDot (row (iblk m c 0 t) (iblk m c 1 t) q) (fun k e => (iblk m c 3 t : FVec Ideal S528x1024 .bf16) (ix2 e k)) e
      = proj (argH m c) (argG m c) (argW m c) r e' := by
  rw [row_eq m c t q r hr]
  suffices hw : ∀ k, (iblk m c 3 t : FVec Ideal S528x1024 .bf16) (ix2 e k) = argW m c (ix2 k e') from
    Finset.sum_congr rfl fun k _ => congrArg _ (hw k)
  intro k
  refine ((in3 m c t e k).trans (w3 m c k e)).trans ?_
  by_cases h0 : e.val < 256
  · rw [dif_pos h0]
    exact congrArg (fun z => argW m c (ix2 k z)) (Fin.ext (by rw [he, if_pos h0]))
  rw [dif_neg h0]
  by_cases h1 : e.val < 516
  · rw [dif_pos h1]
    exact congrArg (fun z => argW m c (ix2 k z)) (Fin.ext (by rw [he, if_neg h0, if_pos h1]))
  rw [dif_neg h1, dif_pos hlt]
  exact congrArg (fun z => argW m c (ix2 k z)) (Fin.ext (by rw [he, if_neg h0, if_neg h1]))

/-- The gates' last four rows: every weight is zero. -/
theorem col3_zero (t : Fin cfg0.N) (q : Fin 1024) (e : Fin 528) (hge : ¬ e.val < 524) :
    rowDot (row (iblk m c 0 t) (iblk m c 1 t) q) (fun k e => (iblk m c 3 t : FVec Ideal S528x1024 .bf16) (ix2 e k)) e = 0 := by
  refine Finset.sum_eq_zero fun k _ => ?_
  have hw : (iblk m c 3 t : FVec Ideal S528x1024 .bf16) (ix2 e k) = (0 : EReal) := by
    rw [in3, w3, dif_neg (by omega), dif_neg (by omega), dif_neg hge]
  exact (congrArg _ hw).trans (mul_zero _)

end Columns

/-! ### The result arrays after the run -/

section Arrays

variable (c : Dev nD)

theorem final4 : (dats m 0 c).arrAt 4 cfg0.N = want4 (argH m c) (argG m c) (argW m c) := by
  refine (dats m 0 c).arrAt_eq_of_covers 4 _ (by decide +kernel) fun t _ y => ?_
  blk_simp
  rw [after0_4]
  obtain ⟨q, j, rfl⟩ : ∃ (q : Fin 1024) (j : Fin 256), y = ix2 q j := ⟨y 0, y 1, eq_ix2 y⟩
  refine (out4_apply _ _ _ _ q j).trans ?_
  have ht := lt32 t
  have e0 : ((win0_4.blk t).view.emb (ix2 q j) : S4096x2048.Idx) = ix2 ⟨t.val % 4 * 1024 + q.val, by omega⟩ ⟨t.val / 4 * 256 + j.val, by omega⟩ := by
    have e := at4 t
    blk_ext [e]
  refine Eq.trans ?_ (congrArg (want4 (argH m c) (argG m c) (argW m c)) e0).symm
  refine col2 m c t q _ _ _ ?_ ?_
  · show (t.val / 4 * 256 + j.val) / 256 * 4096 + (t.val % 4 * 1024 + q.val) = _
    omega
  · show (t.val / 4 * 256 + j.val) % 256 = if j.val < 1280 then j.val else _
    rw [if_pos (by omega)]
    omega

theorem final5 : (dats m 0 c).arrAt 5 cfg0.N = want5 (argH m c) (argG m c) (argW m c) := by
  refine (dats m 0 c).arrAt_eq_of_covers 5 _ (by decide +kernel) fun t _ y => ?_
  blk_simp
  rw [after0_5]
  obtain ⟨q, j, rfl⟩ : ∃ (q : Fin 1024) (j : Fin 1024), y = ix2 q j := ⟨y 0, y 1, eq_ix2 y⟩
  refine (out5_apply _ _ _ _ q j).trans ?_
  have ht := lt32 t
  have e0 : ((win0_5.blk t).view.emb (ix2 q j) : S32768x1024.Idx) = ix2 ⟨t.val * 1024 + q.val, by omega⟩ j := by
    have e := at5 t
    blk_ext [e]
  refine Eq.trans ?_ (congrArg (want5 (argH m c) (argG m c) (argW m c)) e0).symm
  refine col2 m c t q _ _ _ rfl ?_
  show j.val + 256 = if 256 + j.val < 1280 then 256 + j.val else _
  rw [if_pos (by omega)]
  omega

theorem final6 : (dats m 0 c).arrAt 6 cfg0.N = want6 (argH m c) (argG m c) (argW m c) := by
  refine (dats m 0 c).arrAt_eq_of_covers 6 _ (by decide +kernel) fun t _ y => ?_
  blk_simp
  rw [after0_6]
  obtain ⟨q, j, rfl⟩ : ∃ (q : Fin 1024) (j : Fin 256), y = ix2 q j := ⟨y 0, y 1, eq_ix2 y⟩
  refine (out6_apply _ _ _ _ q j).trans ?_
  have ht := lt32 t
  have e0 : ((win0_6.blk t).view.emb (ix2 q j) : S32768x256.Idx) = ix2 ⟨t.val * 1024 + q.val, by omega⟩ j := by
    have e := at6 t
    blk_ext [e]
  refine Eq.trans ?_ (congrArg (want6 (argH m c) (argG m c) (argW m c)) e0).symm
  refine col2 m c t q _ _ _ rfl ?_
  show j.val + 1536 = if 1280 + j.val < 1280 then _ else if 1280 + j.val < 1536 then 1280 + j.val + 256 else _
  rw [if_neg (by omega), if_pos (by omega)]
  omega

theorem final7 : (dats m 0 c).arrAt 7 cfg0.N = want7 (argH m c) (argG m c) (argW m c) := by
  refine (dats m 0 c).arrAt_eq_of_covers 7 _ (by decide +kernel) fun t _ y => ?_
  blk_simp
  rw [after0_7]
  obtain ⟨q, j, rfl⟩ : ∃ (q : Fin 1024) (j : Fin 1024), y = ix2 q j := ⟨y 0, y 1, eq_ix2 y⟩
  refine (out7_apply _ _ _ _ q j).trans ?_
  have ht := lt32 t
  have e0 : ((win0_7.blk t).view.emb (ix2 q j) : S32768x1024.Idx) = ix2 ⟨t.val * 1024 + q.val, by omega⟩ j := by
    have e := at7 t
    blk_ext [e]
  refine Eq.trans ?_ (congrArg (want7 (argH m c) (argG m c) (argW m c)) e0).symm
  refine col2 m c t q _ _ _ rfl ?_
  show j.val + 2052 = if 1536 + j.val < 1280 then _ else if 1536 + j.val < 1536 then _ else 1536 + j.val + 516
  rw [if_neg (by omega), if_neg (by omega)]
  omega

theorem final8 : (dats m 0 c).arrAt 8 cfg0.N = want8 (argH m c) (argG m c) (argW m c) := by
  refine (dats m 0 c).arrAt_eq_of_covers 8 _ (by decide +kernel) fun t _ y => ?_
  blk_simp
  rw [after0_8]
  obtain ⟨j, q, rfl⟩ : ∃ (j : Fin 256) (q : Fin 1024), y = ix2 j q := ⟨y 0, y 1, eq_ix2 y⟩
  refine (out8_apply _ _ _ _ q j).trans ?_
  have ht := lt32 t
  have e0 : ((win0_8.blk t).view.emb (ix2 j q) : S256x32768.Idx) = ix2 j ⟨t.val * 1024 + q.val, by omega⟩ := by
    have e := at8 t
    blk_ext [e]
  refine Eq.trans ?_ (congrArg (want8 (argH m c) (argG m c) (argW m c)) e0).symm
  refine col3 m c t q _ _ _ rfl (by show j.val < 524; omega) ?_
  show j.val + 1280 = if j.val < 256 then j.val + 1280 else _
  rw [if_pos j.isLt]

theorem final9 : (dats m 0 c).arrAt 9 cfg0.N = want9 (argH m c) (argG m c) (argW m c) := by
  refine (dats m 0 c).arrAt_eq_of_covers 9 _ (by decide +kernel) fun t _ y => ?_
  blk_simp
  rw [after0_9]
  obtain ⟨j, q, rfl⟩ : ∃ (j : Fin 256) (q : Fin 1024), y = ix2 j q := ⟨y 0, y 1, eq_ix2 y⟩
  refine (out9_apply _ _ _ _ q j).trans ?_
  have ht := lt32 t
  have e0 : ((win0_9.blk t).view.emb (ix2 j q) : S256x32768.Idx) = ix2 j ⟨t.val * 1024 + q.val, by omega⟩ := by
    have e := at9 t
    blk_ext [e]
  refine Eq.trans ?_ (congrArg (want9 (argH m c) (argG m c) (argW m c)) e0).symm
  refine col3 m c t q _ _ _ rfl (by show 256 + j.val < 524; omega) ?_
  show j.val + 1792 = if 256 + j.val < 256 then _ else if 256 + j.val < 516 then 256 + j.val + 1536 else _
  rw [if_neg (by omega), if_pos (by omega)]
  omega

theorem final10 : (dats m 0 c).arrAt 10 cfg0.N = want10 (argH m c) (argG m c) (argW m c) := by
  refine (dats m 0 c).arrAt_eq_of_covers 10 _ (by decide +kernel) fun t _ y => ?_
  blk_simp
  rw [after0_10]
  obtain ⟨j, q, rfl⟩ : ∃ (j : Fin 16) (q : Fin 1024), y = ix2 j q := ⟨y 0, y 1, eq_ix2 y⟩
  refine (out10_apply _ _ _ _ q j).trans ?_
  have ht := lt32 t
  have e0 : ((win0_10.blk t).view.emb (ix2 j q) : S128x4096.Idx) = ix2 ⟨t.val / 4 * 16 + j.val, by omega⟩ ⟨t.val % 4 * 1024 + q.val, by omega⟩ := by
    have e := at10 t
    blk_ext [e]
  refine Eq.trans ?_ (congrArg (want10 (argH m c) (argG m c) (argW m c)) e0).symm
  show _ = gate (argH m c) (argG m c) (argW m c) ⟨t.val / 4 * 16 + j.val, _⟩ ⟨t.val % 4 * 1024 + q.val, _⟩
  unfold gate
  have hm : (t.val / 4 * 16 + j.val) % 16 = j.val := by omega
  by_cases h0 : j.val < 4
  · rw [dif_pos (show (t.val / 4 * 16 + j.val) % 16 < 4 by omega)]
    refine col3 m c t q _ _ _ ?_ (by show 512 + j.val < 524; omega) ?_
    · show (t.val / 4 * 16 + j.val) / 16 * 4096 + (t.val % 4 * 1024 + q.val) = _
      omega
    · show (t.val / 4 * 16 + j.val) % 16 + 2048 = if 512 + j.val < 256 then _ else if 512 + j.val < 516 then 512 + j.val + 1536 else _
      rw [if_neg (by omega), if_pos (by omega)]
      omega
  rw [dif_neg (show ¬ (t.val / 4 * 16 + j.val) % 16 < 4 by omega)]
  by_cases h1 : j.val < 12
  · rw [dif_pos (show (t.val / 4 * 16 + j.val) % 16 < 12 by omega)]
    refine col3 m c t q _ _ _ ?_ (by show 512 + j.val < 524; omega) ?_
    · show (t.val / 4 * 16 + j.val) / 16 * 4096 + (t.val % 4 * 1024 + q.val) = _
      omega
    · show (t.val / 4 * 16 + j.val) % 16 + 3072 = if 512 + j.val < 256 then _ else if 512 + j.val < 516 then _ else 512 + j.val + 2560
      rw [if_neg (by omega), if_neg (by omega)]
      omega
  rw [dif_neg (show ¬ (t.val / 4 * 16 + j.val) % 16 < 12 by omega)]
  exact col3_zero m c t q _ (by show ¬ 512 + j.val < 524; omega)

end Arrays

end Cert.Kernel2Ideal.Final

end
-- ==== Proof.InProjRef.lean ====
/-
  The reference's seven results of the input projection: the same columns of the same projection.
-/
module

public import proofs.«01_k».proof.Proof.InProj
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.Columns

open Cert.Reference2Ideal Cert.Reference2Ideal.Gen Cert.Reference2Ideal.Read Cert.Layer
open Cert.Kernel2Ideal.Final (proj steps gate want4 want5 want6 want7 want8 want9 want10)

variable (x0 : FVec Ideal S32768x1024 .f32) (x1 : FVec Ideal S1024 .f32) (x2 : FVec Ideal S1024x3084 .f32)

theorem v12_apply (r : Fin 32768) (k : Fin 1024) : val_main_v12 (F := Ideal) x0 x1 (ix2 r k)
    = rms (fun k => x0 (ix2 r k)) (fun k => x1 (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The whole projection. -/
theorem v13_apply (r : Fin 32768) (e : Fin 3084) : val_main_v13 (F := Ideal) x0 x1 x2 (ix2 r e) = proj x0 x1 x2 r e := by
  unfold proj
  simp only [funext (fun k => (v12_apply x0 x1 r k).symm : ∀ k, _)]
  unfold val_main_v13
  generalize val_main_v12 (F := Ideal) x0 x1 = y
  pointwise
  rfl

/-- Two spellings of one column. -/
theorem same (y : FVec Ideal S32768x3084 .f32) (r : Fin 32768) {a b : ℕ} (ha : a < 3084) (hb : b < 3084) (h : a = b) :
    y (ix2 r ⟨a, ha⟩) = y (ix2 r ⟨b, hb⟩) := by
  subst h
  rfl

/-! ### The seven results -/

theorem v31_eq : val_main_v31 (F := Ideal) x0 x1 x2 = want4 x0 x1 x2 := by
  funext i
  obtain ⟨p, q, rfl⟩ : ∃ (p : Fin 4096) (q : Fin 2048), i = ix2 p q := ⟨i 0, i 1, eq_ix2 i⟩
  unfold val_main_v31 val_main_v30 val_main_v29 val_main_v14
  show _ = proj x0 x1 x2 ⟨q.val / 256 * 4096 + p.val, _⟩ ⟨q.val % 256, _⟩
  rw [← v13_apply]
  generalize val_main_v13 (F := Ideal) x0 x1 x2 = y
  pointwise

theorem v34_eq : val_main_v34 (F := Ideal) x0 x1 x2 = want5 x0 x1 x2 := by
  funext i
  obtain ⟨p, q, rfl⟩ : ∃ (p : Fin 32768) (q : Fin 1024), i = ix2 p q := ⟨i 0, i 1, eq_ix2 i⟩
  unfold val_main_v34 val_main_v15 val_main_v16 val_main_v17 val_main_v18
  show _ = proj x0 x1 x2 p ⟨q.val + 256, _⟩
  rw [← v13_apply]
  generalize val_main_v13 (F := Ideal) x0 x1 x2 = y
  pointwise
  by_cases h0 : q.val < 256
  · rw [dif_pos h0]
    exact same y p _ _ (by omega)
  rw [dif_neg h0]
  by_cases h1 : q.val < 512
  · rw [dif_pos (by omega)]
    exact same y p _ _ (by omega)
  rw [dif_neg (by omega)]
  by_cases h2 : q.val < 768
  · rw [dif_pos (by omega)]
    exact same y p _ _ (by omega)
  rw [dif_neg (by omega)]
  exact same y p _ _ (by omega)

theorem v35_eq : val_main_v35 (F := Ideal) x0 x1 x2 = want6 x0 x1 x2 := by
  funext i
  obtain ⟨p, q, rfl⟩ : ∃ (p : Fin 32768) (q : Fin 256), i = ix2 p q := ⟨i 0, i 1, eq_ix2 i⟩
  unfold val_main_v35 val_main_v20
  show _ = proj x0 x1 x2 p ⟨q.val + 1536, _⟩
  rw [← v13_apply]
  generalize val_main_v13 (F := Ideal) x0 x1 x2 = y
  pointwise
  exact same y p _ _ (by omega)

theorem v36_eq : val_main_v36 (F := Ideal) x0 x1 x2 = want7 x0 x1 x2 := by
  funext i
  obtain ⟨p, q, rfl⟩ : ∃ (p : Fin 32768) (q : Fin 1024), i = ix2 p q := ⟨i 0, i 1, eq_ix2 i⟩
  unfold val_main_v36 val_main_v23 val_main_v24 val_main_v25 val_main_v26
  show _ = proj x0 x1 x2 p ⟨q.val + 2052, _⟩
  rw [← v13_apply]
  generalize val_main_v13 (F := Ideal) x0 x1 x2 = y
  pointwise
  by_cases h0 : q.val < 256
  · rw [dif_pos h0]
    exact same y p _ _ (by omega)
  rw [dif_neg h0]
  by_cases h1 : q.val < 512
  · rw [dif_pos (by omega)]
    exact same y p _ _ (by omega)
  rw [dif_neg (by omega)]
  by_cases h2 : q.val < 768
  · rw [dif_pos (by omega)]
    exact same y p _ _ (by omega)
  rw [dif_neg (by omega)]
  exact same y p _ _ (by omega)

theorem v37_eq : val_main_v37 (F := Ideal) x0 x1 x2 = want8 x0 x1 x2 := by
  funext i
  obtain ⟨p, q, rfl⟩ : ∃ (p : Fin 256) (q : Fin 32768), i = ix2 p q := ⟨i 0, i 1, eq_ix2 i⟩
  unfold val_main_v37 val_main_v19
  show _ = proj x0 x1 x2 q ⟨p.val + 1280, _⟩
  rw [← v13_apply]
  generalize val_main_v13 (F := Ideal) x0 x1 x2 = y
  pointwise
  exact same y q _ _ (by omega)

theorem v39_eq : val_main_v39 (F := Ideal) x0 x1 x2 = want9 x0 x1 x2 := by
  funext i
  obtain ⟨p, q, rfl⟩ : ∃ (p : Fin 256) (q : Fin 32768), i = ix2 p q := ⟨i 0, i 1, eq_ix2 i⟩
  unfold val_main_v39 val_main_v38 val_main_v21
  show _ = proj x0 x1 x2 q ⟨p.val + 1792, _⟩
  rw [← v13_apply]
  generalize val_main_v13 (F := Ideal) x0 x1 x2 = y
  pointwise
  exact same y q _ _ (by omega)

theorem v42_eq : val_main_v42 (F := Ideal) x0 x1 x2 = want10 x0 x1 x2 := by
  funext i
  obtain ⟨p, q, rfl⟩ : ∃ (p : Fin 128) (q : Fin 4096), i = ix2 p q := ⟨i 0, i 1, eq_ix2 i⟩
  unfold val_main_v42 val_main_v41 val_main_v40 val_main_v33 val_main_v22 val_main_v27 val_main_v28 val_main_v32 val_main_cst_2
  show _ = gate x0 x1 x2 p q
  unfold gate
  simp only [← v13_apply]
  generalize val_main_v13 (F := Ideal) x0 x1 x2 = y
  pointwise
  by_cases h0 : p.val % 16 < 4
  · rw [dif_pos h0, dif_pos h0]
    exact same y _ _ _ (by omega)
  rw [dif_neg h0, dif_neg h0]
  by_cases h1 : p.val % 16 < 8
  · rw [dif_pos (by omega), dif_pos (by omega)]
    exact same y _ _ _ (by omega)
  rw [dif_neg (by omega)]
  by_cases h2 : p.val % 16 < 12
  · rw [dif_pos (by omega), dif_pos h2]
    exact same y _ _ _ (by omega)
  rw [dif_neg (by omega), dif_neg h2]

end Cert.Reference2Ideal.Columns

end
-- ==== Proof.FoxRun.lean ====
module
public import proofs.«01_k».proof.Proof.Gen.Kernel3Ideal.Frame
public import proofs.«01_k».proof.Proof.Gen.Kernel3Ideal.Skeleton
public import proofs.«01_k».proof.Proof.Gen.Kernel3Ideal.Loops

/-! # One grid point of the forgetting-attention call, run

The body is two stretches.  The first, at a batch row's first query tile only, fills the scratch with
the augmented keys of the four heads.  The second reads the scratch and stores the one output block.
Each stretch is run once here, on any staging buffers: `fillRun` and `restRun`; `body_eq` says the
body is the one after the other. -/

@[expose] public section

set_option maxRecDepth 16384

noncomputable section

namespace Cert.Kernel3Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

/-- The first stretch: at a batch row's first query tile, the loop that fills the scratch. -/
def fill (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) :
    Prog (TpuEff nD τ sig (Elt F) Λ₀ .tc) PUnit :=
  if k0_h1 : k0_cond1 i = 1#1 then do
    Scf.Loop.for k0_t1_loop (k0_t1_ok i k0_h1) ⟨⟩ (k0_t1_body i arg2 harg2 arg3 harg3 arg4 harg4 arg5 harg5 arg6 harg6 arg7 harg7 arg8 harg8 arg9 harg9 k0_h1)
    pure ⟨⟩
  else do
    pure ⟨⟩

/-- The second stretch: everything after the fill. -/
def rest (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) :
    Prog (TpuEff nD τ sig (Elt F) Λ₀ .tc) PUnit := do
  let v3 : Vec F S256x1024 .f32 ← Prog.lift (.load arg2 (Rect.unit (s := S256x1024) ![0, 0] S256x1024.size inb_S256x1024_S256x1024_0_0).toLoadRect (View.loadsAt_vmem h_S256x1024))
  let v16 : Vec F S1x1x1024 .f32 ← Prog.lift (.load arg6 (Rect.unit (s := S1x8x1024) ![0, 0, 0] S1x1x1024.size inb_S1x8x1024_S1x1x1024_0_0_0).toLoadRect (View.loadsAt_vmem h_S1x1x1024))
  let ⟨v73, v81, v84, v86, v87⟩ : Σ' (v73 : FVec F S256x1024 .f32) (v81 : FVec F S1x1024 .bf16) (v84 : FVec F S1x1024 .bf16) (v86 : IVec S256x1024 1), FVec F S1x1024 .f32 ← k0_part37 i arg2 harg2 arg3 harg3 arg4 harg4 arg5 harg5 arg6 harg6 arg7 harg7 arg8 harg8 arg9 harg9 (iota .tc S256x1024 32 [0] iota_S256x1024_d0_w32) (k0_pay284 v16) (k0_pay285 v16) k0_pay286
  let ⟨v131, v133, v135, cst_19⟩ : Σ' (v131 : FVec F S256x1024 .f32) (v133 : IVec S256x1024 1) (v135 : IVec S256x1024 1), F .f32 ← k0_part38 i arg2 harg2 arg3 harg3 arg4 harg4 arg5 harg5 arg6 harg6 arg7 harg7 arg8 harg8 arg9 harg9 (iota .tc S256x1024 32 [0] iota_S256x1024_d0_w32) k0_pay279 v73 v81 v84 v86 v87
  let ⟨v139, v147, v155, v163, v164, v165, v166, v167, v168, v169, v170, v171, v172, v173, v174, cst_39⟩ : Σ' (v139 : FVec F S256x1024 .bf16) (v147 : FVec F S256x1024 .bf16) (v155 : FVec F S256x1024 .bf16) (v163 : FVec F S256x1024 .bf16) (v164 : FVec F S16x512 .bf16) (v165 : FVec F S8x1024 .f32) (v166 : FVec F S8x1024 .f32) (v167 : FVec F S64x1024 .f32) (v168 : FVec F S8x1024 .f32) (v169 : FVec F S8x1024 .f32) (v170 : FVec F S64x1024 .f32) (v171 : FVec F S8x1024 .f32) (v172 : FVec F S8x1024 .f32) (v173 : FVec F S64x1024 .f32) (v174 : FVec F S8x1024 .f32), F .f32 ← k0_part39 i arg2 harg2 arg3 harg3 arg4 harg4 arg5 harg5 arg6 harg6 arg7 harg7 arg8 harg8 arg9 harg9 (k0_pay278 v3) k0_pay279 v131 v133 v135 cst_19
  let ⟨v177, v201_0, v201_1, v201_2, v201_3, v201_4, v201_5, v201_6, v201_7, v201_8, v201_9, v201_10, v201_11, v202, v203, v213⟩ : Σ' (v177 : BitVec 32) (v201_0 : FVec F S8x1024 .f32) (v201_1 : FVec F S8x1024 .f32) (v201_2 : FVec F S64x1024 .f32) (v201_3 : FVec F S8x1024 .f32) (v201_4 : FVec F S8x1024 .f32) (v201_5 : FVec F S64x1024 .f32) (v201_6 : FVec F S8x1024 .f32) (v201_7 : FVec F S8x1024 .f32) (v201_8 : FVec F S64x1024 .f32) (v201_9 : FVec F S8x1024 .f32) (v201_10 : FVec F S8x1024 .f32) (v201_11 : FVec F S64x1024 .f32) (v202 : BitVec 32) (v203 : BitVec 32), BitVec 32 ← k0_part40 i arg2 harg2 arg3 harg3 arg4 harg4 arg5 harg5 arg6 harg6 arg7 harg7 arg8 harg8 arg9 harg9 (BitVec.ofNat 32 (i 1).val) v139 v147 v155 v163 v164 v165 v166 v167 v168 v169 v170 v171 v172 v173 v174 cst_39
  let ⟨v230, v243, v256, v259, v261⟩ : Σ' (v230 : FVec F S64x1024 .f32) (v243 : FVec F S64x1024 .f32) (v256 : FVec F S64x1024 .f32) (v259 : FVec F S64x1024 .f32), FVec F S1024 .f32 ← k0_part41 i arg2 harg2 arg3 harg3 arg4 harg4 arg5 harg5 arg6 harg6 arg7 harg7 arg8 harg8 arg9 harg9 v139 v147 v155 v163 v164 v177 v201_0 v201_1 v201_2 v201_3 v201_4 v201_5 v201_6 v201_7 v201_8 v201_9 v201_10 v201_11 v202 v203 v213
  let v271 : Vec F S256x1 .f32 ← Prog.lift (.load arg7 (Rect.unit (s := S256x1) ![0, 0] S256x1.size inb_S256x1_S256x1_0_0).toLoadRect (View.loadsAt_vmem h_S256x1))
  let v277 : Vec F S1024x256 .bf16 ← Prog.lift (.load arg8 (Rect.unit (s := S1024x256) ![0, 0] S1024x256.size inb_S1024x256_S1024x256_0_0).toLoadRect (View.loadsAt_vmem h_S1024x256))
  Prog.lift (.store arg8 (Rect.unit (s := S1024x256) ![0, 0] S1024x256.size inb_S1024x256_S1024x256_0_0) (k0_pay1 v230 v243 v256 v259 v261 v271) Finset.univ (View.stores_vmem h_S1024x256 (harg8.storeExact_slice rfl _ packedbf16_S1024x256_S1024x256_0_0) (fun _ => rfl)) (.inl rfl))
  pure ⟨⟩

set_option maxRecDepth 65536 in
/-- The body is the fill, then the rest. -/
theorem body_eq (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) :
    cc0_fox_mixer (F := F) i arg2 harg2 arg3 harg3 arg4 harg4 arg5 harg5 arg6 harg6 arg7 harg7 arg8 harg8 arg9 harg9 = (fill i arg2 harg2 arg3 harg3 arg4 harg4 arg5 harg5 arg6 harg6 arg7 harg7 arg8 harg8 arg9 harg9 >>= fun _ => rest i arg2 harg2 arg3 harg3 arg4 harg4 arg5 harg5 arg6 harg6 arg7 harg7 arg8 harg8 arg9 harg9) := by
  rw [cc0_fox_mixer_eq_skeleton]
  unfold cc0_fox_mixer_skel fill rest
  rw [k0_part36_eq_skeleton]
  unfold k0_part36_skel
  by_cases h : k0_cond1 i = 1#1
  · simp only [dif_pos h, bind_assoc, pure_bind]
  · simp only [dif_neg h, bind_assoc, pure_bind]

set_option maxHeartbeats 1000000 in
/-- The fill run from the key blocks of the two halves of the heads: the pieces it leaves in the scratch. -/
noncomputable def fillRun (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) (hc0 : k0_cond1 i = 1#1)
    (x1 : Vec F S4096x256 .bf16) (x2 : Vec F S4096x256 .bf16) :
    { LS0 : List (View.Piece (Elt F) S4x4096x256 .bf16) //
      ∀ (E : Set ℕ) (K : PUnit → sProp 𝕄),
        iprop(owns (c : Thread nD τ) arg3 fullShare x1 ∗ owns (c : Thread nD τ) arg4 fullShare x2 ∗ (∃ d, owns (c : Thread nD τ) arg9 fullShare d)
            ∗ (iprop(owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (fill i arg2 harg2 arg3 harg3 arg4 harg4 arg5 harg5 arg6 harg6 arg7 harg7 arg8 harg8 arg9 harg9) K } := by
  refine ⟨?_, fun E K => ?run⟩
  case run =>
    unfold fill
    unfold owns
    iintro ⟨⟨%f1, %hf1, H1⟩, ⟨%f2, %hf2, H2⟩, ⟨%ds0, %fs0, -, HS0⟩, Hk⟩
    obtain rfl := harg3.eq_unread hf1; obtain rfl := harg4.eq_unread hf2
    sl_exec (disch := first | sl_exact hc0)
    sl_step
    iapply Hk
    isplitl [H1]
    · iexists _; isplitr; · ipureintro; exact harg3.read_unread _
      iexact H1
    isplitl [H2]
    · iexists _; isplitr; · ipureintro; exact harg4.read_unread _
      iexact H2
    iexists _; iexact HS0

/-- Past a batch row's first query tile the fill does nothing. -/
theorem fill_skip (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) (hc0 : ¬ k0_cond1 i = 1#1) : fill (F := F) i arg2 harg2 arg3 harg3 arg4 harg4 arg5 harg5 arg6 harg6 arg7 harg7 arg8 harg8 arg9 harg9 = pure ⟨⟩ := dif_neg hc0

set_option maxHeartbeats 4000000 in
/-- The rest run over a scratch at any contents: the pieces it leaves in the output block. -/
noncomputable def restRun (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) (hc1 : ¬ k0_cond2 i = 1#1)
    (x0 : Vec F S256x1024 .f32) (x3 : Vec F S256x4096 .bf16) (x4 : Vec F S1x8x1024 .f32) (x5 : Vec F S256x1 .f32) (xs : Vec F S4x4096x256 .bf16) :
    { L6 : List (View.Piece (Elt F) S1024x256 .bf16) //
      ∀ (E : Set ℕ) (K : PUnit → sProp 𝕄),
        iprop(owns (c : Thread nD τ) arg2 fullShare x0 ∗ owns (c : Thread nD τ) arg5 fullShare x3 ∗ owns (c : Thread nD τ) arg6 fullShare x4 ∗ owns (c : Thread nD τ) arg7 fullShare x5 ∗ owns (c : Thread nD τ) arg9 fullShare xs ∗ (∃ d, owns (c : Thread nD τ) arg8 fullShare d)
            ∗ (iprop(owns (c : Thread nD τ) arg2 fullShare x0 ∗ owns (c : Thread nD τ) arg5 fullShare x3 ∗ owns (c : Thread nD τ) arg6 fullShare x4 ∗ owns (c : Thread nD τ) arg7 fullShare x5 ∗ owns (c : Thread nD τ) arg9 fullShare xs ∗ (∃ f, arg8.view.loc (c : Thread nD τ) ↦[arg8.view.set]{fullShare} arg8.view.writes (Elt F) f L6)) -∗ K ⟨⟩))
          ⊢ wp frame (wpE (defs₀ (F := F)) Variants.none c none) E (rest i arg2 harg2 arg3 harg3 arg4 harg4 arg5 harg5 arg6 harg6 arg7 harg7 arg8 harg8 arg9 harg9) K } := by
  refine ⟨?_, fun E K => ?run⟩
  case run =>
    unfold rest
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part37_eq_skeleton, k0_part38_eq_skeleton, k0_part39_eq_skeleton, k0_part40_eq_skeleton, k0_part41_eq_skeleton]
    unfold owns
    iintro ⟨⟨%f0, %hf0, H0⟩, ⟨%f3, %hf3, H3⟩, ⟨%f4, %hf4, H4⟩, ⟨%f5, %hf5, H5⟩, ⟨%fs, %hfs, HS⟩, ⟨%d6, %f6, -, H6⟩, Hk⟩
    obtain rfl := harg2.eq_unread hf0; obtain rfl := harg5.eq_unread hf3; obtain rfl := harg6.eq_unread hf4; obtain rfl := harg7.eq_unread hf5; obtain rfl := harg9.eq_unread hfs
    sl_exec (disch := first | sl_exact hc1)
    sl_step
    iapply Hk
    isplitl [H0]
    · iexists _; isplitr; · ipureintro; exact harg2.read_unread _
      iexact H0
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS]
    · iexists _; isplitr; · ipureintro; exact harg9.read_unread _
      iexact HS
    iexists _; iexact H6

end Cert.Kernel3Ideal.Fox

end
-- ==== Proof.FoxFrame.lean ====
module
public import proofs.«01_k».proof.Proof.FoxRun
public import Idealize.ShloMosaic.Lib.Claim

/-! # The forgetting-attention call, launched

The grid is 8 batch rows by 4 query tiles; point `t` is row `t / 4`, tile `t % 4`.  The first tile of a
row fills the scratch with that row's augmented keys, and the row's other tiles read what it left: the
invariant of the pipeline is that after point `t` the scratch holds the keys of row `t / 4`. -/

@[expose] public section

set_option maxRecDepth 16384

noncomputable section

namespace Cert.Kernel3Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The fill is taken exactly at a batch row's first query tile. -/
theorem firstTile_iff : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- The number of whole key tiles below a query tile is even, so the odd branch is never taken. -/
theorem neverOdd : ∀ t : Fin cfg0.N, ¬ k0_cond2 (grid0.coords t) = 1#1 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    have h : ∀ j : Fin 4, (grid0.coords t 1).val = j.val → ¬ k0_cond2 (grid0.coords t) = 1#1 := by
      intro j hj
      simp only [k0_cond2, hj]
      clear hj; revert j; decide
    exact h ⟨t.val / 1 % 4, Nat.mod_lt _ (by decide)⟩ e1
   : ∀ t : Fin grid0.N, ¬ k0_cond2 (grid0.coords t) = 1#1)

/-! Each window's current staging buffer at point `t`, and that it is whole. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)

/-- The scratch: a whole buffer of the kernel's own. -/
abbrev scM0_0 : Memref sig .tc .vmem S4x4096x256 .bf16 := Memref.whole cc0_scratch0

/-- The pipeline's invariant at the launch: the scratch at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the two stretches leave -/

/-- The fill's pieces cover the scratch. -/
theorem fillCover (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) (hc0 : k0_cond1 i = 1#1)
    (x1 : Vec F S4096x256 .bf16) (x2 : Vec F S4096x256 .bf16) (y : S4x4096x256.Idx) :
    ∃ pc ∈ (fillRun c i arg2 harg2 arg3 harg3 arg4 harg4 arg5 harg5 arg6 harg6 arg7 harg7 arg8 harg8 arg9 harg9 hc0 x1 x2).1, y ∈ pc.1.set :=
  View.cover_of_tiledL (fillRun c i arg2 harg2 arg3 harg3 arg4 harg4 arg5 harg5 arg6 harg6 arg7 harg7 arg8 harg8 arg9 harg9 hc0 x1 x2).1 S1x512x256.size (by sl_kernel_rfl) y

/-- The rest's piece covers the output block. -/
theorem outCover (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole) (hc1 : ¬ k0_cond2 i = 1#1)
    (x0 : Vec F S256x1024 .f32) (x3 : Vec F S256x4096 .bf16) (x4 : Vec F S1x8x1024 .f32) (x5 : Vec F S256x1 .f32) (xs : Vec F S4x4096x256 .bf16) (y : S1024x256.Idx) :
    ∃ pc ∈ (restRun c i arg2 harg2 arg3 harg3 arg4 harg4 arg5 harg5 arg6 harg6 arg7 harg7 arg8 harg8 arg9 harg9 hc1 x0 x3 x4 x5 xs).1, y ∈ pc.1.set :=
  View.cover_of_tiledL (restRun c i arg2 harg2 arg3 harg3 arg4 harg4 arg5 harg5 arg6 harg6 arg7 harg7 arg8 harg8 arg9 harg9 hc1 x0 x3 x4 x5 xs).1 S1024x256.size (by sl_kernel_rfl) y

/-- The augmented keys a row's first tile leaves in the scratch. -/
def keysOf (c : Dev nD) (t : Fin cfg0.N) (h0 : t.val % 4 = 0) : Vec F S4x4096x256 .bf16 :=
  scM0_0.view.read (Elt F) (scM0_0.view.writes (Elt F) scM0_0.view.junk
    (fillRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((firstTile_iff t).mpr h0) (iblk m c 1 t) (iblk m c 2 t)).1)

/-- The augmented keys in the scratch after point `n`: those of the first tile of its row. -/
def keysAt (c : Dev nD) (n : ℕ) (hn : n < cfg0.N) : Vec F S4x4096x256 .bf16 :=
  keysOf m c ⟨n / 4 * 4, by omega⟩ (Nat.mul_mod_left _ _)

theorem keysAt_first (c : Dev nD) (t : Fin cfg0.N) (h0 : t.val % 4 = 0) : keysAt m c t.val t.isLt = keysOf m c t h0 := by
  have e : ∀ (s : Fin cfg0.N) (hs : s.val % 4 = 0), s = t → keysOf m c s hs = keysOf m c t h0 := by
    rintro s hs rfl; rfl
  exact e _ _ (Fin.ext (by show t.val / 4 * 4 = t.val; omega))

theorem keysAt_later (c : Dev nD) (t : Fin cfg0.N) (h0 : ¬ t.val % 4 = 0) :
    keysAt m c (t.val - 1) (Nat.lt_of_le_of_lt (Nat.sub_le _ _) t.isLt) = keysAt m c t.val t.isLt := by
  have e : ∀ (s u : Fin cfg0.N) (hs : s.val % 4 = 0) (hu : u.val % 4 = 0), s = u → keysOf m c s hs = keysOf m c u hu := by
    rintro s u hs hu rfl; rfl
  exact e _ _ _ _ (Fin.ext (by show (t.val - 1) / 4 * 4 = t.val / 4 * 4; omega))

/-- What point `t` leaves in the output block. -/
def outAt (c : Dev nD) (t : Fin cfg0.N) : Vec F S1024x256 .bf16 :=
  (ms0_6 t).view.read (Elt F) ((ms0_6 t).view.writes (Elt F) (ms0_6 t).view.junk
    (restRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (neverOdd t) (iblk m c 0 t) (iblk m c 3 t) (iblk m c 4 t) (iblk m c 5 t) (keysAt m c t.val t.isLt)).1)

/-- The invariant before position `n`: at the launch, the scratch at anything; afterwards, the scratch at the
    keys of the row of the point before. -/
def PhiS (c : Dev nD) : (n : ℕ) → n ≤ cfg0.N → sProp 𝕄
  | 0, _ => Pipeline.ΦA spec0 c
  | n + 1, hn => iprop(iprop(owns (c : Thread nD τ) scM0_0 fullShare (keysAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (keysAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (keysAt m c (n - 1) (by omega))) ∗ (∃ r, prngReg c r)) := by
  cases n with
  | zero => exact absurd rfl hz
  | succ n => rfl

/-! ## The pipeline's proof data -/

/-- The arrays as the region finds them; after the body each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: fill and rest at a row's first tile, the rest alone, over the keys already there, at the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  unfold outAt
  by_cases h0 : t.val % 4 = 0
  · rw [keysAt_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      rw [wp_bind]
      iapply ((fillRun c (grid0.coords t) _ _ _ _ _ _ _ _ _ _ _ _ _ _ _ _ ((firstTile_iff t).mpr h0) (iblk m c 1 t) (iblk m c 2 t)).2 Set.univ _)
      isplitl [H1]; · iexact H1
      isplitl [H2]; · iexact H2
      isplitl [HS0]; · iexact HS0
      iintro ⟨H1, H2, ⟨%es0, HS0⟩⟩
      beta_reduce
      iapply ((restRun c (grid0.coords t) _ _ _ _ _ _ _ _ _ _ _ _ _ _ _ _ (neverOdd t) (iblk m c 0 t) (iblk m c 3 t) (iblk m c 4 t) (iblk m c 5 t) (keysOf m c t h0)).2 Set.univ _)
      isplitl [H0]; · iexact H0
      isplitl [H3]; · iexact H3
      isplitl [H4]; · iexact H4
      isplitl [H5]; · iexact H5
      isplitl [HS0]; · unfold owns; iexists _; isplitr
                       swap; · iexact HS0
                       ipureintro; exact View.read_writes_of_cover _ _ _ _ _ (fillCover _ _ _ _ _ _ _ _ _ _ _ _ _ _ _ _ _ _ _ _ _)
      isplitl [H6]; · iexists _; iexact H6
      iintro ⟨H0, H3, H4, H5, HS0, ⟨%e6, H6⟩⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      rw [wp_bind]
      iapply ((fillRun c (grid0.coords t) _ _ _ _ _ _ _ _ _ _ _ _ _ _ _ _ ((firstTile_iff t).mpr h0) (iblk m c 1 t) (iblk m c 2 t)).2 Set.univ _)
      isplitl [H1]; · iexact H1
      isplitl [H2]; · iexact H2
      isplitl [HS0]; · iexists _; iexact HS0
      iintro ⟨H1, H2, ⟨%es0, HS0⟩⟩
      beta_reduce
      iapply ((restRun c (grid0.coords t) _ _ _ _ _ _ _ _ _ _ _ _ _ _ _ _ (neverOdd t) (iblk m c 0 t) (iblk m c 3 t) (iblk m c 4 t) (iblk m c 5 t) (keysOf m c t h0)).2 Set.univ _)
      isplitl [H0]; · iexact H0
      isplitl [H3]; · iexact H3
      isplitl [H4]; · iexact H4
      isplitl [H5]; · iexact H5
      isplitl [HS0]; · unfold owns; iexists _; isplitr
                       swap; · iexact HS0
                       ipureintro; exact View.read_writes_of_cover _ _ _ _ _ (fillCover _ _ _ _ _ _ _ _ _ _ _ _ _ _ _ _ _ _ _ _ _)
      isplitl [H6]; · iexists _; iexact H6
      iintro ⟨H0, H3, H4, H5, HS0, ⟨%e6, H6⟩⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover _ _ _ _ _ _ _ _ _ _ _ _ _ _ _ _ _ _ _ _ _ _ _ _)
  · have hz : t.val ≠ 0 := by omega
    rw [fill_skip _ _ _ _ _ _ _ _ _ _ _ _ _ _ _ _ _ (fun h => h0 ((firstTile_iff t).mp h)), pure_bind]
    · rw [PhiS_castSucc m c t, PhiS_pos m c _ _ hz, keysAt_later m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((restRun c (grid0.coords t) _ _ _ _ _ _ _ _ _ _ _ _ _ _ _ _ (neverOdd t) (iblk m c 0 t) (iblk m c 3 t) (iblk m c 4 t) (iblk m c 5 t) (keysAt m c t.val t.isLt)).2 Set.univ _)
      isplitl [H0]; · iexact H0
      isplitl [H3]; · iexact H3
      isplitl [H4]; · iexact H4
      isplitl [H5]; · iexact H5
      isplitl [HS0]; · iexact HS0
      isplitl [H6]; · iexists _; iexact H6
      iintro ⟨H0, H3, H4, H5, HS0, ⟨%e6, H6⟩⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover _ _ _ _ _ _ _ _ _ _ _ _ _ _ _ _ _ _ _ _ _ _ _ _)
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The launch and the frame -/

set_option backward.isDefEq.respectTransparency.types false in
set_option maxHeartbeats 800000 in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel3Ideal.Fox

end
-- ==== Proof.FoxStep.lean ====
module
public import proofs.«01_k».proof.Proof.FoxFrame

/-! # One tile of keys, as an operation on a head's running values

A head carries three arrays: the greatest score so far of every query, the sum of the weights, and the
weighted sum of the values.  `step` is what one tile of 512 keys does to them, `late` what the last tile
does, which only the block's second half of the queries can see.  A trip of the loop is two `step`s of
each head (`trip_eq`), and the block stored is `block` of what the loop carries (`rest_eq`). -/

@[expose] public section

set_option maxRecDepth 65536

noncomputable section

namespace Cert.Kernel3Ideal.Fox

open Idealize.ShloMosaic Idealize.ShloMosaic.TcCoe Idealize.ShloMosaic.Tactic
open Cert.Kernel3Ideal.Gen

variable {F : FTy → Type} [FloatOps F] [Named F]

/-- A head's running values: greatest scores, sums of weights, weighted sums of values. -/
abbrev Carry (F : FTy → Type) : Type := FVec F S8x1024 .f32 × FVec F S8x1024 .f32 × FVec F S64x1024 .f32

/-- The greatest scores, the tile's scores taken in. -/
def newMax (u : FVec F S512x1024 .f32) (m : FVec F S8x1024 .f32) : FVec F S8x1024 .f32 :=
  maximumf m (broadcastTo S8x1024 (shapeCast S1x1024 (multiReduction .maximumf [0] S1024 u 0xFF800000#32 reduces_S512x1024_S1024 (.inl rfl) rfl) shapeCasts_S1024_S1x1024) broadcasts_S1x1024_S8x1024)

/-- A tile of keys with scores `u` and values `v`, taken into a head's running values. -/
def step (u : FVec F S512x1024 .f32) (v : Vec F S64x512 .bf16) (s : Carry F) : Carry F :=
  (newMax u s.1, k0_pay10 k0_pay302 s.2.1 u (newMax u s.1) (exp2 (subf s.1 (newMax u s.1))) v,
    k0_pay11 k0_pay302 s.2.2 u (newMax u s.1) (exp2 (subf s.1 (newMax u s.1))) v)

/-- The last tile's sums of weights. -/
def lateSum (q : FVec F S256x1024 .bf16) (kk : Vec F S1x512x256 .bf16) (v : Vec F S64x512 .bf16) (s : Carry F) : FVec F S8x1024 .f32 :=
  k0_pay250 s.2.1 (k0_pay226 q kk) (k0_pay227 q s.1 kk) (k0_pay244 s.2.1) (k0_pay246 s.1 (k0_pay227 q s.1 kk)) (k0_pay247 k0_pay302 v)
    (k0_pay248 (k0_pay226 q kk) (k0_pay227 q s.1 kk))

/-- The last tile's weighted sums of values. -/
def lateAcc (q : FVec F S256x1024 .bf16) (kk : Vec F S1x512x256 .bf16) (v : Vec F S64x512 .bf16) (s : Carry F) : FVec F S64x1024 .f32 :=
  k0_pay251 s.2.2 (k0_pay226 q kk) (k0_pay227 q s.1 kk) (k0_pay245 s.2.2) (k0_pay246 s.1 (k0_pay227 q s.1 kk)) (k0_pay247 k0_pay302 v)
    (k0_pay248 (k0_pay226 q kk) (k0_pay227 q s.1 kk))

/-- The running values before the first tile. -/
def start : Carry F := (k0_pay303, k0_pay304, k0_pay305)

/-- Four heads' running values, as the loop carries them. -/
abbrev Four (F : FTy → Type) : Type := FVec F S8x1024 .f32 × FVec F S8x1024 .f32 × FVec F S64x1024 .f32 × FVec F S8x1024 .f32 ×
  FVec F S8x1024 .f32 × FVec F S64x1024 .f32 × FVec F S8x1024 .f32 × FVec F S8x1024 .f32 × FVec F S64x1024 .f32 × FVec F S8x1024 .f32 ×
  FVec F S8x1024 .f32 × FVec F S64x1024 .f32

/-- Four heads' running values put beside each other. -/
def four (a b c d : Carry F) : Four F := (a.1, a.2.1, a.2.2, b.1, b.2.1, b.2.2, c.1, c.2.1, c.2.2, d.1, d.2.1, d.2.2)

/-- A tile of augmented keys, read from the scratch. -/
abbrev kTile (arg9 : Memref sig .tc .vmem S4x4096x256 .bf16) (harg9 : arg9.IsWhole) (xs : Vec F S4x4096x256 .bf16) (off : Fin 3 → ℕ)
    (h : ∀ a, off a + S1x512x256.size a ≤ S4x4096x256.size a) : Vec F S1x512x256 .bf16 :=
  View.readAt (Elt F) arg9.view (Rect.unit (s := S4x4096x256) off S1x512x256.size h).toLoadRect (harg9.unread xs)

/-- A tile of values, read from the value window. -/
abbrev vTile (arg5 : Memref sig .tc .vmem S256x4096 .bf16) (harg5 : arg5.IsWhole) (x3 : Vec F S256x4096 .bf16) (off : Fin 2 → ℕ)
    (h : ∀ a, off a + S64x512.size a ≤ S256x4096.size a) : Vec F S64x512 .bf16 :=
  View.readAt (Elt F) arg5.view (Rect.unit (s := S256x4096) off S64x512.size h).toLoadRect (harg5.unread x3)

/-- A trip of the loop: two tiles taken in by each head. -/
theorem trip_eq (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole)
    (arg1 : BitVec 32) (v139 v147 v155 v163 : FVec F S256x1024 .bf16) (v165 v166 : FVec F S8x1024 .f32) (v167 : FVec F S64x1024 .f32) (v168 v169 : FVec F S8x1024 .f32) (v170 : FVec F S64x1024 .f32) (v171 v172 : FVec F S8x1024 .f32) (v173 : FVec F S64x1024 .f32) (v174 : FVec F S8x1024 .f32) (cst_39 : F .f32) (x3 : Vec F S256x4096 .bf16) (xs : Vec F S4x4096x256 .bf16) (k : Fin (k0_t2_loop i).trips)
    (a b e d : Carry F) :
    tripR_k0_t2 (F := F) Variants.none c none i arg2 harg2 arg3 harg3 arg4 harg4 arg5 harg5 arg6 harg6 arg7 harg7 arg8 harg8 arg9 harg9 arg1 v139 v147 v155 v163 k0_pay302 v165 v166 v167 v168 v169 v170 v171 v172 v173 v174 cst_39 (harg5.unread x3) (harg9.unread xs) k (four a b e d)
      = four (step (k0_pay2 v139 (kTile arg9 harg9 xs (k0_off12 i k) (k0_off12_inb i k))) (vTile arg5 harg5 x3 (k0_off17 i k) (k0_off17_inb i k)) (step (k0_pay2 v139 (kTile arg9 harg9 xs (k0_off6 i k) (k0_off6_inb i k))) (vTile arg5 harg5 x3 (k0_off9 i k) (k0_off9_inb i k)) a))
          (step (k0_pay2 v147 (kTile arg9 harg9 xs (k0_off14 i k) (k0_off14_inb i k))) (vTile arg5 harg5 x3 (k0_off19 i k) (k0_off19_inb i k)) (step (k0_pay2 v147 (kTile arg9 harg9 xs (k0_off7 i k) (k0_off7_inb i k))) (vTile arg5 harg5 x3 (k0_off11 i k) (k0_off11_inb i k)) b))
          (step (k0_pay2 v155 (kTile arg9 harg9 xs (k0_off16 i k) (k0_off16_inb i k))) (vTile arg5 harg5 x3 (k0_off20 i k) (k0_off20_inb i k)) (step (k0_pay2 v155 (kTile arg9 harg9 xs (k0_off8 i k) (k0_off8_inb i k))) (vTile arg5 harg5 x3 (k0_off13 i k) (k0_off13_inb i k)) e))
          (step (k0_pay2 v163 (kTile arg9 harg9 xs (k0_off18 i k) (k0_off18_inb i k))) (vTile arg5 harg5 x3 (k0_off21 i k) (k0_off21_inb i k)) (step (k0_pay2 v163 (kTile arg9 harg9 xs (k0_off10 i k) (k0_off10_inb i k))) (vTile arg5 harg5 x3 (k0_off15 i k) (k0_off15_inb i k)) d)) := by
  unfold tripR_k0_t2 trip_k0_t2
  rfl

/-- What a head stores, from what the loop carries. -/
def sums (q : FVec F S256x1024 .bf16) (k0 k1 : Vec F S1x512x256 .bf16) (v0 v1 : Vec F S64x512 .bf16) (s : Carry F) : FVec F S8x1024 .f32 :=
  lateSum q k1 v1 (step (k0_pay209 q k0) v0 s)

/-- What a head stores, from what the loop carries. -/
def accs (q : FVec F S256x1024 .bf16) (k0 k1 : Vec F S1x512x256 .bf16) (v0 v1 : Vec F S64x512 .bf16) (s : Carry F) : FVec F S64x1024 .f32 :=
  lateAcc q k1 v1 (step (k0_pay209 q k0) v0 s)

end Cert.Kernel3Ideal.Fox

end
-- ==== Proof.FoxRest.lean ====
module
public import proofs.«01_k».proof.Proof.FoxStep

/-! # The block a grid point stores

The loop of pairs of tiles, then the two tiles on the diagonal, then the norm of each head.  (The program
also has a loop for an odd number of tiles left over; it makes no trip.) -/

@[expose] public section

set_option maxRecDepth 65536

noncomputable section

namespace Cert.Kernel3Ideal.Fox

open Idealize.ShloMosaic Idealize.ShloMosaic.TcCoe Idealize.ShloMosaic.Tactic
open Cert.Kernel3Ideal.Gen

variable {F : FTy → Type} [FloatOps F] [Named F]

/-- The block of outputs, from the four heads' sums of weights and weighted sums of values. -/
def storedBlock (l0 : FVec F S8x1024 .f32) (a0 : FVec F S64x1024 .f32) (l1 : FVec F S8x1024 .f32) (a1 : FVec F S64x1024 .f32)
    (l2 : FVec F S8x1024 .f32) (a2 : FVec F S64x1024 .f32) (l3 : FVec F S8x1024 .f32) (a3 : FVec F S64x1024 .f32)
    (g : Vec F S256x1 .f32) : FVec F S1024x256 .bf16 :=
  k0_pay1 (k0_pay323 l0 a0) (k0_pay324 l1 a1) (k0_pay325 l2 a2) (k0_pay326 l3 a3) (k0_pay327 l3 a3) g

/-- The program's second loop makes no trip. -/
theorem noTrip : ∀ i : grid0.Coords, Scf.trips (k0_t3_loop i).lb (k0_t3_loop i).ub (k0_t3_loop i).st = 0 := by decide +kernel

/-- The program's first loop makes as many trips as there are query blocks before this one. -/
theorem trips_eq : ∀ i : grid0.Coords, (k0_t2_loop i).trips = (i 1).val := by decide +kernel

section
variable (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole)

/-- What the first `n` trips of the loop leave. -/
def loopAt (x0 : Vec F S256x1024 .f32) (x3 : Vec F S256x4096 .bf16) (x4 : Vec F S1x8x1024 .f32) (xs : Vec F S4x4096x256 .bf16) (n : ℕ) : Four F :=
  st_k0_t2 Variants.none c none i arg2 harg2 arg3 harg3 arg4 harg4 arg5 harg5 arg6 harg6 arg7 harg7 arg8 harg8 arg9 harg9 (BitVec.ofNat 32 (i 1).val) (restRun.sl.r_6 c arg2 harg2 arg6 harg6 x0 x4) (restRun.sl.r_7 c arg2 harg2 arg6 harg6 x0 x4) (restRun.sl.r_8 c arg2 harg2 arg6 harg6 x0 x4) (restRun.sl.r_9 c arg2 harg2 arg6 harg6 x0 x4) k0_pay302 k0_pay303 k0_pay304 k0_pay305 k0_pay306 k0_pay307 k0_pay308 k0_pay309 k0_pay310 k0_pay311 k0_pay312 restRun.sl.cst_19 (harg5.unread x3) (harg9.unread xs)
    (k0_pay303, k0_pay304, k0_pay305, k0_pay306, k0_pay307, k0_pay308, k0_pay309, k0_pay310, k0_pay311, k0_pay312, k0_pay313 restRun.sl.cst_19, k0_pay314) n

/-- What the second loop leaves. -/
def leftAt (x0 : Vec F S256x1024 .f32) (x3 : Vec F S256x4096 .bf16) (x4 : Vec F S1x8x1024 .f32) (xs : Vec F S4x4096x256 .bf16) (L : Four F) (n : ℕ) : Four F :=
  st_k0_t3 Variants.none c none i arg2 harg2 arg3 harg3 arg4 harg4 arg5 harg5 arg6 harg6 arg7 harg7 arg8 harg8 arg9 harg9 (BitVec.ofNat 32 (i 1).val) (restRun.sl.r_6 c arg2 harg2 arg6 harg6 x0 x4) (restRun.sl.r_7 c arg2 harg2 arg6 harg6 x0 x4) (restRun.sl.r_8 c arg2 harg2 arg6 harg6 x0 x4) (restRun.sl.r_9 c arg2 harg2 arg6 harg6 x0 x4) k0_pay302 k0_pay303 k0_pay304 k0_pay305 k0_pay306 k0_pay307 k0_pay308 k0_pay309 k0_pay310 k0_pay311 k0_pay312 restRun.sl.cst_19 (restRun.sl.v199 i) (harg5.unread x3) (harg9.unread xs)
    (L.1, L.2.1, L.2.2.1, L.2.2.2.1, L.2.2.2.2.1, L.2.2.2.2.2.1, L.2.2.2.2.2.2.1, L.2.2.2.2.2.2.2.1, L.2.2.2.2.2.2.2.2.1, L.2.2.2.2.2.2.2.2.2.1, L.2.2.2.2.2.2.2.2.2.2.1, L.2.2.2.2.2.2.2.2.2.2.2) n

/-- The block stored, in terms of what the two loops leave. -/
theorem rest_eq' (hc1 : ¬ k0_cond2 i = 1#1) (x0 : Vec F S256x1024 .f32) (x3 : Vec F S256x4096 .bf16) (x4 : Vec F S1x8x1024 .f32) (x5 : Vec F S256x1 .f32) (xs : Vec F S4x4096x256 .bf16) (T : Four F)
    (hT : T = leftAt c i arg2 harg2 arg3 harg3 arg4 harg4 arg5 harg5 arg6 harg6 arg7 harg7 arg8 harg8 arg9 harg9 x0 x3 x4 xs (loopAt c i arg2 harg2 arg3 harg3 arg4 harg4 arg5 harg5 arg6 harg6 arg7 harg7 arg8 harg8 arg9 harg9 x0 x3 x4 xs (Scf.trips (k0_t2_loop i).lb (k0_t2_loop i).ub (k0_t2_loop i).st))
      (Scf.trips (k0_t3_loop i).lb (k0_t3_loop i).ub (k0_t3_loop i).st)) :
    (restRun c i arg2 harg2 arg3 harg3 arg4 harg4 arg5 harg5 arg6 harg6 arg7 harg7 arg8 harg8 arg9 harg9 hc1 x0 x3 x4 x5 xs).1
      = [⟨Rect.unit ![0, 0] ![1024, 256] inb_S1024x256_S1024x256_0_0, storedBlock
          (sums (restRun.sl.r_6 c arg2 harg2 arg6 harg6 x0 x4) (kTile arg9 harg9 xs (k0_off54 i 0#32) (k0_off54_inb i hc1 0)) (kTile arg9 harg9 xs (k0_off54 i 1#32) (k0_off54_inb i hc1 1)) (vTile arg5 harg5 x3 (k0_off57 i 0#32) (k0_off57_inb i hc1 0)) (vTile arg5 harg5 x3 (k0_off57 i 1#32) (k0_off57_inb i hc1 1)) (T.1, T.2.1, T.2.2.1))
          (accs (restRun.sl.r_6 c arg2 harg2 arg6 harg6 x0 x4) (kTile arg9 harg9 xs (k0_off54 i 0#32) (k0_off54_inb i hc1 0)) (kTile arg9 harg9 xs (k0_off54 i 1#32) (k0_off54_inb i hc1 1)) (vTile arg5 harg5 x3 (k0_off57 i 0#32) (k0_off57_inb i hc1 0)) (vTile arg5 harg5 x3 (k0_off57 i 1#32) (k0_off57_inb i hc1 1)) (T.1, T.2.1, T.2.2.1))
          (sums (restRun.sl.r_7 c arg2 harg2 arg6 harg6 x0 x4) (kTile arg9 harg9 xs (k0_off55 i 0#32) (k0_off55_inb i hc1 0)) (kTile arg9 harg9 xs (k0_off55 i 1#32) (k0_off55_inb i hc1 1)) (vTile arg5 harg5 x3 (k0_off59 i 0#32) (k0_off59_inb i hc1 0)) (vTile arg5 harg5 x3 (k0_off59 i 1#32) (k0_off59_inb i hc1 1)) (T.2.2.2.1, T.2.2.2.2.1, T.2.2.2.2.2.1))
          (accs (restRun.sl.r_7 c arg2 harg2 arg6 harg6 x0 x4) (kTile arg9 harg9 xs (k0_off55 i 0#32) (k0_off55_inb i hc1 0)) (kTile arg9 harg9 xs (k0_off55 i 1#32) (k0_off55_inb i hc1 1)) (vTile arg5 harg5 x3 (k0_off59 i 0#32) (k0_off59_inb i hc1 0)) (vTile arg5 harg5 x3 (k0_off59 i 1#32) (k0_off59_inb i hc1 1)) (T.2.2.2.1, T.2.2.2.2.1, T.2.2.2.2.2.1))
          (sums (restRun.sl.r_8 c arg2 harg2 arg6 harg6 x0 x4) (kTile arg9 harg9 xs (k0_off56 i 0#32) (k0_off56_inb i hc1 0)) (kTile arg9 harg9 xs (k0_off56 i 1#32) (k0_off56_inb i hc1 1)) (vTile arg5 harg5 x3 (k0_off60 i 0#32) (k0_off60_inb i hc1 0)) (vTile arg5 harg5 x3 (k0_off60 i 1#32) (k0_off60_inb i hc1 1)) (T.2.2.2.2.2.2.1, T.2.2.2.2.2.2.2.1, T.2.2.2.2.2.2.2.2.1))
          (accs (restRun.sl.r_8 c arg2 harg2 arg6 harg6 x0 x4) (kTile arg9 harg9 xs (k0_off56 i 0#32) (k0_off56_inb i hc1 0)) (kTile arg9 harg9 xs (k0_off56 i 1#32) (k0_off56_inb i hc1 1)) (vTile arg5 harg5 x3 (k0_off60 i 0#32) (k0_off60_inb i hc1 0)) (vTile arg5 harg5 x3 (k0_off60 i 1#32) (k0_off60_inb i hc1 1)) (T.2.2.2.2.2.2.1, T.2.2.2.2.2.2.2.1, T.2.2.2.2.2.2.2.2.1))
          (sums (restRun.sl.r_9 c arg2 harg2 arg6 harg6 x0 x4) (kTile arg9 harg9 xs (k0_off58 i 0#32) (k0_off58_inb i hc1 0)) (kTile arg9 harg9 xs (k0_off58 i 1#32) (k0_off58_inb i hc1 1)) (vTile arg5 harg5 x3 (k0_off61 i 0#32) (k0_off61_inb i hc1 0)) (vTile arg5 harg5 x3 (k0_off61 i 1#32) (k0_off61_inb i hc1 1)) (T.2.2.2.2.2.2.2.2.2.1, T.2.2.2.2.2.2.2.2.2.2.1, T.2.2.2.2.2.2.2.2.2.2.2))
          (accs (restRun.sl.r_9 c arg2 harg2 arg6 harg6 x0 x4) (kTile arg9 harg9 xs (k0_off58 i 0#32) (k0_off58_inb i hc1 0)) (kTile arg9 harg9 xs (k0_off58 i 1#32) (k0_off58_inb i hc1 1)) (vTile arg5 harg5 x3 (k0_off61 i 0#32) (k0_off61_inb i hc1 0)) (vTile arg5 harg5 x3 (k0_off61 i 1#32) (k0_off61_inb i hc1 1)) (T.2.2.2.2.2.2.2.2.2.1, T.2.2.2.2.2.2.2.2.2.2.1, T.2.2.2.2.2.2.2.2.2.2.2))
          (View.readAt (Elt F) arg7.view (Rect.unit (s := S256x1) ![0, 0] S256x1.size inb_S256x1_S256x1_0_0).toLoadRect (harg7.unread x5))⟩] := by
  subst hT
  unfold restRun
  rfl

/-- The block stored, in terms of what the loop leaves. -/
theorem rest_eq (hc1 : ¬ k0_cond2 i = 1#1) (x0 : Vec F S256x1024 .f32) (x3 : Vec F S256x4096 .bf16) (x4 : Vec F S1x8x1024 .f32) (x5 : Vec F S256x1 .f32) (xs : Vec F S4x4096x256 .bf16) (a b e d : Carry F)
    (hL : loopAt c i arg2 harg2 arg3 harg3 arg4 harg4 arg5 harg5 arg6 harg6 arg7 harg7 arg8 harg8 arg9 harg9 x0 x3 x4 xs (i 1).val = four a b e d) :
    (restRun c i arg2 harg2 arg3 harg3 arg4 harg4 arg5 harg5 arg6 harg6 arg7 harg7 arg8 harg8 arg9 harg9 hc1 x0 x3 x4 x5 xs).1
      = [⟨Rect.unit ![0, 0] ![1024, 256] inb_S1024x256_S1024x256_0_0, storedBlock
          (sums (restRun.sl.r_6 c arg2 harg2 arg6 harg6 x0 x4) (kTile arg9 harg9 xs (k0_off54 i 0#32) (k0_off54_inb i hc1 0)) (kTile arg9 harg9 xs (k0_off54 i 1#32) (k0_off54_inb i hc1 1)) (vTile arg5 harg5 x3 (k0_off57 i 0#32) (k0_off57_inb i hc1 0)) (vTile arg5 harg5 x3 (k0_off57 i 1#32) (k0_off57_inb i hc1 1)) a)
          (accs (restRun.sl.r_6 c arg2 harg2 arg6 harg6 x0 x4) (kTile arg9 harg9 xs (k0_off54 i 0#32) (k0_off54_inb i hc1 0)) (kTile arg9 harg9 xs (k0_off54 i 1#32) (k0_off54_inb i hc1 1)) (vTile arg5 harg5 x3 (k0_off57 i 0#32) (k0_off57_inb i hc1 0)) (vTile arg5 harg5 x3 (k0_off57 i 1#32) (k0_off57_inb i hc1 1)) a)
          (sums (restRun.sl.r_7 c arg2 harg2 arg6 harg6 x0 x4) (kTile arg9 harg9 xs (k0_off55 i 0#32) (k0_off55_inb i hc1 0)) (kTile arg9 harg9 xs (k0_off55 i 1#32) (k0_off55_inb i hc1 1)) (vTile arg5 harg5 x3 (k0_off59 i 0#32) (k0_off59_inb i hc1 0)) (vTile arg5 harg5 x3 (k0_off59 i 1#32) (k0_off59_inb i hc1 1)) b)
          (accs (restRun.sl.r_7 c arg2 harg2 arg6 harg6 x0 x4) (kTile arg9 harg9 xs (k0_off55 i 0#32) (k0_off55_inb i hc1 0)) (kTile arg9 harg9 xs (k0_off55 i 1#32) (k0_off55_inb i hc1 1)) (vTile arg5 harg5 x3 (k0_off59 i 0#32) (k0_off59_inb i hc1 0)) (vTile arg5 harg5 x3 (k0_off59 i 1#32) (k0_off59_inb i hc1 1)) b)
          (sums (restRun.sl.r_8 c arg2 harg2 arg6 harg6 x0 x4) (kTile arg9 harg9 xs (k0_off56 i 0#32) (k0_off56_inb i hc1 0)) (kTile arg9 harg9 xs (k0_off56 i 1#32) (k0_off56_inb i hc1 1)) (vTile arg5 harg5 x3 (k0_off60 i 0#32) (k0_off60_inb i hc1 0)) (vTile arg5 harg5 x3 (k0_off60 i 1#32) (k0_off60_inb i hc1 1)) e)
          (accs (restRun.sl.r_8 c arg2 harg2 arg6 harg6 x0 x4) (kTile arg9 harg9 xs (k0_off56 i 0#32) (k0_off56_inb i hc1 0)) (kTile arg9 harg9 xs (k0_off56 i 1#32) (k0_off56_inb i hc1 1)) (vTile arg5 harg5 x3 (k0_off60 i 0#32) (k0_off60_inb i hc1 0)) (vTile arg5 harg5 x3 (k0_off60 i 1#32) (k0_off60_inb i hc1 1)) e)
          (sums (restRun.sl.r_9 c arg2 harg2 arg6 harg6 x0 x4) (kTile arg9 harg9 xs (k0_off58 i 0#32) (k0_off58_inb i hc1 0)) (kTile arg9 harg9 xs (k0_off58 i 1#32) (k0_off58_inb i hc1 1)) (vTile arg5 harg5 x3 (k0_off61 i 0#32) (k0_off61_inb i hc1 0)) (vTile arg5 harg5 x3 (k0_off61 i 1#32) (k0_off61_inb i hc1 1)) d)
          (accs (restRun.sl.r_9 c arg2 harg2 arg6 harg6 x0 x4) (kTile arg9 harg9 xs (k0_off58 i 0#32) (k0_off58_inb i hc1 0)) (kTile arg9 harg9 xs (k0_off58 i 1#32) (k0_off58_inb i hc1 1)) (vTile arg5 harg5 x3 (k0_off61 i 0#32) (k0_off61_inb i hc1 0)) (vTile arg5 harg5 x3 (k0_off61 i 1#32) (k0_off61_inb i hc1 1)) d)
          (View.readAt (Elt F) arg7.view (Rect.unit (s := S256x1) ![0, 0] S256x1.size inb_S256x1_S256x1_0_0).toLoadRect (harg7.unread x5))⟩] := by
  refine rest_eq' c i arg2 harg2 arg3 harg3 arg4 harg4 arg5 harg5 arg6 harg6 arg7 harg7 arg8 harg8 arg9 harg9 hc1 x0 x3 x4 x5 xs (four a b e d) ?_
  rw [noTrip i, show Scf.trips (k0_t2_loop i).lb (k0_t2_loop i).ub (k0_t2_loop i).st = (i 1).val from trips_eq i, hL]
  rfl

/-- Before the first trip. -/
theorem loopAt_zero (x0 : Vec F S256x1024 .f32) (x3 : Vec F S256x4096 .bf16) (x4 : Vec F S1x8x1024 .f32) (xs : Vec F S4x4096x256 .bf16) : loopAt c i arg2 harg2 arg3 harg3 arg4 harg4 arg5 harg5 arg6 harg6 arg7 harg7 arg8 harg8 arg9 harg9 x0 x3 x4 xs 0 = four start start start start := rfl

/-- One trip more. -/
theorem loopAt_succ (x0 : Vec F S256x1024 .f32) (x3 : Vec F S256x4096 .bf16) (x4 : Vec F S1x8x1024 .f32) (xs : Vec F S4x4096x256 .bf16) (k : Fin (k0_t2_loop i).trips) (a b e d : Carry F)
    (hL : loopAt c i arg2 harg2 arg3 harg3 arg4 harg4 arg5 harg5 arg6 harg6 arg7 harg7 arg8 harg8 arg9 harg9 x0 x3 x4 xs k.val = four a b e d) :
    loopAt c i arg2 harg2 arg3 harg3 arg4 harg4 arg5 harg5 arg6 harg6 arg7 harg7 arg8 harg8 arg9 harg9 x0 x3 x4 xs (k.val + 1)
      = four (step (k0_pay2 (restRun.sl.r_6 c arg2 harg2 arg6 harg6 x0 x4) (kTile arg9 harg9 xs (k0_off12 i k) (k0_off12_inb i k))) (vTile arg5 harg5 x3 (k0_off17 i k) (k0_off17_inb i k)) (step (k0_pay2 (restRun.sl.r_6 c arg2 harg2 arg6 harg6 x0 x4) (kTile arg9 harg9 xs (k0_off6 i k) (k0_off6_inb i k))) (vTile arg5 harg5 x3 (k0_off9 i k) (k0_off9_inb i k)) a))
          (step (k0_pay2 (restRun.sl.r_7 c arg2 harg2 arg6 harg6 x0 x4) (kTile arg9 harg9 xs (k0_off14 i k) (k0_off14_inb i k))) (vTile arg5 harg5 x3 (k0_off19 i k) (k0_off19_inb i k)) (step (k0_pay2 (restRun.sl.r_7 c arg2 harg2 arg6 harg6 x0 x4) (kTile arg9 harg9 xs (k0_off7 i k) (k0_off7_inb i k))) (vTile arg5 harg5 x3 (k0_off11 i k) (k0_off11_inb i k)) b))
          (step (k0_pay2 (restRun.sl.r_8 c arg2 harg2 arg6 harg6 x0 x4) (kTile arg9 harg9 xs (k0_off16 i k) (k0_off16_inb i k))) (vTile arg5 harg5 x3 (k0_off20 i k) (k0_off20_inb i k)) (step (k0_pay2 (restRun.sl.r_8 c arg2 harg2 arg6 harg6 x0 x4) (kTile arg9 harg9 xs (k0_off8 i k) (k0_off8_inb i k))) (vTile arg5 harg5 x3 (k0_off13 i k) (k0_off13_inb i k)) e))
          (step (k0_pay2 (restRun.sl.r_9 c arg2 harg2 arg6 harg6 x0 x4) (kTile arg9 harg9 xs (k0_off18 i k) (k0_off18_inb i k))) (vTile arg5 harg5 x3 (k0_off21 i k) (k0_off21_inb i k)) (step (k0_pay2 (restRun.sl.r_9 c arg2 harg2 arg6 harg6 x0 x4) (kTile arg9 harg9 xs (k0_off10 i k) (k0_off10_inb i k))) (vTile arg5 harg5 x3 (k0_off15 i k) (k0_off15_inb i k)) d)) := by
  refine Eq.trans ?_ (trip_eq c i arg2 harg2 arg3 harg3 arg4 harg4 arg5 harg5 arg6 harg6 arg7 harg7 arg8 harg8 arg9 harg9 (BitVec.ofNat 32 (i 1).val) (restRun.sl.r_6 c arg2 harg2 arg6 harg6 x0 x4) (restRun.sl.r_7 c arg2 harg2 arg6 harg6 x0 x4) (restRun.sl.r_8 c arg2 harg2 arg6 harg6 x0 x4) (restRun.sl.r_9 c arg2 harg2 arg6 harg6 x0 x4) k0_pay303 k0_pay304 k0_pay305 k0_pay306 k0_pay307 k0_pay308 k0_pay309 k0_pay310 k0_pay311 k0_pay312 restRun.sl.cst_19 x3 xs k a b e d)
  rw [← hL]
  exact st_k0_t2_succ ..
end

end Cert.Kernel3Ideal.Fox

end
-- ==== Proof.FoxNorm.lean ====
module
public import proofs.«01_k».proof.Proof.FoxRest
public import Idealize.ShloMosaic.Lib.Pointwise

/-! # The norm of a head's output, and the block stored -/

@[expose] public section

set_option maxRecDepth 65536

noncomputable section

namespace Cert.Kernel3Ideal.Fox

open Idealize.ShloMosaic Idealize.ShloMosaic.TcCoe Idealize.ShloMosaic.Tactic
open Cert.Kernel3Ideal.Gen

/-- Channel `d` of head `h`, as a row or column of the joined heads. -/
def hd (h : Fin 4) (d : Fin 64) : Fin 256 := ⟨64 * h.val + d.val, by have := h.isLt; have := d.isLt; omega⟩

/-- A head's output in channel `d`, divided by the root of its mean square. -/
def normed (o : Fin 64 → EReal) (d : Fin 64) : EReal :=
  o d * Ideal.rsqrt (Ideal.div (∑ x, o x * o x) (Ideal.ofBits FTy.f32 1115684864#32) + Ideal.ofBits FTy.f32 897988541#32)

/-- The block stored, at one query and one channel of one head. -/
theorem stored_col (l : Fin 4 → FVec Ideal S8x1024 .f32) (a : Fin 4 → FVec Ideal S64x1024 .f32) (g : Vec Ideal S256x1 .f32) (c : Fin 1024)
    (h : Fin 4) (d : Fin 64) :
    storedBlock (l 0) (a 0) (l 1) (a 1) (l 2) (a 2) (l 3) (a 3) g (ix2 c (hd h d))
      = normed (fun x => Ideal.div (a h (ix2 x c)) (l h (ix2 0 c))) d * g (ix2 (hd h d) 0) := by
  have key : ∀ (f : Fin 64 → EReal) (i : Fin 64) (y : EReal), i = d → normed f i * y = normed f d * y := by rintro f _ y rfl; rfl
  have hd' := d.isLt
  generalize hj : hd h d = j
  have hjv : j.val = 64 * h.val + d.val := by rw [← hj]; rfl
  unfold storedBlock k0_pay1 k0_pay323 k0_pay324 k0_pay325 k0_pay327 k0_pay326
  pointwise
  obtain ⟨h, hh⟩ := h
  have : h = 0 ∨ h = 1 ∨ h = 2 ∨ h = 3 := by omega
  rcases this with rfl | rfl | rfl | rfl
  · rw [dif_pos (by dsimp at hjv; omega)]
    exact key (fun x => Ideal.div (a 0 (ix2 x c)) (l 0 (ix2 0 c))) ⟨j.val, by dsimp at hjv; omega⟩ _ (Fin.ext (by dsimp at hjv ⊢; omega))
  · rw [dif_neg (by dsimp at hjv; omega), dif_pos (by dsimp at hjv; omega)]
    exact key (fun x => Ideal.div (a 1 (ix2 x c)) (l 1 (ix2 0 c))) ⟨j.val - 64, by dsimp at hjv; omega⟩ _ (Fin.ext (by dsimp at hjv ⊢; omega))
  · rw [dif_neg (by dsimp at hjv; omega), dif_neg (by dsimp at hjv; omega), dif_pos (by dsimp at hjv; omega)]
    exact key (fun x => Ideal.div (a 2 (ix2 x c)) (l 2 (ix2 0 c))) ⟨j.val - 64 - 64, by dsimp at hjv; omega⟩ _ (Fin.ext (by dsimp at hjv ⊢; omega))
  · rw [dif_neg (by dsimp at hjv; omega), dif_neg (by dsimp at hjv; omega), dif_neg (by dsimp at hjv; omega)]
    exact key (fun x => Ideal.div (a 3 (ix2 x c)) (l 3 (ix2 0 c))) ⟨j.val - 64 - 64 - 64, by dsimp at hjv; omega⟩ _ (Fin.ext (by dsimp at hjv ⊢; omega))

end Cert.Kernel3Ideal.Fox

end
-- ==== Proof.FoxQuery.lean ====
module
public import proofs.«01_k».proof.Proof.FoxNorm

/-! # The augmented queries

A head's queries occupy the head's own 64 rows, scaled.  In the rows of the head's neighbour stand ones, which pick up the
three parts of the keys' accumulated logarithms, and in the fourth row the query's own accumulated logarithm. -/

@[expose] public section

set_option maxRecDepth 65536

noncomputable section

namespace Cert.Kernel3Ideal.Fox

open Idealize.ShloMosaic Idealize.ShloMosaic.TcCoe Idealize.ShloMosaic.Tactic
open Cert.Kernel3Ideal.Gen

/-- The head a head shares its pair with. -/
def mate (h : Fin 4) : Fin 4 := ⟨if h.val % 2 = 0 then h.val + 1 else h.val - 1, by have := h.isLt; split <;> omega⟩

/-- A head's row among the eight rows of accumulated logarithms. -/
def row8 (h : Fin 4) : Fin 8 := ⟨h.val, by have := h.isLt; omega⟩

/-- The scale of the scores, to base two. -/
def scaleE : EReal := ((8⁻¹ * (Real.log 2)⁻¹ : ℝ) : EReal)

/-- The logarithm of e to base two. -/
def log2E : EReal := (((Real.log 2)⁻¹ : ℝ) : EReal)

theorem named_scale : (Named.named κ "scale" 1043900987#32 : Ideal .f32) = scaleE := rfl
theorem named_log2e : (Named.named κ "log2e" 1069066811#32 : Ideal .f32) = log2E := rfl
theorem named_mask : (Named.named κ "mask" 4048155338#32 : Ideal .f32) = (⊥ : EReal) := rfl

theorem sel_eq (j : Fin 256) (k : Fin 256) (a b : EReal) :
    Scalar.select (IntOp.cmpi CmpIPredicate.eq (BitVec.ofNat 32 j.val) (BitVec.ofNat 32 k.val)) a b = if j.val = k.val then a else b := by
  have h : ∀ j k : Fin 256, IntOp.cmpi CmpIPredicate.eq (BitVec.ofNat 32 j.val) (BitVec.ofNat 32 k.val) = if j.val = k.val then 1#1 else 0#1 := by
    decide +kernel
  rw [h]
  split <;> rfl

theorem sel_low (j : Fin 256) (a b : EReal) :
    Scalar.select (IntOp.cmpi CmpIPredicate.slt (IntOp.andi (BitVec.ofNat 32 j.val) 63#32) 3#32) a b = if j.val % 64 < 3 then a else b := by
  have h : ∀ j : Fin 256, IntOp.cmpi CmpIPredicate.slt (IntOp.andi (BitVec.ofNat 32 j.val) 63#32) 3#32 = if j.val % 64 < 3 then 1#1 else 0#1 := by
    decide +kernel
  rw [h]
  split <;> rfl

theorem sel_head (j : Fin 256) (g : Fin 4) (a b : EReal) :
    Scalar.select (IntOp.cmpi CmpIPredicate.eq (IntOp.shrsi ArithUnit.vector (BitVec.ofNat 32 j.val) 6#32) (BitVec.ofNat 32 g.val)) a b
      = if j.val / 64 = g.val then a else b := by
  have h : ∀ (j : Fin 256) (g : Fin 4), IntOp.cmpi CmpIPredicate.eq (IntOp.shrsi ArithUnit.vector (BitVec.ofNat 32 j.val) 6#32) (BitVec.ofNat 32 g.val)
      = if j.val / 64 = g.val then 1#1 else 0#1 := by
    decide +kernel
  rw [h]
  split <;> rfl

/-- What stands in row `d` of the neighbour's rows, for a query whose accumulated logarithm is `z`: ones, the logarithm to base two,
and what is left of it once it is subtracted from itself. -/
def bias (z : EReal) (d : ℕ) : EReal :=
  if d < 3 then 1 else if d = 3 then z * log2E else if d = 4 then z * log2E - z * log2E
    else if d = 5 then z * log2E - z * log2E - (z * log2E - z * log2E) else 0

theorem sub_self_real {x : EReal} (hb : x ≠ ⊥) (ht : x ≠ ⊤) : x - x = 0 := EReal.sub_self ht hb

section
variable (c : Dev nD) (arg2 : Memref sig .tc .vmem S256x1024 .f32) (harg2 : arg2.IsWhole) (arg6 : Memref sig .tc .vmem S1x8x1024 .f32)
  (harg6 : arg6.IsWhole) (x0 : Vec Ideal S256x1024 .f32) (x4 : Vec Ideal S1x8x1024 .f32)

theorem bias_ladder (z : Fin 4 → EReal) (j : Fin 256) (d : ℕ) (hd : d < 64) (g : Fin 4) (hj : j.val = 64 * g.val + d) :
    (if j.val = 133 then z 3 * log2E - z 3 * log2E - (z 3 * log2E - z 3 * log2E)
      else if j.val = 132 then z 3 * log2E - z 3 * log2E
      else if j.val = 131 then z 3 * log2E
      else if j.val = 197 then z 2 * log2E - z 2 * log2E - (z 2 * log2E - z 2 * log2E)
      else if j.val = 196 then z 2 * log2E - z 2 * log2E
      else if j.val = 195 then z 2 * log2E
      else if j.val = 5 then z 1 * log2E - z 1 * log2E - (z 1 * log2E - z 1 * log2E)
      else if j.val = 4 then z 1 * log2E - z 1 * log2E
      else if j.val = 3 then z 1 * log2E
      else if j.val = 69 then z 0 * log2E - z 0 * log2E - (z 0 * log2E - z 0 * log2E)
      else if j.val = 68 then z 0 * log2E - z 0 * log2E
      else if j.val = 67 then z 0 * log2E
      else if j.val % 64 < 3 then 1 else 0) = bias (z (mate g)) d := by
  have hg := g.isLt
  have hm : j.val % 64 = d := by omega
  unfold bias
  have hcase : d < 3 ∨ d = 3 ∨ d = 4 ∨ d = 5 ∨ 5 < d := by omega
  rcases hcase with h | h | h | h | h
  · rw [if_neg (by omega), if_neg (by omega), if_neg (by omega), if_neg (by omega), if_neg (by omega), if_neg (by omega), if_neg (by omega), if_neg (by omega), if_neg (by omega), if_neg (by omega), if_neg (by omega), if_neg (by omega), if_pos (by omega), if_pos h]
  · have hgc : g = 0 ∨ g = 1 ∨ g = 2 ∨ g = 3 := by clear hj hg hm; revert g; decide
    subst h
    rcases hgc with rfl | rfl | rfl | rfl <;> rw [hj] <;> rfl
  · have hgc : g = 0 ∨ g = 1 ∨ g = 2 ∨ g = 3 := by clear hj hg hm; revert g; decide
    subst h
    rcases hgc with rfl | rfl | rfl | rfl <;> rw [hj] <;> rfl
  · have hgc : g = 0 ∨ g = 1 ∨ g = 2 ∨ g = 3 := by clear hj hg hm; revert g; decide
    subst h
    rcases hgc with rfl | rfl | rfl | rfl <;> rw [hj] <;> rfl
  · rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)]

/-- The rows beside the queries: `bias`. -/
theorem biases_val (n : Fin 1024) (g : Fin 4) (d : Fin 64) :
    restRun.sl.r_5 c arg6 harg6 x4 (ix2 (hd g d) n) = bias (x4 (ix3 0 (row8 (mate g)) n)) d.val := by
  have key := bias_ladder (fun h => x4 (ix3 0 (row8 h) n)) (hd g d) d.val d.isLt g rfl
  generalize hd g d = j at key ⊢
  refine Eq.trans ?_ key
  unfold restRun.sl.r_5 restRun.sl.r restRun.sl.r_1 restRun.sl.r_2 restRun.sl.r_3 restRun.sl.r_4
  simp only [View.readAt_eq_ld, Memref.IsWhole.read_unread]
  unfold k0_pay295 k0_pay287 k0_pay284 k0_pay285 k0_pay286 k0_pay292 k0_pay291 k0_pay293 k0_pay294 k0_pay290 k0_pay289 k0_pay288 k0_pay283 k0_pay282 k0_pay281 k0_pay280
  pointwise
  rw [named_log2e]
  rw [show (133#32 : BitVec 32) = BitVec.ofNat 32 (133 : Fin 256).val from rfl, show (132#32 : BitVec 32) = BitVec.ofNat 32 (132 : Fin 256).val from rfl,
    show (131#32 : BitVec 32) = BitVec.ofNat 32 (131 : Fin 256).val from rfl, show (197#32 : BitVec 32) = BitVec.ofNat 32 (197 : Fin 256).val from rfl,
    show (196#32 : BitVec 32) = BitVec.ofNat 32 (196 : Fin 256).val from rfl, show (195#32 : BitVec 32) = BitVec.ofNat 32 (195 : Fin 256).val from rfl,
    show (5#32 : BitVec 32) = BitVec.ofNat 32 (5 : Fin 256).val from rfl, show (4#32 : BitVec 32) = BitVec.ofNat 32 (4 : Fin 256).val from rfl,
    show (69#32 : BitVec 32) = BitVec.ofNat 32 (69 : Fin 256).val from rfl, show (68#32 : BitVec 32) = BitVec.ofNat 32 (68 : Fin 256).val from rfl,
    show (67#32 : BitVec 32) = BitVec.ofNat 32 (67 : Fin 256).val from rfl, sel_low,
    show (3#32 : BitVec 32) = BitVec.ofNat 32 (3 : Fin 256).val from rfl]
  simp only [sel_eq]
  rfl
end

end Cert.Kernel3Ideal.Fox

end
-- ==== Proof.FoxSoft.lean ====
module
public import Idealize.ShloMosaic.Lib.Pointwise

/-! # Softmax taken in tile by tile

`Holds n u v s`: the running values `s` (greatest score, sum of exponentials, weighted sums of values) are those of the
first `n` keys, of scores `u` to base two and values `v`.  The scores may be infinite; a key that is not to be seen has the
score `⊥`.  `holds_colStep`: a tile of 512 keys taken in keeps this.  `holds_quot`: the quotient at the end. -/

@[expose] public section

set_option maxRecDepth 16384

noncomputable section

namespace Cert.Kernel3Ideal.Fox

open Idealize.ShloMosaic

/-- One query's running values: greatest score, sum of weights, weighted sum of the values in each channel. -/
abbrev Col : Type := EReal × EReal × (Fin 64 → EReal)

/-- The greatest score, a tile's scores taken in. -/
def colMax (u : Fin 512 → EReal) (m : EReal) : EReal := max m (Finset.univ.fold max ⊥ u)

/-- A tile of scores `u` and values `v`, taken into one query's running values. -/
def colStep (u : Fin 512 → EReal) (v : Fin 64 → Fin 512 → EReal) (s : Col) : Col :=
  (colMax u s.1, Ideal.exp2 (s.1 - colMax u s.1) * s.2.1 + ∑ i, Ideal.exp2 (u i - colMax u s.1),
    fun d => Ideal.exp2 (s.1 - colMax u s.1) * s.2.2 d + ∑ i, v d i * Ideal.exp2 (u i - colMax u s.1))

/-- The greatest of the first `n` scores. -/
def best (n : ℕ) (u : ℕ → EReal) : EReal := (Finset.range n).sup u

/-- The running values of the first `n` keys: the greatest score, and the sums of the exponentials of the scores below it. -/
def Holds (n : ℕ) (u : ℕ → EReal) (v : Fin 64 → ℕ → EReal) (s : Col) : Prop :=
  s.1 = best n u ∧ s.2.1 = ∑ k ∈ Finset.range n, Ideal.exp2 (u k - best n u) ∧
    ∀ d, s.2.2 d = ∑ k ∈ Finset.range n, v d k * Ideal.exp2 (u k - best n u)

/-- A nonnegative real factor distributes over any sum. -/
theorem coe_mul_sum {ι : Type} (s : Finset ι) (f : ι → EReal) {a : ℝ} (ha : 0 ≤ a) : (a : EReal) * ∑ k ∈ s, f k = ∑ k ∈ s, (a : EReal) * f k := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top _) _ _

theorem coe_sum' {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

theorem exp2_bot : Ideal.exp2 ⊥ = 0 := rfl

/-- Nothing is left of a score below an infinite one. -/
theorem sub_top' (x : EReal) : x - ⊤ = ⊥ := by
  rw [sub_eq_add_neg, EReal.neg_top, EReal.add_bot]

theorem exp2_coe_sub (x M : ℝ) : Ideal.exp2 ((x : EReal) - (M : EReal)) = ((Real.rpow 2 (x - M) : ℝ) : EReal) := by
  rw [← EReal.coe_sub, Ideal.exp2_coe]

/-- The factor by which the running sums shrink is a nonnegative real number. -/
theorem factor {M M' : EReal} (h : M ≤ M') : ∃ a : ℝ, 0 ≤ a ∧ Ideal.exp2 (M - M') = (a : EReal) := by
  induction M' using EReal.rec with
  | bot =>
    rw [le_bot_iff.1 h, EReal.bot_sub, exp2_bot]
    exact ⟨0, le_rfl, rfl⟩
  | top =>
    rw [sub_top', exp2_bot]
    exact ⟨0, le_rfl, rfl⟩
  | coe m' =>
    induction M using EReal.rec with
    | bot =>
      rw [EReal.bot_sub, exp2_bot]
      exact ⟨0, le_rfl, rfl⟩
    | top => exact absurd (top_le_iff.1 h) (EReal.coe_ne_top _)
    | coe m => exact ⟨_, (Real.rpow_pos_of_pos (by norm_num) _).le, exp2_coe_sub m m'⟩

/-- An exponential below one greatest score, brought below the next. -/
theorem rescale {x M M' : EReal} (h1 : x ≤ M) (h2 : M ≤ M') : Ideal.exp2 (M - M') * Ideal.exp2 (x - M) = Ideal.exp2 (x - M') := by
  induction M' using EReal.rec with
  | bot =>
    obtain rfl := le_bot_iff.1 h2
    obtain rfl := le_bot_iff.1 h1
    rw [EReal.bot_sub, exp2_bot, zero_mul]
  | top => rw [sub_top', sub_top', exp2_bot, zero_mul]
  | coe m' =>
    induction M using EReal.rec with
    | bot =>
      obtain rfl := le_bot_iff.1 h1
      rw [EReal.bot_sub, EReal.bot_sub, exp2_bot, zero_mul]
    | top => exact absurd (top_le_iff.1 h2) (EReal.coe_ne_top _)
    | coe m =>
      induction x using EReal.rec with
      | bot => rw [EReal.bot_sub, EReal.bot_sub, exp2_bot, mul_zero]
      | top => exact absurd (top_le_iff.1 h1) (EReal.coe_ne_top _)
      | coe r =>
        rw [exp2_coe_sub, exp2_coe_sub, exp2_coe_sub, ← EReal.coe_mul]
        refine congrArg _ ((Real.rpow_add (by norm_num : (0 : ℝ) < 2) _ _).symm.trans ?_)
        congr 1; ring

theorem le_best {n k : ℕ} (u : ℕ → EReal) (hk : k ∈ Finset.range n) : u k ≤ best n u := Finset.le_sup hk

/-- The greatest score, a tile taken in. -/
theorem best_add (n : ℕ) (u : ℕ → EReal) (t : Fin 512 → EReal) (ht : ∀ i, t i = u (n + i.val)) : colMax t (best n u) = best (n + 512) u := by
  have hf : Finset.univ.fold max ⊥ t = Finset.univ.sup t := rfl
  unfold colMax
  rw [hf]
  refine le_antisymm (max_le ?_ ?_) ?_
  · exact Finset.sup_mono (Finset.range_subset_range.2 (Nat.le_add_right _ _))
  · refine Finset.sup_le fun i _ => ?_
    rw [ht]
    exact le_best u (Finset.mem_range.2 (by omega))
  · refine Finset.sup_le fun k hk => ?_
    rw [Finset.mem_range] at hk
    by_cases h : k < n
    · exact (le_best u (Finset.mem_range.2 h)).trans (le_max_left _ _)
    · refine le_trans ?_ (le_max_right _ _)
      have e : u k = t ⟨k - n, by omega⟩ := by
        rw [ht]; congr 1; show k = n + (k - n); omega
      rw [e]
      exact Finset.le_sup (Finset.mem_univ _)

/-- A tile of 512 keys taken in. -/
theorem holds_colStep {n : ℕ} {u : ℕ → EReal} {v : Fin 64 → ℕ → EReal} {s : Col} (h : Holds n u v s) (t : Fin 512 → EReal)
    (ht : ∀ i : Fin 512, t i = u (n + i.val)) : Holds (n + 512) u v (colStep t (fun d i => v d (n + i.val)) s) := by
  obtain ⟨hm, hl, ha⟩ := h
  have hM := best_add n u t ht
  have hle : best n u ≤ best (n + 512) u := Finset.sup_mono (Finset.range_subset_range.2 (Nat.le_add_right _ _))
  obtain ⟨a, ha0, hae⟩ := factor hle
  refine ⟨?_, ?_, fun d => ?_⟩
  · show colMax t s.1 = _
    rw [hm, hM]
  · show Ideal.exp2 (s.1 - colMax t s.1) * s.2.1 + ∑ i, Ideal.exp2 (t i - colMax t s.1) = _
    rw [hm, hM, hl, Finset.sum_range_add]
    congr 1
    · rw [hae, coe_mul_sum _ _ ha0, ← hae]
      exact Finset.sum_congr rfl fun k hk => rescale (le_best u hk) hle
    · rw [Finset.sum_range]
      exact Finset.sum_congr rfl fun i _ => by rw [ht]
  · show Ideal.exp2 (s.1 - colMax t s.1) * s.2.2 d + ∑ i, v d (n + i.val) * Ideal.exp2 (t i - colMax t s.1) = _
    rw [hm, hM, ha, Finset.sum_range_add]
    congr 1
    · rw [hae, coe_mul_sum _ _ ha0, ← hae]
      exact Finset.sum_congr rfl fun k hk => by rw [mul_left_comm, rescale (le_best u hk) hle]
    · rw [Finset.sum_range]
      exact Finset.sum_congr rfl fun i _ => by rw [ht]

/-- The sums over the first `N` keys, divided as the program divides. -/
def quot (N : ℕ) (u : ℕ → EReal) (v : ℕ → EReal) : EReal :=
  Ideal.div (∑ k ∈ Finset.range N, v k * Ideal.exp2 (u k - best N u)) (∑ k ∈ Finset.range N, Ideal.exp2 (u k - best N u))

/-- Masked keys may be added: to the greatest score … -/
theorem best_extend {n N : ℕ} (hnN : n ≤ N) (u : ℕ → EReal) (hz : ∀ k, n ≤ k → k < N → u k = ⊥) : best n u = best N u := by
  refine le_antisymm (Finset.sup_mono (Finset.range_subset_range.2 hnN)) (Finset.sup_le fun k hk => ?_)
  by_cases h : k < n
  · exact le_best u (Finset.mem_range.2 h)
  · rw [hz k (not_lt.1 h) (Finset.mem_range.1 hk)]; exact bot_le

/-- … and to the quotient. -/
theorem holds_quot {n N : ℕ} {u : ℕ → EReal} {v : Fin 64 → ℕ → EReal} {s : Col} (h : Holds n u v s) (hnN : n ≤ N)
    (hz : ∀ k, n ≤ k → k < N → u k = ⊥) (d : Fin 64) : Ideal.div (s.2.2 d) s.2.1 = quot N u (v d) := by
  obtain ⟨_, hl, ha⟩ := h
  have hb : ∀ k ∈ Finset.range N, k ∉ Finset.range n → Ideal.exp2 (u k - best N u) = 0 := fun k hk hk' => by
    rw [hz k (not_lt.1 fun h => hk' (Finset.mem_range.2 h)) (Finset.mem_range.1 hk), EReal.bot_sub, exp2_bot]
  unfold quot
  rw [hl, ha, best_extend hnN u hz]
  refine congrArg₂ Ideal.div ?_ ?_
  · exact Finset.sum_subset (Finset.range_subset_range.2 hnN) fun k hk hk' => by rw [hb k hk hk', mul_zero]
  · exact Finset.sum_subset (Finset.range_subset_range.2 hnN) hb

end Cert.Kernel3Ideal.Fox

end
-- ==== Proof.FoxScore.lean ====
module
public import proofs.«01_k».proof.Proof.FoxQuery
public import proofs.«01_k».proof.Proof.FoxSoft

/-! # The scores

A head's score of a key and a query is the product of an augmented key and an augmented query, a sum over 256 rows.  It is the
attention's score to base two (`score_val`): the inner product of the key and the query over eight, plus the query's accumulated
logarithm, minus the key's, all divided by `log 2`. -/

@[expose] public section

set_option maxRecDepth 65536

noncomputable section

namespace Cert.Kernel3Ideal.Fox

open Idealize.ShloMosaic Idealize.ShloMosaic.TcCoe Idealize.ShloMosaic.Tactic
open Cert.Kernel3Ideal.Gen

section
variable (c : Dev nD) (arg2 : Memref sig .tc .vmem S256x1024 .f32) (harg2 : arg2.IsWhole) (arg6 : Memref sig .tc .vmem S1x8x1024 .f32)
  (harg6 : arg6.IsWhole) (x0 : Vec Ideal S256x1024 .f32) (x4 : Vec Ideal S1x8x1024 .f32)

/-- A head's augmented queries. -/
def query (h : Fin 4) : FVec Ideal S256x1024 .bf16 :=
  match h with
  | 0 => restRun.sl.r_6 c arg2 harg2 arg6 harg6 x0 x4
  | 1 => restRun.sl.r_7 c arg2 harg2 arg6 harg6 x0 x4
  | 2 => restRun.sl.r_8 c arg2 harg2 arg6 harg6 x0 x4
  | 3 => restRun.sl.r_9 c arg2 harg2 arg6 harg6 x0 x4

theorem hd_div (g : Fin 4) (d : Fin 64) : (hd g d).val / 64 = g.val := by
  have := d.isLt
  show (64 * g.val + d.val) / 64 = g.val
  omega

theorem pick (g h : Fin 4) (d : Fin 64) (a b : EReal) : (if (hd g d).val / 64 = h.val then a else b) = if g = h then a else b := by
  rw [hd_div]
  by_cases e : g = h
  · rw [if_pos e, if_pos (congrArg Fin.val e)]
  · rw [if_neg e, if_neg fun e' => e (Fin.ext e')]

theorem query_val (n : Fin 1024) (h g : Fin 4) (d : Fin 64) :
    query c arg2 harg2 arg6 harg6 x0 x4 h (ix2 (hd g d) n)
      = if g = h then x0 (ix2 (hd g d) n) * scaleE else if g = mate h then bias (x4 (ix3 0 (row8 h) n)) d.val else 0 := by
  have hb := biases_val c arg6 harg6 x4 n g d
  have hmm : g = mate h → row8 (mate g) = row8 h := by clear hb; revert g h; decide
  have goal' : query c arg2 harg2 arg6 harg6 x0 x4 h (ix2 (hd g d) n)
      = if (hd g d).val / 64 = h.val then x0 (ix2 (hd g d) n) * scaleE
        else if (hd g d).val / 64 = (mate h).val then restRun.sl.r_5 c arg6 harg6 x4 (ix2 (hd g d) n) else 0 := by
    clear hb hmm
    generalize hd g d = j
    have hc : h = 0 ∨ h = 1 ∨ h = 2 ∨ h = 3 := by clear * -; revert h; decide
    rcases hc with rfl | rfl | rfl | rfl
    · show restRun.sl.r_6 c arg2 harg2 arg6 harg6 x0 x4 (ix2 j n) = _
      unfold restRun.sl.r_6
      generalize restRun.sl.r_5 c arg6 harg6 x4 = B
      simp only [View.readAt_eq_ld, Memref.IsWhole.read_unread]
      unfold k0_pay298 k0_pay296 k0_pay297 k0_pay278 k0_pay279 restRun.sl.cst_19
      pointwise
      rw [named_scale, show (0#32 : BitVec 32) = BitVec.ofNat 32 (0 : Fin 4).val from rfl, show (1#32 : BitVec 32) = BitVec.ofNat 32 (1 : Fin 4).val from rfl,
        sel_head, sel_head]
      rfl
    · show restRun.sl.r_7 c arg2 harg2 arg6 harg6 x0 x4 (ix2 j n) = _
      unfold restRun.sl.r_7
      generalize restRun.sl.r_5 c arg6 harg6 x4 = B
      simp only [View.readAt_eq_ld, Memref.IsWhole.read_unread]
      unfold k0_pay299 k0_pay278 k0_pay279
      pointwise
      rw [named_scale, show (0#32 : BitVec 32) = BitVec.ofNat 32 (0 : Fin 4).val from rfl, show (1#32 : BitVec 32) = BitVec.ofNat 32 (1 : Fin 4).val from rfl,
        sel_head, sel_head]
      rfl
    · show restRun.sl.r_8 c arg2 harg2 arg6 harg6 x0 x4 (ix2 j n) = _
      unfold restRun.sl.r_8
      generalize restRun.sl.r_5 c arg6 harg6 x4 = B
      simp only [View.readAt_eq_ld, Memref.IsWhole.read_unread]
      unfold k0_pay300 k0_pay278 k0_pay279
      pointwise
      rw [named_scale, show (2#32 : BitVec 32) = BitVec.ofNat 32 (2 : Fin 4).val from rfl, show (3#32 : BitVec 32) = BitVec.ofNat 32 (3 : Fin 4).val from rfl,
        sel_head, sel_head]
      rfl
    · show restRun.sl.r_9 c arg2 harg2 arg6 harg6 x0 x4 (ix2 j n) = _
      unfold restRun.sl.r_9
      generalize restRun.sl.r_5 c arg6 harg6 x4 = B
      simp only [View.readAt_eq_ld, Memref.IsWhole.read_unread]
      unfold k0_pay301 k0_pay278 k0_pay279
      pointwise
      rw [named_scale, show (2#32 : BitVec 32) = BitVec.ofNat 32 (2 : Fin 4).val from rfl, show (3#32 : BitVec 32) = BitVec.ofNat 32 (3 : Fin 4).val from rfl,
        sel_head, sel_head]
      rfl
  rw [goal', pick, pick, hb]
  by_cases e : g = h
  · rw [if_pos e, if_pos e]
  · rw [if_neg e, if_neg e]
    by_cases e' : g = mate h
    · rw [if_pos e', if_pos e', hmm e']
    · rw [if_neg e', if_neg e']
end

/-- A sum over the 256 rows, head by head. -/
theorem sum_heads (f : Fin 256 → EReal) : ∑ x, f x = ∑ g : Fin 4, ∑ d : Fin 64, f (hd g d) := by
  rw [← Fintype.sum_prod_type' (fun (g : Fin 4) (d : Fin 64) => f (hd g d))]
  refine (Fintype.sum_equiv (finProdFinEquiv (m := 4) (n := 64)) (fun p => f (hd p.1 p.2)) f fun p => ?_).symm
  refine congrArg f (Fin.ext ?_)
  show 64 * p.1.val + p.2.val = p.2.val + 64 * p.1.val
  omega

/-- What the neighbour's rows pick up of a key's entries. -/
def picked (b : Fin 64 → EReal) (z : EReal) : EReal :=
  b 0 + b 1 + b 2 + (b 3 * (z * log2E) + (b 4 * (z * log2E - z * log2E) + b 5 * (z * log2E - z * log2E - (z * log2E - z * log2E))))

theorem sum_bias (b : Fin 64 → EReal) (z : EReal) : ∑ d : Fin 64, b d * bias z d.val = picked b z := by
  have h : ∀ d : Fin 58, b (Fin.natAdd 6 d) * bias z (Fin.natAdd 6 d).val = 0 := fun d => by
    have e : bias z (Fin.natAdd 6 d).val = 0 := by
      unfold bias
      rw [if_neg (by simp; omega), if_neg (by simp; omega), if_neg (by simp; omega), if_neg (by simp; omega)]
    rw [e, mul_zero]
  refine (Fin.sum_univ_add (a := 6) (b := 58) (fun d => b d * bias z d.val)).trans ?_
  rw [Finset.sum_eq_zero fun d _ => h d, add_zero, Fin.sum_univ_six]
  show b 0 * 1 + b 1 * 1 + b 2 * 1 + b 3 * (z * log2E) + b 4 * (z * log2E - z * log2E) + b 5 * (z * log2E - z * log2E - (z * log2E - z * log2E)) = _
  unfold picked
  rw [mul_one, mul_one, mul_one, add_assoc, add_assoc]

/-- The product of an augmented key and an augmented query. -/
theorem product (k q : Fin 256 → EReal) (h : Fin 4) (kh qh : Fin 64 → EReal) (kb : Fin 4 → Fin 64 → EReal) (z : EReal)
    (hk : ∀ g d, k (hd g d) = if g = h then kh d else kb g d)
    (hq : ∀ g d, q (hd g d) = if g = h then qh d else if g = mate h then bias z d.val else 0) :
    ∑ x, k x * q x = ∑ d, kh d * qh d + picked (kb (mate h)) z := by
  have hne : mate h ≠ h := by clear hk hq; revert h; decide
  rw [sum_heads, ← sum_bias]
  have h1 : ∀ g, ∑ d, k (hd g d) * q (hd g d) = (if g = h then ∑ d, kh d * qh d else 0) + (if g = mate h then ∑ d : Fin 64, kb (mate h) d * bias z d.val else 0) := fun g => by
    by_cases e : g = h
    · subst e
      rw [if_pos rfl, if_neg (Ne.symm hne), add_zero]
      exact Finset.sum_congr rfl fun d _ => by rw [hk, hq, if_pos rfl, if_pos rfl]
    · rw [if_neg e, zero_add]
      by_cases e' : g = mate h
      · subst e'
        rw [if_pos rfl]
        exact Finset.sum_congr rfl fun d _ => by rw [hk, hq, if_neg e, if_neg e, if_pos rfl]
      · rw [if_neg e']
        exact Finset.sum_eq_zero fun d _ => by rw [hk, hq, if_neg e, if_neg e, if_neg e', mul_zero]
  rw [Finset.sum_congr rfl fun g _ => h1 g, Finset.sum_add_distrib, Finset.sum_ite_eq' Finset.univ h, Finset.sum_ite_eq' Finset.univ (mate h),
    if_pos (Finset.mem_univ _), if_pos (Finset.mem_univ _)]

theorem log_two_pos : 0 < Real.log 2 := Real.log_pos (by norm_num)

/-- The score of a key and a query: the scaled product plus the difference of the accumulated logarithms. -/
def scoreE (k q : Fin 64 → EReal) (cq ck : EReal) : EReal := (∑ d, k d * q d) * ((8⁻¹ : ℝ) : EReal) + cq - ck

/-- Either infinity. -/
def Infinite (x : EReal) : Prop := x = ⊥ ∨ x = ⊤

theorem Infinite.add {x : EReal} (h : Infinite x) (y : EReal) : Infinite (x + y) := by
  rcases h with rfl | rfl
  · exact Or.inl (EReal.bot_add y)
  · induction y using EReal.rec with
    | bot => exact Or.inl (EReal.add_bot _)
    | coe r => exact Or.inr (EReal.top_add_coe r)
    | top => exact Or.inr rfl

theorem Infinite.add' {x : EReal} (h : Infinite x) (y : EReal) : Infinite (y + x) := add_comm x y ▸ h.add y

theorem log2E_pos : (0 : ℝ) < (Real.log 2)⁻¹ := inv_pos.2 log_two_pos

/-- An infinite logarithm stays infinite to base two. -/
theorem Infinite.log {x : EReal} (h : Infinite x) : Infinite (x * log2E) := by
  rcases h with rfl | rfl
  · exact Or.inl (EReal.bot_mul_coe_of_pos log2E_pos)
  · exact Or.inr (EReal.top_mul_coe_of_pos log2E_pos)

theorem finite_or (x : EReal) : Infinite x ∨ ∃ r : ℝ, x = (r : EReal) := by
  induction x using EReal.rec with
  | bot => exact Or.inl (Or.inl rfl)
  | coe r => exact Or.inr ⟨r, rfl⟩
  | top => exact Or.inl (Or.inr rfl)

/-- A sum to base two. -/
theorem add_log (x y : EReal) : (x + y) * log2E = x * log2E + y * log2E := by
  unfold log2E
  rw [mul_comm, mul_comm x, mul_comm y]
  exact EReal.left_distrib_of_nonneg_of_ne_top (by exact_mod_cast log2E_pos.le) (EReal.coe_ne_top _) _ _

/-- The product is the score to base two; if the query's accumulated logarithm is infinite, so are the product and the score. -/
theorem product_score (k q : Fin 256 → EReal) (h : Fin 4) (kr qr : Fin 64 → EReal) (kb : Fin 4 → Fin 64 → EReal) (cq ck : EReal)
    (hk : ∀ g d, k (hd g d) = if g = h then kr d else kb g d)
    (hq : ∀ g d, q (hd g d) = if g = h then qr d * scaleE else if g = mate h then bias cq d.val else 0)
    (hp : kb (mate h) 0 + kb (mate h) 1 + kb (mate h) 2 = -ck * log2E) (h1 : kb (mate h) 3 = 1) :
    (Infinite cq → Infinite (∑ x, k x * q x) ∧ Infinite (scoreE kr qr cq ck)) ∧
      (¬ Infinite cq → ∑ x, k x * q x = scoreE kr qr cq ck * log2E) := by
  rw [product k q h kr (fun d => qr d * scaleE) kb cq hk hq]
  unfold picked scoreE
  rw [hp, h1, one_mul]
  refine ⟨fun hi => ⟨((hi.log.add _).add' _).add' _, ?_⟩, fun hi => ?_⟩
  · rw [sub_eq_add_neg]
    exact (hi.add' _).add _
  · obtain ⟨r, rfl⟩ := (finite_or cq).resolve_left hi
    have e : (r : EReal) * log2E - (r : EReal) * log2E = 0 := by
      rw [log2E, ← EReal.coe_mul]
      exact sub_self_real (EReal.coe_ne_bot _) (EReal.coe_ne_top _)
    have e' : ∑ d, kr d * (qr d * scaleE) = (∑ d, kr d * qr d) * ((8⁻¹ : ℝ) : EReal) * log2E := by
      rw [log2E, mul_assoc, ← EReal.coe_mul, mul_comm, coe_mul_sum _ _ (mul_pos (by norm_num) log2E_pos).le]
      exact Finset.sum_congr rfl fun d _ => by unfold scaleE; rw [← mul_assoc, mul_comm]
    rw [e, sub_zero, mul_zero, mul_zero, add_zero, add_zero, e', sub_eq_add_neg, add_log, add_log, add_assoc]
    exact congrArg _ (add_comm _ _)

/-- Two to a score to base two is e to the score. -/
theorem exp2_log (x : EReal) : Ideal.exp2 (x * log2E) = Ideal.exp x := by
  induction x using EReal.rec with
  | bot => rw [log2E, EReal.bot_mul_coe_of_pos log2E_pos]; rfl
  | top => rw [log2E, EReal.top_mul_coe_of_pos log2E_pos]; rfl
  | coe r =>
    rw [log2E, ← EReal.coe_mul, Ideal.exp2_coe]
    refine congrArg _ ?_
    show (2 : ℝ) ^ (r * (Real.log 2)⁻¹) = Real.exp r
    rw [Real.rpow_def_of_pos (by norm_num), mul_comm r, ← mul_assoc, mul_inv_cancel₀ log_two_pos.ne', one_mul]

end Cert.Kernel3Ideal.Fox

end
-- ==== Proof.FoxKeys.lean ====
module
public import proofs.«01_k».proof.Proof.FoxScore
public import proofs.«01_k».proof.Proof.FoxFrame

/-! # The augmented keys

A batch row's first grid point lays out, for each of the four heads, the keys with the other heads' rows replaced by the
accumulated logarithms (`keys_val`). -/

@[expose] public section

set_option maxRecDepth 65536

noncomputable section

namespace Cert.Kernel3Ideal.Fox

open Idealize.ShloMosaic Idealize.ShloMosaic.TcCoe Idealize.ShloMosaic.Tactic
open Cert.Kernel3Ideal.Gen

/-- What is read at a place covered by some piece, if every piece covering it has `P` there. -/
theorem read_of_pieces {sp : Space} {s : Shape} {e : EltTy} {κ' : Kind} (v : View sig κ' sp s e) (f : v.ty.Contents (Elt Ideal)) (P : Elt Ideal e → Prop) (y : s.Idx) :
    ∀ L : List (View.Piece (Elt Ideal) s e), (∀ p ∈ L, ∀ x : p.1.shape.Idx, p.1.emb x = y → P (p.2 x)) → (∃ p ∈ L, y ∈ p.1.set) →
      P (v.read (Elt Ideal) (v.writes (Elt Ideal) f L) y)
  | [], _, h => by obtain ⟨_, hm, _⟩ := h; exact absurd hm List.not_mem_nil
  | p :: L, hP, h => by
    by_cases hy : y ∈ p.1.set
    · obtain ⟨x, hx⟩ : ∃ x, p.1.emb x = y := p.1.exists_idx_of_mem hy
      have := hP p List.mem_cons_self x hx
      rw [← hx, View.read_writes_cons_emb]
      exact this
    · have hy' : y ∉ Finset.univ.map p.1.emb := by rwa [Rect.map_emb_univ]
      rw [View.writes_cons, View.read_slice_write_of_not_mem p.1 _ _ _ hy']
      refine read_of_pieces v f P y L (fun q hq => hP q (List.mem_cons_of_mem _ hq)) ?_
      obtain ⟨q, hq, hyq⟩ := h
      rcases List.mem_cons.mp hq with rfl | hq'
      · exact absurd hyq hy
      · exact ⟨q, hq', hyq⟩

/-- An entry of the augmented keys. -/
def keyCell (x1 x2 : Vec Ideal S4096x256 .bf16) (h : Fin 4) (r : Fin 4096) (j : Fin 256) : EReal :=
  if j.val / 64 = h.val then x1 (ix2 r j) else x2 (ix2 r j)

section
variable (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole)
include arg2 harg2 arg3 harg3 arg4 harg4 arg5 harg5 arg6 harg6 arg7 harg7 arg8 harg8 arg9 harg9

theorem trip_pieces (hc0 : k0_cond1 i = 1#1) (x1 x2 : Vec Ideal S4096x256 .bf16) (k : Fin k0_t1_loop.trips) :
    tripL_k0_t1 (F := Ideal) Variants.none c none i arg2 harg2 arg3 harg3 arg4 harg4 arg5 harg5 arg6 harg6 arg7 harg7 arg8 harg8 arg9 harg9 hc0 (harg3.unread x1) (harg4.unread x2) k
      = [⟨Rect.unit (s := S4x4096x256) (k0_off5 k) S1x512x256.size (k0_off5_inb i k hc0), k0_pay277 (View.readAt (Elt Ideal) arg3.view (Rect.unit (s := S4096x256) (k0_off1 k) S512x256.size (k0_off1_inb i k hc0)).toLoadRect (harg3.unread x1)) (View.readAt (Elt Ideal) arg4.view (Rect.unit (s := S4096x256) (k0_off1 k) S512x256.size (k0_off1_inb i k hc0)).toLoadRect (harg4.unread x2))⟩, ⟨Rect.unit (s := S4x4096x256) (k0_off4 k) S1x512x256.size (k0_off4_inb i k hc0), k0_pay276 (View.readAt (Elt Ideal) arg3.view (Rect.unit (s := S4096x256) (k0_off1 k) S512x256.size (k0_off1_inb i k hc0)).toLoadRect (harg3.unread x1)) (View.readAt (Elt Ideal) arg4.view (Rect.unit (s := S4096x256) (k0_off1 k) S512x256.size (k0_off1_inb i k hc0)).toLoadRect (harg4.unread x2))⟩,
        ⟨Rect.unit (s := S4x4096x256) (k0_off3 k) S1x512x256.size (k0_off3_inb i k hc0), k0_pay275 (View.readAt (Elt Ideal) arg3.view (Rect.unit (s := S4096x256) (k0_off1 k) S512x256.size (k0_off1_inb i k hc0)).toLoadRect (harg3.unread x1)) (View.readAt (Elt Ideal) arg4.view (Rect.unit (s := S4096x256) (k0_off1 k) S512x256.size (k0_off1_inb i k hc0)).toLoadRect (harg4.unread x2))⟩, ⟨Rect.unit (s := S4x4096x256) (k0_off2 k) S1x512x256.size (k0_off2_inb i k hc0), k0_pay274 (View.readAt (Elt Ideal) arg3.view (Rect.unit (s := S4096x256) (k0_off1 k) S512x256.size (k0_off1_inb i k hc0)).toLoadRect (harg3.unread x1)) (View.readAt (Elt Ideal) arg4.view (Rect.unit (s := S4096x256) (k0_off1 k) S512x256.size (k0_off1_inb i k hc0)).toLoadRect (harg4.unread x2))⟩] := by
  unfold tripL_k0_t1 trip_k0_t1
  rfl

theorem fill_pieces (hc0 : k0_cond1 i = 1#1) (x1 x2 : Vec Ideal S4096x256 .bf16) :
    (fillRun (F := Ideal) c i arg2 harg2 arg3 harg3 arg4 harg4 arg5 harg5 arg6 harg6 arg7 harg7 arg8 harg8 arg9 harg9 hc0 x1 x2).1
      = pb_k0_t1 (F := Ideal) Variants.none c none i arg2 harg2 arg3 harg3 arg4 harg4 arg5 harg5 arg6 harg6 arg7 harg7 arg8 harg8 arg9 harg9 hc0 (harg3.unread x1) (harg4.unread x2) (Scf.trips k0_t1_loop.lb k0_t1_loop.ub k0_t1_loop.st) := by
  unfold fillRun
  rfl

/-- A piece whose payload is the head's part of the keys at its rows. -/
theorem piece_val (x1 x2 : Vec Ideal S4096x256 .bf16) (k : ℕ) (h : Fin 4) (hk : k < 8) (off : Fin 3 → ℕ) (hoff : off = ![h.val, 512 * k, 0])
    (inb : ∀ a, off a + S1x512x256.size a ≤ S4x4096x256.size a) (w : S1x512x256.Idx → EReal)
    (hw : ∀ (r : Fin 512) (j : Fin 256), w (ix3 0 r j) = keyCell x1 x2 h ⟨512 * k + r.val, by have := r.isLt; omega⟩ j)
    (h' : Fin 4) (r' : Fin 4096) (j' : Fin 256) (x : S1x512x256.Idx)
    (hx : (Rect.unit (s := S4x4096x256) off S1x512x256.size inb).emb x = ix3 h' r' j') : w x = keyCell x1 x2 h' r' j' := by
  subst hoff
  have e0 := congrArg Fin.val (congrFun hx 0)
  have e1 := congrArg Fin.val (congrFun hx 1)
  have e2 := congrArg Fin.val (congrFun hx 2)
  obtain ⟨z, r, j, rfl⟩ : ∃ z r j, x = ix3 (n0 := 1) (n1 := 512) (n2 := 256) z r j := by
    clear hx e0 e1 e2
    idx_vars x
    exact ⟨_, _, _, rfl⟩
  have e0' : h.val + 1 * z.val = h'.val := e0
  have e1' : 512 * k + 1 * r.val = r'.val := e1
  have e2' : 0 + 1 * j.val = j'.val := e2
  have hz : z = 0 := Subsingleton.elim _ _
  subst hz
  have f0 : h = h' := Fin.ext (by simpa using e0')
  have f1 : (⟨512 * k + r.val, by have := r.isLt; omega⟩ : Fin 4096) = r' := Fin.ext (by simpa using e1')
  have f2 : j = j' := Fin.ext (by simpa using e2')
  rw [hw, f0, f1, f2]

theorem load_val (hc0 : k0_cond1 i = 1#1) (x1 : Vec Ideal S4096x256 .bf16) (k : Fin k0_t1_loop.trips) (hk : k.val < 8) (r : Fin 512) (j : Fin 256) :
    (View.readAt (Elt Ideal) arg3.view (Rect.unit (s := S4096x256) (k0_off1 k) S512x256.size (k0_off1_inb i k hc0)).toLoadRect (harg3.unread x1)) (ix2 r j) = x1 (ix2 ⟨512 * k.val + r.val, by have := r.isLt; omega⟩ j) := by
  rw [View.readAt_eq_ld, Memref.IsWhole.read_unread]
  generalize k0_off1_inb i k hc0 = inb
  revert inb
  rw [k0_off1_eq]
  intro inb
  pointwise

theorem load_val' (hc0 : k0_cond1 i = 1#1) (x2 : Vec Ideal S4096x256 .bf16) (k : Fin k0_t1_loop.trips) (hk : k.val < 8) (r : Fin 512) (j : Fin 256) :
    (View.readAt (Elt Ideal) arg4.view (Rect.unit (s := S4096x256) (k0_off1 k) S512x256.size (k0_off1_inb i k hc0)).toLoadRect (harg4.unread x2)) (ix2 r j) = x2 (ix2 ⟨512 * k.val + r.val, by have := r.isLt; omega⟩ j) := by
  rw [View.readAt_eq_ld, Memref.IsWhole.read_unread]
  generalize k0_off1_inb i k hc0 = inb
  revert inb
  rw [k0_off1_eq]
  intro inb
  pointwise

omit arg2 harg2 arg3 harg3 arg4 harg4 arg5 harg5 arg6 harg6 arg7 harg7 arg8 harg8 arg9 harg9 in
theorem pays_val (a b : Vec Ideal S512x256 .bf16) (r : Fin 512) (j : Fin 256) :
    k0_pay274 a b (ix3 0 r j) = (if j.val / 64 = (0 : Fin 4).val then a (ix2 r j) else b (ix2 r j))
    ∧ k0_pay275 a b (ix3 0 r j) = (if j.val / 64 = (1 : Fin 4).val then a (ix2 r j) else b (ix2 r j))
    ∧ k0_pay276 a b (ix3 0 r j) = (if j.val / 64 = (2 : Fin 4).val then a (ix2 r j) else b (ix2 r j))
    ∧ k0_pay277 a b (ix3 0 r j) = (if j.val / 64 = (3 : Fin 4).val then a (ix2 r j) else b (ix2 r j)) := by
  refine ⟨?_, ?_, ?_, ?_⟩
  · unfold k0_pay274 k0_pay273; pointwise; exact sel_head j 0 _ _
  · unfold k0_pay275 k0_pay273; pointwise; exact sel_head j 1 _ _
  · unfold k0_pay276 k0_pay273; pointwise; exact sel_head j 2 _ _
  · unfold k0_pay277 k0_pay273; pointwise; exact sel_head j 3 _ _

theorem pieces_val (hc0 : k0_cond1 i = 1#1) (x1 x2 : Vec Ideal S4096x256 .bf16) (h' : Fin 4) (r' : Fin 4096) (j' : Fin 256) :
    ∀ n, n ≤ k0_t1_loop.trips → ∀ p ∈ pb_k0_t1 (F := Ideal) Variants.none c none i arg2 harg2 arg3 harg3 arg4 harg4 arg5 harg5 arg6 harg6 arg7 harg7 arg8 harg8 arg9 harg9 hc0 (harg3.unread x1) (harg4.unread x2) n,
      ∀ x : p.1.shape.Idx, p.1.emb x = ix3 h' r' j' → p.2 x = keyCell x1 x2 h' r' j'
  | 0, _, p, hp, _, _ => absurd hp (by rw [pb_k0_t1.eq_1]; exact List.not_mem_nil)
  | n + 1, hn, p, hp, x, hx => by
    have hk : n < 8 := Nat.lt_of_lt_of_le hn k0_t1_abs.2.1
    have e := pb_k0_t1_succ (F := Ideal) Variants.none c none i arg2 harg2 arg3 harg3 arg4 harg4 arg5 harg5 arg6 harg6 arg7 harg7 arg8 harg8 arg9 harg9 hc0 (harg3.unread x1) (harg4.unread x2) ⟨n, hn⟩
    rw [show n + 1 = (⟨n, hn⟩ : Fin k0_t1_loop.trips).val + 1 from rfl, e, List.mem_append] at hp
    rcases hp with hp | hp
    · rw [trip_pieces] at hp
      simp only [List.mem_cons, List.not_mem_nil, or_false] at hp
      rcases hp with rfl | rfl | rfl | rfl
      · refine piece_val arg2 harg2 arg3 harg3 arg4 harg4 arg5 harg5 arg6 harg6 arg7 harg7 arg8 harg8 arg9 harg9 x1 x2 n 3 hk _ (k0_off5_eq _) (k0_off5_inb i ⟨n, hn⟩ hc0) _ (fun r j => ?_) h' r' j' x hx
        refine ((pays_val _ _ r j).2.2.2).trans ?_
        rw [load_val i arg2 harg2 arg3 harg3 arg4 harg4 arg5 harg5 arg6 harg6 arg7 harg7 arg8 harg8 arg9 harg9 hc0 x1 ⟨n, hn⟩ hk, load_val' i arg2 harg2 arg3 harg3 arg4 harg4 arg5 harg5 arg6 harg6 arg7 harg7 arg8 harg8 arg9 harg9 hc0 x2 ⟨n, hn⟩ hk]; rfl
      · refine piece_val arg2 harg2 arg3 harg3 arg4 harg4 arg5 harg5 arg6 harg6 arg7 harg7 arg8 harg8 arg9 harg9 x1 x2 n 2 hk _ (k0_off4_eq _) (k0_off4_inb i ⟨n, hn⟩ hc0) _ (fun r j => ?_) h' r' j' x hx
        refine ((pays_val _ _ r j).2.2.1).trans ?_
        rw [load_val i arg2 harg2 arg3 harg3 arg4 harg4 arg5 harg5 arg6 harg6 arg7 harg7 arg8 harg8 arg9 harg9 hc0 x1 ⟨n, hn⟩ hk, load_val' i arg2 harg2 arg3 harg3 arg4 harg4 arg5 harg5 arg6 harg6 arg7 harg7 arg8 harg8 arg9 harg9 hc0 x2 ⟨n, hn⟩ hk]; rfl
      · refine piece_val arg2 harg2 arg3 harg3 arg4 harg4 arg5 harg5 arg6 harg6 arg7 harg7 arg8 harg8 arg9 harg9 x1 x2 n 1 hk _ (k0_off3_eq _) (k0_off3_inb i ⟨n, hn⟩ hc0) _ (fun r j => ?_) h' r' j' x hx
        refine ((pays_val _ _ r j).2.1).trans ?_
        rw [load_val i arg2 harg2 arg3 harg3 arg4 harg4 arg5 harg5 arg6 harg6 arg7 harg7 arg8 harg8 arg9 harg9 hc0 x1 ⟨n, hn⟩ hk, load_val' i arg2 harg2 arg3 harg3 arg4 harg4 arg5 harg5 arg6 harg6 arg7 harg7 arg8 harg8 arg9 harg9 hc0 x2 ⟨n, hn⟩ hk]; rfl
      · refine piece_val arg2 harg2 arg3 harg3 arg4 harg4 arg5 harg5 arg6 harg6 arg7 harg7 arg8 harg8 arg9 harg9 x1 x2 n 0 hk _ (k0_off2_eq _) (k0_off2_inb i ⟨n, hn⟩ hc0) _ (fun r j => ?_) h' r' j' x hx
        refine ((pays_val _ _ r j).1).trans ?_
        rw [load_val i arg2 harg2 arg3 harg3 arg4 harg4 arg5 harg5 arg6 harg6 arg7 harg7 arg8 harg8 arg9 harg9 hc0 x1 ⟨n, hn⟩ hk, load_val' i arg2 harg2 arg3 harg3 arg4 harg4 arg5 harg5 arg6 harg6 arg7 harg7 arg8 harg8 arg9 harg9 hc0 x2 ⟨n, hn⟩ hk]; rfl
    · exact pieces_val hc0 x1 x2 h' r' j' n (Nat.le_of_succ_le hn) p hp x hx

theorem fill_val (hc0 : k0_cond1 i = 1#1) (x1 x2 : Vec Ideal S4096x256 .bf16) (h : Fin 4) (r : Fin 4096) (j : Fin 256) (f : arg9.view.ty.Contents (Elt Ideal)) :
    arg9.view.read (Elt Ideal) (arg9.view.writes (Elt Ideal) f (fillRun (F := Ideal) c i arg2 harg2 arg3 harg3 arg4 harg4 arg5 harg5 arg6 harg6 arg7 harg7 arg8 harg8 arg9 harg9 hc0 x1 x2).1) (ix3 h r j) = keyCell x1 x2 h r j := by
  refine read_of_pieces arg9.view f (fun z => z = keyCell x1 x2 h r j) (ix3 h r j) _ (fun p hp x hx => ?_)
    (fillCover c i arg2 harg2 arg3 harg3 arg4 harg4 arg5 harg5 arg6 harg6 arg7 harg7 arg8 harg8 arg9 harg9 hc0 x1 x2 (ix3 h r j))
  rw [fill_pieces] at hp
  exact pieces_val c i arg2 harg2 arg3 harg3 arg4 harg4 arg5 harg5 arg6 harg6 arg7 harg7 arg8 harg8 arg9 harg9 hc0 x1 x2 h r j _ (le_refl _) p hp x hx
end

variable (m : (ℓ : Loc nD τ sig) → Buf (Elt Ideal) ℓ)

/-- The first tile of a point's batch row. -/
def rowHead (t : Fin cfg0.N) : Fin cfg0.N := ⟨t.val / 4 * 4, Nat.lt_of_le_of_lt (Nat.div_mul_le_self _ _) t.isLt⟩

/-- The scratch at a grid point. -/
theorem keys_val (c : Dev nD) (t : Fin cfg0.N) (h : Fin 4) (r : Fin 4096) (j : Fin 256) :
    keysAt m c t.val t.isLt (ix3 h r j) = keyCell (iblk m c 1 (rowHead t)) (iblk m c 2 (rowHead t)) h r j :=
  fill_val c (grid0.coords (rowHead t)) _ (hs0_0 _) _ (hs0_1 _) _ (hs0_2 _) _ (hs0_3 _) _ (hs0_4 _) _ (hs0_5 _) _ (hs0_6 _) scM0_0 (Memref.isWhole_whole _)
    ((firstTile_iff (rowHead t)).mpr (Nat.mul_mod_left _ _)) _ _ h r j _

end Cert.Kernel3Ideal.Fox

end
-- ==== Proof.FoxCol.lean ====
module
public import proofs.«01_k».proof.Proof.FoxRest
public import proofs.«01_k».proof.Proof.FoxSoft
public import Idealize.ShloMosaic.Lib.Pointwise

/-! # The kernel's tile operations, one query at a time

Every query's column of a head's running values goes through `colStep` by itself. -/

@[expose] public section

set_option maxRecDepth 65536

noncomputable section

namespace Cert.Kernel3Ideal.Fox

open Idealize.ShloMosaic Idealize.ShloMosaic.TcCoe Idealize.ShloMosaic.Tactic
open Cert.Kernel3Ideal.Gen

/-- A query's column of a head's running values. -/
def col (s : Carry Ideal) (c : Fin 1024) : Col := (s.1 (ix2 0 c), s.2.1 (ix2 0 c), fun d => s.2.2 (ix2 d c))

/-- The most negative f32 word is minus infinity. -/
theorem neg_inf_word : Ideal.ofBits FTy.f32 4286578688#32 = (⊥ : EReal) := by
  rfl

theorem sum_halves (f : Fin 512 → EReal) :
    (∑ x : Fin 256, f ⟨x.val, by have := x.isLt; omega⟩) + (∑ x : Fin 256, f ⟨256 + x.val, by have := x.isLt; omega⟩) = ∑ i, f i :=
  (Fin.sum_univ_add (a := 256) (b := 256) f).symm

theorem newMax_col (u : FVec Ideal S512x1024 .f32) (m : FVec Ideal S8x1024 .f32) (c : Fin 1024) :
    newMax u m (ix2 0 c) = colMax (fun r => u (ix2 r c)) (m (ix2 0 c)) := by
  unfold newMax
  pointwise
  rw [neg_inf_word]
  rfl

/-- A tile taken in, one query's column. -/
theorem step_col (u : FVec Ideal S512x1024 .f32) (v : Vec Ideal S64x512 .bf16) (s : Carry Ideal) (c : Fin 1024) :
    col (step u v s) c = colStep (fun r => u (ix2 r c)) (fun d r => v (ix2 d r)) (col s c) := by
  have e1 := newMax_col u s.1 c
  refine Prod.ext e1 (Prod.ext ?_ (funext fun d => ?_))
  · show k0_pay10 k0_pay302 s.2.1 u (newMax u s.1) (exp2 (subf s.1 (newMax u s.1))) v (ix2 0 c) = _
    generalize newMax u s.1 = m' at e1 ⊢
    unfold k0_pay10 k0_pay9 k0_pay302
    pointwise
    rw [e1]
    exact congrArg _ (sum_halves fun i => Ideal.exp2 (u (ix2 i c) - colMax (fun r => u (ix2 r c)) (s.1 (ix2 0 c))))
  · show k0_pay11 k0_pay302 s.2.2 u (newMax u s.1) (exp2 (subf s.1 (newMax u s.1))) v (ix2 d c) = _
    generalize newMax u s.1 = m' at e1 ⊢
    unfold k0_pay11 k0_pay9 k0_pay302
    pointwise
    rw [e1]
    exact congrArg _ (sum_halves fun i => v (ix2 d i) * Ideal.exp2 (u (ix2 i c) - colMax (fun r => u (ix2 r c)) (s.1 (ix2 0 c))))

theorem late_max (q : FVec Ideal S256x1024 .bf16) (kk : Vec Ideal S1x512x256 .bf16) (m : FVec Ideal S8x1024 .f32) (c : Fin 512) :
    k0_pay227 q m kk (ix2 0 c) = colMax (fun r => k0_pay226 q kk (ix2 r c)) (m (ix2 0 ⟨512 + c.val, by have := c.isLt; omega⟩)) := by
  unfold k0_pay227
  generalize k0_pay226 q kk = u
  pointwise
  rw [neg_inf_word]
  rfl

/-- The last tile's sum of weights, one query of the second half. -/
theorem late_sum (q : FVec Ideal S256x1024 .bf16) (kk : Vec Ideal S1x512x256 .bf16) (v : Vec Ideal S64x512 .bf16) (s : Carry Ideal) (c : Fin 512) :
    lateSum q kk v s (ix2 0 ⟨512 + c.val, by have := c.isLt; omega⟩) = (colStep (fun r => k0_pay226 q kk (ix2 r c)) (fun d r => v (ix2 d r))
      (col s ⟨512 + c.val, by have := c.isLt; omega⟩)).2.1 := by
  have e1 := late_max q kk s.1 c
  unfold lateSum
  generalize k0_pay227 q s.1 kk = m' at e1 ⊢
  generalize k0_pay226 q kk = u at e1 ⊢
  unfold k0_pay250 k0_pay249 k0_pay248 k0_pay247 k0_pay246 k0_pay244 k0_pay302
  pointwise
  rw [e1]
  exact congrArg _ (sum_halves fun i => Ideal.exp2 (u (ix2 i c) - colMax (fun r => u (ix2 r c)) (s.1 (ix2 0 ⟨512 + c.val, by have := c.isLt; omega⟩))))

/-- The last tile's weighted sums, one query of the second half. -/
theorem late_acc (q : FVec Ideal S256x1024 .bf16) (kk : Vec Ideal S1x512x256 .bf16) (v : Vec Ideal S64x512 .bf16) (s : Carry Ideal) (d : Fin 64)
    (c : Fin 512) :
    lateAcc q kk v s (ix2 d ⟨512 + c.val, by have := c.isLt; omega⟩) = (colStep (fun r => k0_pay226 q kk (ix2 r c)) (fun d r => v (ix2 d r))
      (col s ⟨512 + c.val, by have := c.isLt; omega⟩)).2.2 d := by
  have e1 := late_max q kk s.1 c
  unfold lateAcc
  generalize k0_pay227 q s.1 kk = m' at e1 ⊢
  generalize k0_pay226 q kk = u at e1 ⊢
  unfold k0_pay251 k0_pay249 k0_pay248 k0_pay247 k0_pay246 k0_pay245 k0_pay302
  pointwise
  rw [e1]
  exact congrArg _ (sum_halves fun i => v (ix2 d i) * Ideal.exp2 (u (ix2 i c) - colMax (fun r => u (ix2 r c)) (s.1 (ix2 0 ⟨512 + c.val, by have := c.isLt; omega⟩))))

/-- The last tile does not reach a query of the first half. -/
theorem late_sum_first (q : FVec Ideal S256x1024 .bf16) (kk : Vec Ideal S1x512x256 .bf16) (v : Vec Ideal S64x512 .bf16) (s : Carry Ideal) (c : Fin 512) :
    lateSum q kk v s (ix2 0 ⟨c.val, by have := c.isLt; omega⟩) = s.2.1 (ix2 0 ⟨c.val, by have := c.isLt; omega⟩) := by
  unfold lateSum k0_pay250
  pointwise

/-- The last tile does not reach a query of the first half. -/
theorem late_acc_first (q : FVec Ideal S256x1024 .bf16) (kk : Vec Ideal S1x512x256 .bf16) (v : Vec Ideal S64x512 .bf16) (s : Carry Ideal) (d : Fin 64)
    (c : Fin 512) :
    lateAcc q kk v s (ix2 d ⟨c.val, by have := c.isLt; omega⟩) = s.2.2 (ix2 d ⟨c.val, by have := c.isLt; omega⟩) := by
  unfold lateAcc k0_pay251
  pointwise

end Cert.Kernel3Ideal.Fox

end
-- ==== Proof.FoxTile.lean ====
module
public import proofs.«01_k».proof.Proof.FoxKeys
public import proofs.«01_k».proof.Proof.FoxCol

/-! # One tile of keys, for one head

The tiles are pieces of the scratch and of the values.  A query at place `c` of query block `b` sees the keys up to
`1024 * b + c`; a later key is masked, its score is `⊥`.  A tile below the query block, and the first tile of the block itself, take the
running values from the keys before the tile to the keys up to its end (`full_step`, `diag_step`); the block's last tile
gives the quotient (`late_div`). -/

@[expose] public section

set_option maxRecDepth 65536

noncomputable section

namespace Cert.Kernel3Ideal.Fox

open Idealize.ShloMosaic Idealize.ShloMosaic.TcCoe Idealize.ShloMosaic.Tactic
open Cert.Kernel3Ideal.Gen

theorem kTile_val (arg9 : Memref sig .tc .vmem S4x4096x256 .bf16) (harg9 : arg9.IsWhole) (xs : Vec Ideal S4x4096x256 .bf16) (off : Fin 3 → ℕ)
    (inb) (h : Fin 4) (o : ℕ) (ho : o + 512 ≤ 4096) (hoff : off = ![h.val, o, 0]) (r : Fin 512) (j : Fin 256) :
    kTile arg9 harg9 xs off inb (ix3 0 r j) = xs (ix3 h ⟨o + r.val, by have := r.isLt; omega⟩ j) := by
  subst hoff
  unfold kTile
  rw [View.readAt_eq_ld, Memref.IsWhole.read_unread]
  pointwise

theorem vTile_val (arg5 : Memref sig .tc .vmem S256x4096 .bf16) (harg5 : arg5.IsWhole) (x3 : Vec Ideal S256x4096 .bf16) (off : Fin 2 → ℕ)
    (inb) (h : Fin 4) (o : ℕ) (ho : o + 512 ≤ 4096) (hoff : off = ![64 * h.val, o]) (d : Fin 64) (r : Fin 512) :
    vTile arg5 harg5 x3 off inb (ix2 d r) = x3 (ix2 (hd h d) ⟨o + r.val, by have := r.isLt; omega⟩) := by
  subst hoff
  unfold vTile
  rw [View.readAt_eq_ld, Memref.IsWhole.read_unread]
  pointwise
  rfl

/-- The causal mask of a tile whose keys and queries start at the same place. -/
theorem sel_causal (r c o : ℕ) (hr : r < 1024) (hc : c < 1024) (ho : o ≤ 512) (a b : EReal) :
    Scalar.select (IntOp.cmpi CmpIPredicate.sle (IntOp.addi (BitVec.ofNat 32 r) (BitVec.ofNat 32 o)) (IntOp.addi (BitVec.ofNat 32 c) (BitVec.ofNat 32 o))) a b
      = if r ≤ c then a else b := by
  have e : ∀ n : ℕ, IntOp.addi (BitVec.ofNat 32 n) (BitVec.ofNat 32 o) = BitVec.ofNat 32 (n + o) := fun n => BitVec.ofNat_add_ofNat n o
  rw [e, e, WordCmp.cmpi_sle_ofNat (by omega) (by omega)]
  by_cases h : r ≤ c
  · rw [if_pos h, show decide (r + o ≤ c + o) = true from decide_eq_true (by omega)]; rfl
  · rw [if_neg h, show decide (r + o ≤ c + o) = false from decide_eq_false (by omega)]; rfl

theorem full_val (q : FVec Ideal S256x1024 .bf16) (kk : Vec Ideal S1x512x256 .bf16) (r : Fin 512) (c : Fin 1024) :
    k0_pay2 q kk (ix2 r c) = ∑ x, kk (ix3 0 r x) * q (ix2 x c) := by
  unfold k0_pay2
  pointwise

theorem diag_val (q : FVec Ideal S256x1024 .bf16) (kk : Vec Ideal S1x512x256 .bf16) (r : Fin 512) (c : Fin 1024) :
    k0_pay209 q kk (ix2 r c) = if r.val ≤ c.val then ∑ x, kk (ix3 0 r x) * q (ix2 x c) else ⊥ := by
  unfold k0_pay209
  pointwise
  rw [named_mask]
  exact sel_causal r.val c.val 0 (by have := r.isLt; omega) c.isLt (by omega) _ _

theorem late_val (q : FVec Ideal S256x1024 .bf16) (kk : Vec Ideal S1x512x256 .bf16) (r c : Fin 512) :
    k0_pay226 q kk (ix2 r c) = if r.val ≤ c.val then ∑ x, kk (ix3 0 r x) * q (ix2 x ⟨512 + c.val, by have := c.isLt; omega⟩) else ⊥ := by
  unfold k0_pay226
  pointwise
  rw [named_mask]
  exact sel_causal r.val c.val 512 (by have := r.isLt; omega) (by have := c.isLt; omega) (by omega) _ _

/-- The score of key `k` as the query at place `c` of block `b` sees it: a later key is masked. -/
def seen (b : ℕ) (s : ℕ → EReal) (c k : ℕ) : EReal := if k ≤ 1024 * b + c then s k else ⊥

/-- Channel `d` of a head's values, by key. -/
def valueOf (x3 : Vec Ideal S256x4096 .bf16) (h : Fin 4) (d : Fin 64) (k : ℕ) : EReal := if hk : k < 4096 then x3 (ix2 (hd h d) ⟨k, hk⟩) else 0

theorem vTile_fun (arg5 : Memref sig .tc .vmem S256x4096 .bf16) (harg5 : arg5.IsWhole) (x3 : Vec Ideal S256x4096 .bf16) (off : Fin 2 → ℕ)
    (inb) (h : Fin 4) (o : ℕ) (ho : o + 512 ≤ 4096) (hoff : off = ![64 * h.val, o]) :
    (fun (d : Fin 64) (r : Fin 512) => vTile arg5 harg5 x3 off inb (ix2 d r)) = fun d r => valueOf x3 h d (o + r.val) := by
  funext d r
  rw [vTile_val arg5 harg5 x3 off inb h o ho hoff]
  unfold valueOf
  rw [dif_pos (by have := r.isLt; omega)]

section
variable {arg5 : Memref sig .tc .vmem S256x4096 .bf16} {harg5 : arg5.IsWhole} {arg9 : Memref sig .tc .vmem S4x4096x256 .bf16} {harg9 : arg9.IsWhole}
  {xs : Vec Ideal S4x4096x256 .bf16} {x3 : Vec Ideal S256x4096 .bf16} {q : FVec Ideal S256x1024 .bf16} {h : Fin 4} {b : ℕ} {S : Fin 1024 → ℕ → EReal}
  (hS : ∀ (c : Fin 1024) (k : Fin 4096), k.val ≤ 1024 * b + 1023 → ∑ x, xs (ix3 h k x) * q (ix2 x c) = S c k.val)
include hS

theorem tile_score (n : ℕ) (hn : n + 512 ≤ 1024 * b + 1024) (hn' : n + 512 ≤ 4096) {off : Fin 3 → ℕ} {inb} (hoff : off = ![h.val, n, 0]) (r : Fin 512) (c : Fin 1024) :
    ∑ x, kTile arg9 harg9 xs off inb (ix3 0 r x) * q (ix2 x c) = S c (n + r.val) := by
  rw [← hS c ⟨n + r.val, by have := r.isLt; omega⟩ (by have := r.isLt; show n + r.val ≤ _; omega)]
  exact Finset.sum_congr rfl fun x _ => by rw [kTile_val arg9 harg9 xs off inb h n hn' hoff]

theorem full_step (n : ℕ) (hn : n + 512 ≤ 1024 * b) (hn' : n + 512 ≤ 4096) {off : Fin 3 → ℕ} {inb} (hoff : off = ![h.val, n, 0]) {voff : Fin 2 → ℕ} {vinb} (hvoff : voff = ![64 * h.val, n])
    {s : Carry Ideal} (hs : ∀ c : Fin 1024, Holds n (seen b (S c) c.val) (valueOf x3 h) (col s c)) (c : Fin 1024) :
    Holds (n + 512) (seen b (S c) c.val) (valueOf x3 h) (col (step (k0_pay2 q (kTile arg9 harg9 xs off inb)) (vTile arg5 harg5 x3 voff vinb) s) c) := by
  rw [step_col, vTile_fun arg5 harg5 x3 voff vinb h n hn' hvoff]
  have e : ∀ r : Fin 512, k0_pay2 q (kTile arg9 harg9 xs off inb) (ix2 r c) = S c (n + r.val) := fun r =>
    (full_val _ _ r c).trans (tile_score hS n (by omega) hn' hoff r c)
  refine holds_colStep (hs c) _ fun r => (e r).trans ?_
  unfold seen
  rw [if_pos (by have := r.isLt; omega)]

theorem diag_step (hn' : 1024 * b + 512 ≤ 4096) {off : Fin 3 → ℕ} {inb} (hoff : off = ![h.val, 1024 * b, 0]) {voff : Fin 2 → ℕ} {vinb} (hvoff : voff = ![64 * h.val, 1024 * b])
    {s : Carry Ideal} (hs : ∀ c : Fin 1024, Holds (1024 * b) (seen b (S c) c.val) (valueOf x3 h) (col s c)) (c : Fin 1024) :
    Holds (1024 * b + 512) (seen b (S c) c.val) (valueOf x3 h) (col (step (k0_pay209 q (kTile arg9 harg9 xs off inb)) (vTile arg5 harg5 x3 voff vinb) s) c) := by
  rw [step_col, vTile_fun arg5 harg5 x3 voff vinb h _ hn' hvoff]
  have e : ∀ r : Fin 512, k0_pay209 q (kTile arg9 harg9 xs off inb) (ix2 r c) = if r.val ≤ c.val then S c (1024 * b + r.val) else ⊥ := fun r => by
    rw [diag_val, tile_score hS _ (by omega) hn' hoff r c]
  refine holds_colStep (hs c) _ fun r => (e r).trans ?_
  unfold seen
  by_cases hr : r.val ≤ c.val
  · rw [if_pos hr, if_pos (by omega)]
  · rw [if_neg hr, if_neg (by omega)]

/-- After the block's last tile, a head's weighted sums over its sums of weights. -/
theorem late_div (hn' : 1024 * b + 1024 ≤ 4096) {off : Fin 3 → ℕ} {inb} (hoff : off = ![h.val, 1024 * b + 512, 0]) {voff : Fin 2 → ℕ} {vinb}
    (hvoff : voff = ![64 * h.val, 1024 * b + 512]) {s : Carry Ideal}
    (hs : ∀ c : Fin 1024, Holds (1024 * b + 512) (seen b (S c) c.val) (valueOf x3 h) (col s c)) (c : Fin 1024) (d : Fin 64) :
    Ideal.div (lateAcc q (kTile arg9 harg9 xs off inb) (vTile arg5 harg5 x3 voff vinb) s (ix2 d c))
        (lateSum q (kTile arg9 harg9 xs off inb) (vTile arg5 harg5 x3 voff vinb) s (ix2 0 c))
      = quot 4096 (seen b (S c) c.val) (valueOf x3 h d) := by
  have hz : ∀ (n : ℕ) (c : ℕ), 1024 * b + c < n → ∀ s k, n ≤ k → k < 4096 → seen b s c k = ⊥ := fun n c hn s k hk _ => by
    unfold seen
    rw [if_neg (by omega)]
  by_cases hc : c.val < 512
  · obtain ⟨c', p, rfl⟩ : ∃ (c' : Fin 512) (p : c'.val < 1024), c = ⟨c'.val, p⟩ := ⟨⟨c.val, hc⟩, c.isLt, rfl⟩
    rw [late_sum_first, late_acc_first]
    exact holds_quot (hs _) (by omega) (hz _ _ (by show 1024 * b + c'.val < _; omega) _) d
  · obtain ⟨c', p, rfl⟩ : ∃ (c' : Fin 512) (p : 512 + c'.val < 1024), c = ⟨512 + c'.val, p⟩ :=
      ⟨⟨c.val - 512, by have := c.isLt; omega⟩, by show 512 + (c.val - 512) < 1024; have := c.isLt; omega, Fin.ext (by show c.val = 512 + (c.val - 512); omega)⟩
    rw [late_sum, late_acc, vTile_fun arg5 harg5 x3 voff vinb h _ (by omega) hvoff]
    have e : ∀ r : Fin 512, k0_pay226 q (kTile arg9 harg9 xs off inb) (ix2 r c')
        = if r.val ≤ c'.val then S ⟨512 + c'.val, by have := c'.isLt; omega⟩ (1024 * b + 512 + r.val) else ⊥ := fun r => by
      rw [late_val, tile_score hS _ (by omega) (by omega) hoff r _]
    refine holds_quot (n := 1024 * b + 512 + 512) (holds_colStep (hs _) _ fun r => (e r).trans ?_) (by omega)
      (hz _ _ (by have := c'.isLt; show 1024 * b + (512 + c'.val) < _; omega) _) d
    unfold seen
    by_cases hr : r.val ≤ c'.val
    · rw [if_pos hr, if_pos (by show _ ≤ 1024 * b + (512 + c'.val); omega)]
    · rw [if_neg hr, if_neg (by show ¬ _ ≤ 1024 * b + (512 + c'.val); omega)]
end

theorem start_col (w : ℕ → EReal) (v : Fin 64 → ℕ → EReal) (c : Fin 1024) : Holds 0 w v (col start c) := by
  refine ⟨?_, ?_, fun d => ?_⟩
  · show k0_pay303 (F := Ideal) (ix2 0 c) = ⊥
    unfold k0_pay303; pointwise; exact named_mask
  · show k0_pay304 (F := Ideal) (ix2 0 c) = 0
    unfold k0_pay304; pointwise
  · show k0_pay305 (F := Ideal) (ix2 d c) = 0
    unfold k0_pay305; pointwise

end Cert.Kernel3Ideal.Fox

end
-- ==== Proof.FoxInv.lean ====
module
public import proofs.«01_k».proof.Proof.FoxTile
public import Idealize.ShloMosaic.Lib.VecWindow

/-! # The output block of a grid point

The loop's invariant (`loop_holds`), and from it the block (`block_val`): at each query and each channel of each head the
quotient of the sums over the keys, normed. -/

@[expose] public section

set_option maxRecDepth 65536

noncomputable section

namespace Cert.Kernel3Ideal.Fox

open Idealize.ShloMosaic Idealize.ShloMosaic.TcCoe Idealize.ShloMosaic.Tactic
open Cert.Kernel3Ideal.Gen

theorem four_heads (h : Fin 4) : h = 0 ∨ h = 1 ∨ h = 2 ∨ h = 3 := by revert h; decide

section
variable (c : Dev nD) (i : grid0.Coords) (arg2 : Memref sig .tc .vmem S256x1024 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S1x8x1024 .f32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S4x4096x256 .bf16) (harg9 : arg9.IsWhole)
  (x0 : Vec Ideal S256x1024 .f32) (x3 : Vec Ideal S256x4096 .bf16) (x4 : Vec Ideal S1x8x1024 .f32) (x5 : Vec Ideal S256x1 .f32) (xs : Vec Ideal S4x4096x256 .bf16)
  (S : Fin 4 → Fin 1024 → ℕ → EReal)
  (hS : ∀ (h : Fin 4) (c' : Fin 1024) (k : Fin 4096), k.val ≤ 1024 * (i 1).val + 1023 → ∑ x, xs (ix3 h k x) * query c arg2 harg2 arg6 harg6 x0 x4 h (ix2 x c') = S h c' k.val)
include hS

theorem loop_holds : ∀ n, n ≤ (i 1).val → ∃ s : Fin 4 → Carry Ideal,
    loopAt c i arg2 harg2 arg3 harg3 arg4 harg4 arg5 harg5 arg6 harg6 arg7 harg7 arg8 harg8 arg9 harg9 x0 x3 x4 xs n = four (s 0) (s 1) (s 2) (s 3)
    ∧ ∀ (h : Fin 4) (c' : Fin 1024), Holds (1024 * n) (seen (i 1).val (S h c') c'.val) (valueOf x3 h) (col (s h) c')
  | 0, _ => ⟨fun _ => start, loopAt_zero c i arg2 harg2 arg3 harg3 arg4 harg4 arg5 harg5 arg6 harg6 arg7 harg7 arg8 harg8 arg9 harg9 x0 x3 x4 xs, fun h c' => start_col _ _ _⟩
  | n + 1, hn => by
    obtain ⟨s, hL, hs⟩ := loop_holds n (Nat.le_of_succ_le hn)
    have hi : (i 1).val < 4 := (i 1).isLt
    have hk : n < (k0_t2_loop i).trips := by rw [trips_eq]; exact hn
    obtain ⟨k, hkn⟩ : ∃ k : Fin (k0_t2_loop i).trips, k.val = n := ⟨⟨n, hk⟩, rfl⟩
    subst hkn
    have e := loopAt_succ c i arg2 harg2 arg3 harg3 arg4 harg4 arg5 harg5 arg6 harg6 arg7 harg7 arg8 harg8 arg9 harg9 x0 x3 x4 xs k _ _ _ _ hL
    refine ⟨![step (k0_pay2 (query c arg2 harg2 arg6 harg6 x0 x4 0) (kTile arg9 harg9 xs (k0_off12 i k) (k0_off12_inb i k))) (vTile arg5 harg5 x3 (k0_off17 i k) (k0_off17_inb i k)) (step (k0_pay2 (query c arg2 harg2 arg6 harg6 x0 x4 0) (kTile arg9 harg9 xs (k0_off6 i k) (k0_off6_inb i k))) (vTile arg5 harg5 x3 (k0_off9 i k) (k0_off9_inb i k)) (s 0)),
      step (k0_pay2 (query c arg2 harg2 arg6 harg6 x0 x4 1) (kTile arg9 harg9 xs (k0_off14 i k) (k0_off14_inb i k))) (vTile arg5 harg5 x3 (k0_off19 i k) (k0_off19_inb i k)) (step (k0_pay2 (query c arg2 harg2 arg6 harg6 x0 x4 1) (kTile arg9 harg9 xs (k0_off7 i k) (k0_off7_inb i k))) (vTile arg5 harg5 x3 (k0_off11 i k) (k0_off11_inb i k)) (s 1)),
      step (k0_pay2 (query c arg2 harg2 arg6 harg6 x0 x4 2) (kTile arg9 harg9 xs (k0_off16 i k) (k0_off16_inb i k))) (vTile arg5 harg5 x3 (k0_off20 i k) (k0_off20_inb i k)) (step (k0_pay2 (query c arg2 harg2 arg6 harg6 x0 x4 2) (kTile arg9 harg9 xs (k0_off8 i k) (k0_off8_inb i k))) (vTile arg5 harg5 x3 (k0_off13 i k) (k0_off13_inb i k)) (s 2)),
      step (k0_pay2 (query c arg2 harg2 arg6 harg6 x0 x4 3) (kTile arg9 harg9 xs (k0_off18 i k) (k0_off18_inb i k))) (vTile arg5 harg5 x3 (k0_off21 i k) (k0_off21_inb i k)) (step (k0_pay2 (query c arg2 harg2 arg6 harg6 x0 x4 3) (kTile arg9 harg9 xs (k0_off10 i k) (k0_off10_inb i k))) (vTile arg5 harg5 x3 (k0_off15 i k) (k0_off15_inb i k)) (s 3))], e, fun h col' => ?_⟩
    rcases four_heads h with rfl | rfl | rfl | rfl
    · refine full_step (hS 0) (1024 * k.val + 512) (by omega) (by omega) ((k0_off12_eq i k).trans ?_) ((k0_off17_eq i k).trans ?_)
        (full_step (hS 0) (1024 * k.val) (by omega) (by omega) ((k0_off6_eq i k).trans ?_) ((k0_off9_eq i k).trans ?_) (hs 0)) col' <;> rfl
    · refine full_step (hS 1) (1024 * k.val + 512) (by omega) (by omega) ((k0_off14_eq i k).trans ?_) ((k0_off19_eq i k).trans ?_)
        (full_step (hS 1) (1024 * k.val) (by omega) (by omega) ((k0_off7_eq i k).trans ?_) ((k0_off11_eq i k).trans ?_) (hs 1)) col' <;> rfl
    · refine full_step (hS 2) (1024 * k.val + 512) (by omega) (by omega) ((k0_off16_eq i k).trans ?_) ((k0_off20_eq i k).trans ?_)
        (full_step (hS 2) (1024 * k.val) (by omega) (by omega) ((k0_off8_eq i k).trans ?_) ((k0_off13_eq i k).trans ?_) (hs 2)) col' <;> rfl
    · refine full_step (hS 3) (1024 * k.val + 512) (by omega) (by omega) ((k0_off18_eq i k).trans ?_) ((k0_off21_eq i k).trans ?_)
        (full_step (hS 3) (1024 * k.val) (by omega) (by omega) ((k0_off10_eq i k).trans ?_) ((k0_off15_eq i k).trans ?_) (hs 3)) col' <;> rfl

/-- The block, at a query and a channel of a head. -/
theorem block_val (hc1 : ¬ k0_cond2 i = 1#1) (f : arg8.view.ty.Contents (Elt Ideal)) (h : Fin 4) (col' : Fin 1024) (d : Fin 64) :
    arg8.view.read (Elt Ideal) (arg8.view.writes (Elt Ideal) f (restRun c i arg2 harg2 arg3 harg3 arg4 harg4 arg5 harg5 arg6 harg6 arg7 harg7 arg8 harg8 arg9 harg9 hc1 x0 x3 x4 x5 xs).1) (ix2 col' (hd h d))
      = normed (fun x => quot 4096 (seen (i 1).val (S h col') col'.val) (valueOf x3 h x)) d * x5 (ix2 (hd h d) 0) := by
  have hi : (i 1).val < 4 := (i 1).isLt
  obtain ⟨s, hL, hs⟩ := loop_holds c i arg2 harg2 arg3 harg3 arg4 harg4 arg5 harg5 arg6 harg6 arg7 harg7 arg8 harg8 arg9 harg9 x0 x3 x4 xs S hS (i 1).val (le_refl _)
  rw [rest_eq c i arg2 harg2 arg3 harg3 arg4 harg4 arg5 harg5 arg6 harg6 arg7 harg7 arg8 harg8 arg9 harg9 hc1 x0 x3 x4 x5 xs _ _ _ _ hL]
  refine (congrFun (View.read_writes_full arg8.view f inb_S1024x256_S1024x256_0_0 _ []) (ix2 col' (hd h d))).trans ?_
  refine (stored_col ![sums (query c arg2 harg2 arg6 harg6 x0 x4 0) (kTile arg9 harg9 xs (k0_off54 i 0#32) (k0_off54_inb i hc1 0)) (kTile arg9 harg9 xs (k0_off54 i 1#32) (k0_off54_inb i hc1 1)) (vTile arg5 harg5 x3 (k0_off57 i 0#32) (k0_off57_inb i hc1 0)) (vTile arg5 harg5 x3 (k0_off57 i 1#32) (k0_off57_inb i hc1 1)) (s 0),
      sums (query c arg2 harg2 arg6 harg6 x0 x4 1) (kTile arg9 harg9 xs (k0_off55 i 0#32) (k0_off55_inb i hc1 0)) (kTile arg9 harg9 xs (k0_off55 i 1#32) (k0_off55_inb i hc1 1)) (vTile arg5 harg5 x3 (k0_off59 i 0#32) (k0_off59_inb i hc1 0)) (vTile arg5 harg5 x3 (k0_off59 i 1#32) (k0_off59_inb i hc1 1)) (s 1),
      sums (query c arg2 harg2 arg6 harg6 x0 x4 2) (kTile arg9 harg9 xs (k0_off56 i 0#32) (k0_off56_inb i hc1 0)) (kTile arg9 harg9 xs (k0_off56 i 1#32) (k0_off56_inb i hc1 1)) (vTile arg5 harg5 x3 (k0_off60 i 0#32) (k0_off60_inb i hc1 0)) (vTile arg5 harg5 x3 (k0_off60 i 1#32) (k0_off60_inb i hc1 1)) (s 2),
      sums (query c arg2 harg2 arg6 harg6 x0 x4 3) (kTile arg9 harg9 xs (k0_off58 i 0#32) (k0_off58_inb i hc1 0)) (kTile arg9 harg9 xs (k0_off58 i 1#32) (k0_off58_inb i hc1 1)) (vTile arg5 harg5 x3 (k0_off61 i 0#32) (k0_off61_inb i hc1 0)) (vTile arg5 harg5 x3 (k0_off61 i 1#32) (k0_off61_inb i hc1 1)) (s 3)]
    ![accs (query c arg2 harg2 arg6 harg6 x0 x4 0) (kTile arg9 harg9 xs (k0_off54 i 0#32) (k0_off54_inb i hc1 0)) (kTile arg9 harg9 xs (k0_off54 i 1#32) (k0_off54_inb i hc1 1)) (vTile arg5 harg5 x3 (k0_off57 i 0#32) (k0_off57_inb i hc1 0)) (vTile arg5 harg5 x3 (k0_off57 i 1#32) (k0_off57_inb i hc1 1)) (s 0),
      accs (query c arg2 harg2 arg6 harg6 x0 x4 1) (kTile arg9 harg9 xs (k0_off55 i 0#32) (k0_off55_inb i hc1 0)) (kTile arg9 harg9 xs (k0_off55 i 1#32) (k0_off55_inb i hc1 1)) (vTile arg5 harg5 x3 (k0_off59 i 0#32) (k0_off59_inb i hc1 0)) (vTile arg5 harg5 x3 (k0_off59 i 1#32) (k0_off59_inb i hc1 1)) (s 1),
      accs (query c arg2 harg2 arg6 harg6 x0 x4 2) (kTile arg9 harg9 xs (k0_off56 i 0#32) (k0_off56_inb i hc1 0)) (kTile arg9 harg9 xs (k0_off56 i 1#32) (k0_off56_inb i hc1 1)) (vTile arg5 harg5 x3 (k0_off60 i 0#32) (k0_off60_inb i hc1 0)) (vTile arg5 harg5 x3 (k0_off60 i 1#32) (k0_off60_inb i hc1 1)) (s 2),
      accs (query c arg2 harg2 arg6 harg6 x0 x4 3) (kTile arg9 harg9 xs (k0_off58 i 0#32) (k0_off58_inb i hc1 0)) (kTile arg9 harg9 xs (k0_off58 i 1#32) (k0_off58_inb i hc1 1)) (vTile arg5 harg5 x3 (k0_off61 i 0#32) (k0_off61_inb i hc1 0)) (vTile arg5 harg5 x3 (k0_off61 i 1#32) (k0_off61_inb i hc1 1)) (s 3)] _ col' h d).trans ?_
  have hg : (View.readAt (Elt Ideal) arg7.view (Rect.unit (s := S256x1) ![0, 0] S256x1.size inb_S256x1_S256x1_0_0).toLoadRect (harg7.unread x5)) (ix2 (hd h d) 0) = x5 (ix2 (hd h d) 0) := by
    rw [View.readAt_eq_ld, Memref.IsWhole.read_unread]
    pointwise
  rw [hg]
  refine congrArg (fun o => normed o d * x5 (ix2 (hd h d) 0)) (funext fun x => ?_)
  rcases four_heads h with rfl | rfl | rfl | rfl
  · exact late_div (hS 0) (by omega) (k0_off54_eq i 1) (k0_off57_eq i 1)
      (diag_step (hS 0) (by omega) (k0_off54_eq i 0) (k0_off57_eq i 0) (hs 0)) col' x
  · exact late_div (hS 1) (by omega) (k0_off55_eq i 1) (k0_off59_eq i 1)
      (diag_step (hS 1) (by omega) (k0_off55_eq i 0) (k0_off59_eq i 0) (hs 1)) col' x
  · exact late_div (hS 2) (by omega) (k0_off56_eq i 1) (k0_off60_eq i 1)
      (diag_step (hS 2) (by omega) (k0_off56_eq i 0) (k0_off60_eq i 0) (hs 2)) col' x
  · exact late_div (hS 3) (by omega) (k0_off58_eq i 1) (k0_off61_eq i 1)
      (diag_step (hS 3) (by omega) (k0_off58_eq i 0) (k0_off61_eq i 0) (hs 3)) col' x
end

end Cert.Kernel3Ideal.Fox

end
-- ==== Proof.FoxSpec.lean ====
module
public import proofs.«01_k».proof.Defs
public import proofs.«01_k».proof.Proof.FoxTile
public import proofs.«01_k».proof.Proof.FoxNorm

/-!
# Causal attention with forget gates, as one formula

The array that both programs have to deliver, written over the six operands.  A row of the result is
a batch and a place in it, a column is a head and a channel.
-/

@[expose] public section

noncomputable section

namespace Cert.Kernel3Ideal.Fox

open Idealize.ShloMosaic Idealize.ShloMosaic.TcCoe Idealize.ShloMosaic.Tactic
open Cert.Kernel3Ideal.Gen

/-- The row of place `p` of batch `b`. -/
def rowOf (b : Fin 8) (p : Fin 4096) : Fin 32768 := ⟨b.val * 4096 + p.val, by omega⟩

/-- The batch of a row. -/
def batchOf (n : Fin 32768) : Fin 8 := ⟨n.val / 4096, by omega⟩

/-- The place of a row in its batch. -/
def placeOf (n : Fin 32768) : Fin 4096 := ⟨n.val % 4096, by omega⟩

/-- The head of a column. -/
def headOf (j : Fin 256) : Fin 4 := ⟨j.val / 64, by omega⟩

/-- The channel of a column. -/
def chanOf (j : Fin 256) : Fin 64 := ⟨j.val % 64, by omega⟩

theorem rowOf_batch (n : Fin 32768) : rowOf (batchOf n) (placeOf n) = n := by
  apply Fin.ext; simp only [rowOf, batchOf, placeOf]; omega

theorem batchOf_row (b : Fin 8) (p : Fin 4096) : batchOf (rowOf b p) = b := by
  apply Fin.ext; simp only [rowOf, batchOf]; omega

theorem placeOf_row (b : Fin 8) (p : Fin 4096) : placeOf (rowOf b p) = p := by
  apply Fin.ext; simp only [rowOf, placeOf]; omega

theorem headOf_hd (h : Fin 4) (d : Fin 64) : headOf (hd h d) = h := by
  apply Fin.ext; simp only [hd, headOf]; omega

theorem chanOf_hd (h : Fin 4) (d : Fin 64) : chanOf (hd h d) = d := by
  apply Fin.ext; simp only [hd, chanOf]; omega

theorem hd_chan (j : Fin 256) : hd (headOf j) (chanOf j) = j := by
  apply Fin.ext; simp only [hd, headOf, chanOf]; omega

/-- The mean of the values `v` of the first `N` keys, weighted by the softmax of their scores `s`. -/
def softmax (N : ℕ) (s : ℕ → EReal) (v : ℕ → EReal) : EReal :=
  ∑ k ∈ Finset.range N, Ideal.div (Ideal.exp (s k - best N s)) (∑ j ∈ Finset.range N, Ideal.exp (s j - best N s)) * v k

section
variable (a0 : FVec Ideal S256x32768 .f32) (a1 : FVec Ideal S32768x256 .bf16)
  (a3 : FVec Ideal S256x32768 .bf16) (a4 : FVec Ideal S8x8x4096 .f32) (a5 : FVec Ideal S256 .f32)

/-- The score of key `k` for the query at place `p`: the scaled product plus the difference of the
two accumulated gates. -/
def score (b : Fin 8) (h : Fin 4) (p : Fin 4096) (k : ℕ) : EReal :=
  if hk : k < 4096 then
    scoreE (fun d => a1 (ix2 (rowOf b ⟨k, hk⟩) (hd h d))) (fun d => a0 (ix2 (hd h d) (rowOf b p)))
      (a4 (ix3 b (row8 h) p)) (a4 (ix3 b (row8 h) ⟨k, hk⟩))
  else ⊥

/-- The score as the query sees it: a key in the future is masked. -/
def keyScore (b : Fin 8) (h : Fin 4) (p : Fin 4096) (k : ℕ) : EReal :=
  if k ≤ p.val then score a0 a1 a4 b h p k else ⊥

/-- The value of key `k` in one channel. -/
def keyValue (b : Fin 8) (h : Fin 4) (d : Fin 64) (k : ℕ) : EReal :=
  if hk : k < 4096 then a3 (ix2 (hd h d) (rowOf b ⟨k, hk⟩)) else 0

/-- The softmax mean of the values. -/
def attended (b : Fin 8) (h : Fin 4) (p : Fin 4096) (d : Fin 64) : EReal :=
  softmax 4096 (keyScore a0 a1 a4 b h p) (keyValue a3 b h d)

/-- The result: the mean of every head, normalised over its channels, times the gain. -/
def attention : FVec Ideal S32768x256 .f32 := fun i =>
  normed (attended a0 a1 a3 a4 (batchOf (i 0)) (headOf (i 1)) (placeOf (i 0))) (chanOf (i 1)) * a5 (ix1 (i 1))

end

/-- What the precondition says of the operands, entry by entry: the first three lanes of a head's gate
rows add up to the neighbour's gate over `-log 2`, and the fourth is one. -/
structure Laid (a2 : FVec Ideal S32768x256 .bf16) (a4 : FVec Ideal S8x8x4096 .f32) : Prop where
  lanes : ∀ b (h : Fin 4) k,
    a2 (ix2 (rowOf b k) (hd (mate h) 0)) + a2 (ix2 (rowOf b k) (hd (mate h) 1)) + a2 (ix2 (rowOf b k) (hd (mate h) 2))
      = -a4 (ix3 b (row8 h) k) * log2E
  ones : ∀ b (h : Fin 4) k, a2 (ix2 (rowOf b k) (hd h 3)) = 1

end Cert.Kernel3Ideal.Fox
-- ==== Proof.FoxMean.lean ====
module
public import proofs.«01_k».proof.Proof.FoxSpec

/-!
# The quotient of the sums, normed, is the softmax's mean, normed

The kernel's scores are the formula's to base two, or the scores of both are infinite (`Alike`).  If the greatest score is a
real number, the exponentials agree and the quotient of the sums is the mean (`quot_softmax`).  If the greatest score is
infinite, every exponential is zero and the means are zero or infinite in every channel, and such a mean is zero once normed
(`normed_infinite`).  Either way the normed means agree (`normed_quot`).
-/

@[expose] public section

noncomputable section

namespace Cert.Kernel3Ideal.Fox

open Idealize.ShloMosaic

/-- Zero or either infinity. -/
def Extreme (x : EReal) : Prop := x = 0 ∨ x = ⊥ ∨ x = ⊤

theorem Extreme.add {x y : EReal} (hx : Extreme x) (hy : Extreme y) : Extreme (x + y) := by
  rcases hx with rfl | rfl | rfl
  · rw [zero_add]; exact hy
  · exact Or.inr (Or.inl (EReal.bot_add y))
  · rcases hy with rfl | rfl | rfl
    · rw [add_zero]; exact Or.inr (Or.inr rfl)
    · exact Or.inr (Or.inl (EReal.add_bot _))
    · exact Or.inr (Or.inr rfl)

theorem Extreme.sum {ι : Type} (s : Finset ι) (f : ι → EReal) (h : ∀ i ∈ s, Extreme (f i)) : Extreme (∑ i ∈ s, f i) := by
  classical
  induction s using Finset.induction_on with
  | empty => exact Or.inl rfl
  | insert i s hi ih =>
    rw [Finset.sum_insert hi]
    exact (h i (Finset.mem_insert_self i s)).add (ih fun j hj => h j (Finset.mem_insert_of_mem hj))

theorem extreme_bot_mul (v : EReal) : Extreme (⊥ * v) := by
  rcases lt_trichotomy v 0 with h | rfl | h
  · exact Or.inr (Or.inr (EReal.bot_mul_of_neg h))
  · exact Or.inl (mul_zero _)
  · exact Or.inr (Or.inl (EReal.bot_mul_of_pos h))

theorem div_zero_zero : Ideal.div 0 0 = ⊥ := by
  unfold Ideal.div
  rw [if_pos rfl, if_neg (lt_irrefl _)]

theorem word_64 : Ideal.ofBits FTy.f32 1115684864#32 = ((64 : ℝ) : EReal) := by
  show Ideal.ieee 8 23 (1115684864#32) = _
  simp only [Ideal.ieee, show ((1115684864#32).extractLsb' (8 + 23) 1 == 1#1) = false from by decide,
    show ((1115684864#32).extractLsb' 23 8).toNat = 133 from by decide,
    show ((1115684864#32).extractLsb' 0 23).toNat = 0 from by decide]
  norm_num

theorem word_eps : ∃ r : ℝ, Ideal.ofBits FTy.f32 897988541#32 = (r : EReal) := by
  show ∃ r : ℝ, Ideal.ieee 8 23 (897988541#32) = (r : EReal)
  simp only [Ideal.ieee, show ((897988541#32).extractLsb' (8 + 23) 1 == 1#1) = false from by decide,
    show ((897988541#32).extractLsb' 23 8).toNat = 107 from by decide,
    show ((897988541#32).extractLsb' 0 23).toNat = 407485 from by decide]
  exact ⟨_, rfl⟩

/-- A mean that is zero or infinite in every channel is zero once normed. -/
theorem normed_infinite (o : Fin 64 → EReal) (h : ∀ x, Extreme (o x)) (d : Fin 64) : normed o d = 0 := by
  unfold normed
  rcases h d with h0 | h0
  · rw [h0, zero_mul]
  · have hsq : ∀ x, 0 ≤ o x * o x := fun x => by
      rcases h x with e | e | e <;> rw [e]
      · rw [mul_zero]
      · rw [EReal.bot_mul_bot]; exact le_top
      · rw [EReal.top_mul_top]; exact le_top
    have hd : o d * o d = ⊤ := by
      rcases h0 with e | e <;> rw [e]
      · exact EReal.bot_mul_bot
      · exact EReal.top_mul_top
    have hs : ∑ x, o x * o x = ⊤ := top_le_iff.1 (hd ▸ Finset.single_le_sum (f := fun x => o x * o x) (fun x _ => hsq x) (Finset.mem_univ d))
    obtain ⟨r, hr⟩ := word_eps
    have h64 : Ideal.div ⊤ ((64 : ℝ) : EReal) = ⊤ := by
      unfold Ideal.div
      rw [if_neg (by exact_mod_cast (by norm_num : (64 : ℝ) ≠ 0)), ← EReal.coe_inv]
      exact EReal.top_mul_coe_of_pos (by norm_num)
    rw [hs, word_64, h64, hr, EReal.top_add_coe]
    exact mul_zero _

/-- The kernel's scores `u` are the scores `s` to base two, or all the scores of both are infinite. -/
def Alike (N : ℕ) (u s : ℕ → EReal) : Prop :=
  (∀ k ∈ Finset.range N, u k = s k * log2E) ∨ (∀ k ∈ Finset.range N, Infinite (u k) ∧ Infinite (s k))

/-- Below an infinite greatest score nothing is left. -/
theorem below_infinite {N : ℕ} {u : ℕ → EReal} (h : Infinite (best N u)) (k : ℕ) (hk : k ∈ Finset.range N) : u k - best N u = ⊥ := by
  rcases h with e | e
  · rw [show u k = ⊥ from le_bot_iff.1 (e ▸ le_best u hk), EReal.bot_sub]
  · rw [e]; exact sub_top' _

theorem best_infinite {N : ℕ} {u : ℕ → EReal} (h : ∀ k ∈ Finset.range N, Infinite (u k)) : Infinite (best N u) := by
  by_cases ht : ∃ k ∈ Finset.range N, u k = ⊤
  · obtain ⟨k, hk, e⟩ := ht
    exact Or.inr (top_le_iff.1 (e ▸ le_best u hk))
  · exact Or.inl (le_bot_iff.1 (Finset.sup_le fun k hk => ((h k hk).resolve_right fun e => ht ⟨k, hk, e⟩).le))

theorem extreme_quot {N : ℕ} {u : ℕ → EReal} (h : Infinite (best N u)) (v : ℕ → EReal) : Extreme (quot N u v) := by
  have e : ∀ k ∈ Finset.range N, Ideal.exp2 (u k - best N u) = 0 := fun k hk => by rw [below_infinite h k hk]; rfl
  unfold quot
  rw [Finset.sum_eq_zero e, Finset.sum_eq_zero fun k hk => by rw [e k hk, mul_zero], div_zero_zero]
  exact Or.inr (Or.inl rfl)

theorem extreme_softmax {N : ℕ} {s : ℕ → EReal} (h : Infinite (best N s)) (v : ℕ → EReal) : Extreme (softmax N s v) := by
  have e : ∀ k ∈ Finset.range N, Ideal.exp (s k - best N s) = 0 := fun k hk => by rw [below_infinite h k hk]; rfl
  unfold softmax
  rw [Finset.sum_eq_zero e]
  refine Extreme.sum _ _ fun k hk => ?_
  rw [e k hk, div_zero_zero]
  exact extreme_bot_mul _

theorem log_mono : Monotone fun x : EReal => x * log2E := fun _ _ h =>
  mul_le_mul_of_nonneg_right h (by unfold log2E; exact_mod_cast log2E_pos.le)

/-- The greatest score to base two. -/
theorem best_log {N : ℕ} {u s : ℕ → EReal} (h : ∀ k ∈ Finset.range N, u k = s k * log2E) : best N u = best N s * log2E := by
  unfold best
  rw [Finset.sup_congr rfl h]
  exact (Finset.comp_sup_eq_sup_comp (fun x : EReal => x * log2E) (fun x y => log_mono.map_sup x y)
    (by show ⊥ * log2E = ⊥; exact EReal.bot_mul_coe_of_pos log2E_pos)).symm

/-- A real greatest score: the quotient of the sums is the mean. -/
theorem quot_softmax {N : ℕ} {u s : ℕ → EReal} (h : ∀ k ∈ Finset.range N, u k = s k * log2E) {M : ℝ} (hM : best N s = (M : EReal))
    (v : ℕ → EReal) : quot N u v = softmax N s v := by
  have hl : ∀ x : EReal, x * log2E - best N s * log2E = (x - best N s) * log2E := fun x => by
    rw [sub_eq_add_neg, sub_eq_add_neg, add_log, EReal.neg_mul]
  have he : ∀ k ∈ Finset.range N, Ideal.exp2 (u k - best N u) = Ideal.exp (s k - best N s) := fun k hk => by
    rw [best_log h, h k hk, hl, exp2_log]
  have hr : ∀ k ∈ Finset.range N, ∃ r : ℝ, 0 ≤ r ∧ Ideal.exp (s k - best N s) = (r : EReal) := fun k hk => by
    have hle := le_best s hk
    rw [← exp2_log, ← hl]
    exact factor (log_mono hle)
  have hne : (Finset.range N).Nonempty := by
    by_contra e
    rw [Finset.not_nonempty_iff_eq_empty] at e
    unfold best at hM
    rw [e, Finset.sup_empty] at hM
    exact EReal.coe_ne_bot M hM.symm
  obtain ⟨k₀, hk₀, e₀⟩ := Finset.exists_mem_eq_sup _ hne s
  have h1 : Ideal.exp (s k₀ - best N s) = ((1 : ℝ) : EReal) := by
    rw [show s k₀ = best N s from e₀.symm, hM, ← EReal.coe_sub, sub_self, ← Real.exp_zero]; rfl
  choose! r hr0 hr using hr
  have hR : ∑ k ∈ Finset.range N, Ideal.exp (s k - best N s) = ((∑ k ∈ Finset.range N, r k : ℝ) : EReal) := by
    rw [coe_sum']; exact Finset.sum_congr rfl hr
  have hpos : 0 < ∑ k ∈ Finset.range N, r k :=
    Finset.sum_pos' hr0 ⟨k₀, hk₀, by have := (hr k₀ hk₀).symm.trans h1; rw [EReal.coe_eq_coe_iff.1 this]; norm_num⟩
  have hdiv : ∀ x : EReal, Ideal.div x ((∑ k ∈ Finset.range N, r k : ℝ) : EReal) = (((∑ k ∈ Finset.range N, r k)⁻¹ : ℝ) : EReal) * x := fun x => by
    unfold Ideal.div
    rw [if_neg (EReal.coe_ne_zero.2 hpos.ne'), ← EReal.coe_inv, mul_comm]
  unfold quot softmax
  rw [Finset.sum_congr rfl he, hR, hdiv, coe_mul_sum _ _ (inv_nonneg.2 hpos.le)]
  refine Finset.sum_congr rfl fun k hk => ?_
  rw [he k hk, hdiv, mul_assoc, mul_comm (v k)]

/-- The means agree once normed. -/
theorem normed_quot {N : ℕ} {u s : ℕ → EReal} (h : Alike N u s) (v : Fin 64 → ℕ → EReal) (d : Fin 64) :
    normed (fun x => quot N u (v x)) d = normed (fun x => softmax N s (v x)) d := by
  have both : Infinite (best N u) → Infinite (best N s) → normed (fun x => quot N u (v x)) d = normed (fun x => softmax N s (v x)) d := fun hu hs => by
    rw [normed_infinite _ (fun x => extreme_quot hu (v x)), normed_infinite _ (fun x => extreme_softmax hs (v x))]
  rcases h with h | h
  · rcases finite_or (best N s) with hi | ⟨M, hM⟩
    · exact both (best_log h ▸ hi.log) hi
    · rw [show (fun x => quot N u (v x)) = fun x => softmax N s (v x) from funext fun x => quot_softmax h hM (v x)]
  · exact both (best_infinite fun k hk => (h k hk).1) (best_infinite fun k hk => (h k hk).2)

end Cert.Kernel3Ideal.Fox
-- ==== Proof.FoxFinal.lean ====
module
public import proofs.«01_k».proof.Proof.FoxInv
public import proofs.«01_k».proof.Proof.FoxMean
public import Idealize.ShloMosaic.Lib.Pipeline.ValueKit

/-!
# The array the kernel leaves

The windows' blocks read off the operands, the product of query and key in terms of the operands'
entries, and with these the block of every grid point: together they fill the result with the formula.
-/

@[expose] public section

set_option maxRecDepth 65536

noncomputable section

namespace Cert.Kernel3Ideal.Fox

open Idealize.ShloMosaic Idealize.ShloMosaic.TcCoe Idealize.ShloMosaic.Tactic Idealize.SL.Sem
open Idealize.ShloMosaic.Pipeline (Dat)
open Cert.Kernel3Ideal.Gen

variable (m : (ℓ : Loc nD τ sig) → Buf (Elt Ideal) ℓ)

theorem at0 : ∀ t : Fin cfg0.N, win0_0.index t = ![0, t.val] := (by decide +kernel : ∀ t : Fin grid0.N, _)
theorem at1 : ∀ t : Fin cfg0.N, win0_1.index t = ![t.val / 4, 0] := (by decide +kernel : ∀ t : Fin grid0.N, _)
theorem at2 : ∀ t : Fin cfg0.N, win0_2.index t = ![t.val / 4, 0] := (by decide +kernel : ∀ t : Fin grid0.N, _)
theorem at3 : ∀ t : Fin cfg0.N, win0_3.index t = ![0, t.val / 4] := (by decide +kernel : ∀ t : Fin grid0.N, _)
theorem at4 : ∀ t : Fin cfg0.N, win0_4.index t = ![t.val / 4, 0, t.val % 4] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)

theorem lt32 (t : Fin cfg0.N) : t.val < 32 := t.isLt.trans_eq N_0

theorem coord1 (t : Fin cfg0.N) : (grid0.coords t 1).val = t.val % 4 := by
  have e : (grid0.coords t 1).val = t.val / 1 % 4 := Pipeline.Grid.coords_val t 1 (by decide) rfl
  rw [e, Nat.div_one]

theorem in0 (c : Dev nD) (t : Fin cfg0.N) (j : Fin 256) (n : Fin 1024) (h : t.val * 1024 + n.val < 32768) :
    (iblk m c 0 t : FVec Ideal S256x1024 .f32) (ix2 j n) = m ((c : Thread nD τ).loc main_arg0) (ix2 j ⟨t.val * 1024 + n.val, h⟩) := by
  have e := at0 t
  blk_ext [iblk, V, e]

theorem in1 (c : Dev nD) (t : Fin cfg0.N) (r : Fin 4096) (j : Fin 256) (h : t.val / 4 * 4096 + r.val < 32768) :
    (iblk m c 1 t : FVec Ideal S4096x256 .bf16) (ix2 r j) = m ((c : Thread nD τ).loc main_arg1) (ix2 ⟨t.val / 4 * 4096 + r.val, h⟩ j) := by
  have e := at1 t
  blk_ext [iblk, V, e]

theorem in2 (c : Dev nD) (t : Fin cfg0.N) (r : Fin 4096) (j : Fin 256) (h : t.val / 4 * 4096 + r.val < 32768) :
    (iblk m c 2 t : FVec Ideal S4096x256 .bf16) (ix2 r j) = m ((c : Thread nD τ).loc main_arg2) (ix2 ⟨t.val / 4 * 4096 + r.val, h⟩ j) := by
  have e := at2 t
  blk_ext [iblk, V, e]

theorem in3 (c : Dev nD) (t : Fin cfg0.N) (j : Fin 256) (r : Fin 4096) (h : t.val / 4 * 4096 + r.val < 32768) :
    (iblk m c 3 t : FVec Ideal S256x4096 .bf16) (ix2 j r) = m ((c : Thread nD τ).loc main_arg3) (ix2 j ⟨t.val / 4 * 4096 + r.val, h⟩) := by
  have e := at3 t
  blk_ext [iblk, V, e]

theorem in4 (c : Dev nD) (t : Fin cfg0.N) (g : Fin 8) (n : Fin 1024) (h1 : t.val / 4 < 8) (h2 : t.val % 4 * 1024 + n.val < 4096) :
    (iblk m c 4 t : FVec Ideal S1x8x1024 .f32) (ix3 0 g n) = m ((c : Thread nD τ).loc main_arg4) (ix3 ⟨t.val / 4, h1⟩ g ⟨t.val % 4 * 1024 + n.val, h2⟩) := by
  have e := at4 t
  blk_ext [iblk, V, e]

theorem in5 (c : Dev nD) (t : Fin cfg0.N) (j : Fin 256) :
    (iblk m c 5 t : FVec Ideal S256x1 .f32) (ix2 j 0) = m ((c : Thread nD τ).loc main_arg5) (ix1 j) := by
  have e := at5 t
  blk_ext! [iblk, V, e]

/-- The batch of a grid point. -/
def tb (t : Fin cfg0.N) : Fin 8 := ⟨t.val / 4, by have := lt32 t; omega⟩

/-- The place of a point's query in its batch. -/
def tp (t : Fin cfg0.N) (n : Fin 1024) : Fin 4096 := ⟨t.val % 4 * 1024 + n.val, by omega⟩

/-- The row of a point's query. -/
def tr (t : Fin cfg0.N) (n : Fin 1024) : Fin 32768 := ⟨t.val * 1024 + n.val, by have := lt32 t; omega⟩

theorem row_tp (t : Fin cfg0.N) (n : Fin 1024) : rowOf (tb t) (tp t n) = tr t n := by
  apply Fin.ext; simp only [rowOf, tb, tp, tr]; omega
theorem batch_tr (t : Fin cfg0.N) (n : Fin 1024) : batchOf (tr t n) = tb t := by rw [← row_tp, batchOf_row]
theorem place_tr (t : Fin cfg0.N) (n : Fin 1024) : placeOf (tr t n) = tp t n := by rw [← row_tp, placeOf_row]

theorem get0 (c : Dev nD) (t : Fin cfg0.N) (j : Fin 256) (n : Fin 1024) :
    (iblk m c 0 t : FVec Ideal S256x1024 .f32) (ix2 j n) = m ((c : Thread nD τ).loc main_arg0) (ix2 j (rowOf (tb t) (tp t n))) := by
  rw [row_tp]; exact in0 m c t j n _

theorem rowHead_div (t : Fin cfg0.N) : (rowHead t).val / 4 = t.val / 4 := Nat.mul_div_cancel _ (by decide)

theorem row_head (t : Fin cfg0.N) (r : Fin 4096) (h) : (⟨(rowHead t).val / 4 * 4096 + r.val, h⟩ : Fin 32768) = rowOf (tb t) r := by
  apply Fin.ext; simp only [rowHead_div, rowOf, tb]

theorem get1 (c : Dev nD) (t : Fin cfg0.N) (r : Fin 4096) (j : Fin 256) :
    (iblk m c 1 (rowHead t) : FVec Ideal S4096x256 .bf16) (ix2 r j) = m ((c : Thread nD τ).loc main_arg1) (ix2 (rowOf (tb t) r) j) := by
  rw [← row_head t r (by have := lt32 (rowHead t); omega)]; exact in1 m c (rowHead t) r j _

theorem get2 (c : Dev nD) (t : Fin cfg0.N) (r : Fin 4096) (j : Fin 256) :
    (iblk m c 2 (rowHead t) : FVec Ideal S4096x256 .bf16) (ix2 r j) = m ((c : Thread nD τ).loc main_arg2) (ix2 (rowOf (tb t) r) j) := by
  rw [← row_head t r (by have := lt32 (rowHead t); omega)]; exact in2 m c (rowHead t) r j _

theorem get3 (c : Dev nD) (t : Fin cfg0.N) (j : Fin 256) (r : Fin 4096) :
    (iblk m c 3 t : FVec Ideal S256x4096 .bf16) (ix2 j r) = m ((c : Thread nD τ).loc main_arg3) (ix2 j (rowOf (tb t) r)) :=
  in3 m c t j r _

theorem get4 (c : Dev nD) (t : Fin cfg0.N) (g : Fin 8) (n : Fin 1024) :
    (iblk m c 4 t : FVec Ideal S1x8x1024 .f32) (ix3 0 g n) = m ((c : Thread nD τ).loc main_arg4) (ix3 (tb t) g (tp t n)) :=
  in4 m c t g n _ _

/-- The formula over the operands as launched. -/
def result (c : Dev nD) : FVec Ideal S32768x256 .f32 :=
  attention (m ((c : Thread nD τ).loc main_arg0)) (m ((c : Thread nD τ).loc main_arg1)) (m ((c : Thread nD τ).loc main_arg3))
    (m ((c : Thread nD τ).loc main_arg4)) (m ((c : Thread nD τ).loc main_arg5))

/-- The product of key `k`'s row and a query's column. -/
def prod (c : Dev nD) (t : Fin cfg0.N) (h : Fin 4) (n : Fin 1024) (k : ℕ) : EReal :=
  if hk : k < 4096 then
    ∑ x, keysAt m c t.val t.isLt (ix3 h ⟨k, hk⟩ x) * query c (ms0_0 t) (hs0_0 t) (ms0_4 t) (hs0_4 t) (iblk m c 0 t) (iblk m c 4 t) h (ix2 x n)
  else ⊥

section
variable (c : Dev nD) (L : Laid (m ((c : Thread nD τ).loc main_arg2)) (m ((c : Thread nD τ).loc main_arg4)))
include L

/-- The product of a key's row and a query's column is the score to base two; if the query's accumulated logarithm is infinite,
both are. -/
theorem product_val (t : Fin cfg0.N) (h : Fin 4) (n : Fin 1024) (k : Fin 4096) :
    (Infinite (m ((c : Thread nD τ).loc main_arg4) (ix3 (tb t) (row8 h) (tp t n))) → Infinite (prod m c t h n k.val) ∧
        Infinite (score (m ((c : Thread nD τ).loc main_arg0)) (m ((c : Thread nD τ).loc main_arg1)) (m ((c : Thread nD τ).loc main_arg4)) (tb t) h (tp t n) k.val)) ∧
      (¬ Infinite (m ((c : Thread nD τ).loc main_arg4) (ix3 (tb t) (row8 h) (tp t n))) → prod m c t h n k.val
        = score (m ((c : Thread nD τ).loc main_arg0)) (m ((c : Thread nD τ).loc main_arg1)) (m ((c : Thread nD τ).loc main_arg4)) (tb t) h (tp t n) k.val * log2E) := by
  unfold score prod
  rw [dif_pos k.isLt, dif_pos k.isLt]
  refine product_score _ _ h _ _ (fun g d => m ((c : Thread nD τ).loc main_arg2) (ix2 (rowOf (tb t) k) (hd g d))) _ _ (fun g d => ?_) (fun g d => ?_)
    (L.lanes _ _ _) (L.ones _ _ _)
  · rw [keys_val]
    unfold keyCell
    rw [get1, get2, pick]
    by_cases e : g = h
    · subst e; rw [if_pos rfl]
    · rw [if_neg e, if_neg e]
  · refine (query_val c _ _ _ _ _ _ n h g d).trans ?_
    rw [get0, get4]
    by_cases e : g = h
    · subst e; rw [if_pos rfl]
    · rw [if_neg e, if_neg e]

/-- The scores a query sees, the kernel's and the formula's. -/
theorem alike (t : Fin cfg0.N) (h : Fin 4) (n : Fin 1024) :
    Alike 4096 (seen (grid0.coords t 1).val (prod m c t h n) n.val)
      (keyScore (m ((c : Thread nD τ).loc main_arg0)) (m ((c : Thread nD τ).loc main_arg1)) (m ((c : Thread nD τ).loc main_arg4)) (tb t) h (tp t n)) := by
  have hp : ∀ k, (k ≤ 1024 * (grid0.coords t 1).val + n.val) ↔ k ≤ (tp t n).val := fun k => by
    rw [coord1, Nat.mul_comm 1024]; rfl
  by_cases hi : Infinite (m ((c : Thread nD τ).loc main_arg4) (ix3 (tb t) (row8 h) (tp t n)))
  · refine Or.inr fun k hk => ?_
    unfold seen keyScore
    by_cases hkp : k ≤ (tp t n).val
    · rw [if_pos hkp, if_pos ((hp k).2 hkp)]
      exact (product_val m c L t h n ⟨k, Finset.mem_range.1 hk⟩).1 hi
    · rw [if_neg hkp, if_neg fun e => hkp ((hp k).1 e)]
      exact ⟨Or.inl rfl, Or.inl rfl⟩
  · refine Or.inl fun k hk => ?_
    unfold seen keyScore
    by_cases hkp : k ≤ (tp t n).val
    · rw [if_pos hkp, if_pos ((hp k).2 hkp)]
      exact (product_val m c L t h n ⟨k, Finset.mem_range.1 hk⟩).2 hi
    · rw [if_neg hkp, if_neg fun e => hkp ((hp k).1 e)]
      exact (EReal.bot_mul_coe_of_pos log2E_pos).symm

/-- The block of a grid point, at a query and a channel of a head. -/
theorem outAt_val (t : Fin cfg0.N) (n : Fin 1024) (h : Fin 4) (d : Fin 64) :
    outAt m c t (ix2 n (hd h d))
      = attention (m ((c : Thread nD τ).loc main_arg0)) (m ((c : Thread nD τ).loc main_arg1)) (m ((c : Thread nD τ).loc main_arg3))
          (m ((c : Thread nD τ).loc main_arg4)) (m ((c : Thread nD τ).loc main_arg5)) (ix2 (tr t n) (hd h d)) := by
  refine (block_val c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 3 t) (iblk m c 4 t) (iblk m c 5 t)
    (keysAt m c t.val t.isLt)
    (prod m c t) (fun h n k _ => by unfold prod; rw [dif_pos k.isLt]) (neverOdd t) _ h n d).trans ?_
  show _ = normed (attended _ _ _ _ (batchOf (tr t n)) (headOf (hd h d)) (placeOf (tr t n))) (chanOf (hd h d)) * m ((c : Thread nD τ).loc main_arg5) (ix1 (hd h d))
  rw [batch_tr, place_tr, headOf_hd, chanOf_hd, in5]
  have e2 : ∀ x, valueOf (iblk m c 3 t) h x = keyValue (m ((c : Thread nD τ).loc main_arg3)) (tb t) h x := fun x => by
    funext k
    unfold valueOf keyValue
    by_cases hk : k < 4096
    · rw [dif_pos hk, dif_pos hk]; exact get3 m c t _ _
    · rw [dif_neg hk, dif_neg hk]
  simp only [e2]
  exact congrArg (· * m ((c : Thread nD τ).loc main_arg5) (ix1 (hd h d)))
    (normed_quot (alike m c L t h n) (keyValue (m ((c : Thread nD τ).loc main_arg3)) (tb t) h) d)

/-- The result array holds the formula. -/
theorem final : (dats m 0 c).arrAt 6 cfg0.N
    = result m c := by
  refine (dats m 0 c).arrAt_eq_of_covers 6 _ (by decide +kernel) fun t _ y => ?_
  blk_simp
  rw [after0_6]
  obtain ⟨n, j, rfl⟩ : ∃ (n : Fin 1024) (j : Fin 256), y = ix2 n j := ⟨y 0, y 1, eq_ix2 y⟩
  have e0 : ((win0_6.blk t).view.emb (ix2 n j) : S32768x256.Idx) = ix2 (tr t n) j := by
    have e := at6 t
    unfold tr
    blk_ext [e]
  obtain ⟨h, d, rfl⟩ : ∃ (h : Fin 4) (d : Fin 64), j = hd h d := ⟨headOf j, chanOf j, (hd_chan j).symm⟩
  refine (outAt_val m c L t n h d).trans ?_
  exact (congrArg (attention (m ((c : Thread nD τ).loc main_arg0)) (m ((c : Thread nD τ).loc main_arg1)) (m ((c : Thread nD τ).loc main_arg3))
        (m ((c : Thread nD τ).loc main_arg4)) (m ((c : Thread nD τ).loc main_arg5))) e0).symm

end

end Cert.Kernel3Ideal.Fox
-- ==== Proof.FoxRef.lean ====
module
public import proofs.«01_k».proof.Proof.FoxSpec
public import proofs.«01_k».proof.Proof.Gen.Reference3Ideal.Read
public import Idealize.ShloMosaic.Lib.Pointwise

/-!
# The reference is the formula

The reference's operations, read one group at a time at one entry.
-/

@[expose] public section

set_option maxRecDepth 65536

noncomputable section

namespace Cert.Reference3Ideal.Fox

open Idealize.ShloMosaic Idealize.ShloMosaic.TcCoe Idealize.ShloMosaic.Tactic
open Cert.Reference3Ideal Cert.Reference3Ideal.Gen Cert.Reference3Ideal.Read
open Cert.Kernel3Ideal.Fox (rowOf batchOf placeOf headOf chanOf hd row8 normed best softmax score scoreE keyScore keyValue attended attention Laid)

theorem word_eighth : Ideal.ofBits FTy.f32 1040187392#32 = ((8⁻¹ : ℝ) : EReal) := by
  show Ideal.ieee 8 23 (1040187392#32) = _
  simp only [Ideal.ieee, show ((1040187392#32).extractLsb' (8 + 23) 1 == 1#1) = false from by decide,
    show ((1040187392#32).extractLsb' 23 8).toNat = 124 from by decide,
    show ((1040187392#32).extractLsb' 0 23).toNat = 0 from by decide]
  norm_num

theorem max_word (y : Ideal .f32) : FloatOps.maximumf (Ideal.ofBits FTy.f32 4286578688#32 : Ideal .f32) y = y :=
  max_eq_right (show (⊥ : EReal) ≤ y from bot_le)

variable (x0 : FVec Ideal S256x32768 .f32) (x1 x2 : FVec Ideal S32768x256 .bf16) (x3 : FVec Ideal S256x32768 .bf16)
  (x4 : FVec Ideal S8x8x4096 .f32) (x5 : FVec Ideal S256 .f32)

/-- The scores before the mask. -/
theorem v20_apply (b : Fin 8) (h : Fin 4) (p k : Fin 4096) :
    val_main_v20 (F := Ideal) x0 x1 x4 (ix4 b h p k)
      = (∑ x, x0 (ix2 (hd h x) (rowOf b p)) * x1 (ix2 (rowOf b k) (hd h x))) * Ideal.ofBits FTy.f32 1040187392#32
        + x4 (ix3 b (row8 h) p) - x4 (ix3 b (row8 h) k) := by
  have e : ∀ x : Fin 64, hd h x = ⟨h.val * 64 + x.val, by omega⟩ := fun x => Fin.ext (by show 64 * h.val + x.val = h.val * 64 + x.val; omega)
  simp only [e]
  unfold val_main_v20 val_main_v19 val_main_v18 val_main_v17 val_main_v16 val_main_v15 val_main_v14 val_main_v13 val_main_v12
    val_main_v10 val_main_v5 val_main_v4 val_main_v3 val_main_v2 val_main_v1 val_main_v0 val_main_cst
  pointwise
  rfl

/-- The mask. -/
theorem v26_apply (b : Fin 8) (h : Fin 4) (p k : Fin 4096) :
    val_main_v26 (F := Ideal) x0 x1 x4 (ix4 b h p k)
      = if k.val ≤ p.val then val_main_v20 (F := Ideal) x0 x1 x4 (ix4 b h p k) else ⊥ := by
  have e : val_main_v26 (F := Ideal) x0 x1 x4 (ix4 b h p k)
      = Scalar.select (IntOp.cmpi CmpIPredicate.sle (BitVec.ofNat 32 k.val) (BitVec.ofNat 32 p.val))
          (val_main_v20 (F := Ideal) x0 x1 x4 (ix4 b h p k)) (Ideal.ofBits FTy.f32 4286578688#32) := by
    unfold val_main_v26 val_main_call0_v1 val_main_call0_v2 val_main_call0_v0 val_main_v25 val_main_v24 val_main_v23 val_main_v22 val_main_v21
      val_main_v11 val_main_cst_0
    generalize val_main_v20 (F := Ideal) x0 x1 x4 = s
    pointwise
    rfl
  rw [e, WordCmp.cmpi_sle_ofNat (by omega) (by omega)]
  by_cases hk : k.val ≤ p.val
  · rw [if_pos hk, decide_eq_true hk]; rfl
  · rw [if_neg hk, decide_eq_false hk]; rfl

theorem v27_apply (b : Fin 8) (h : Fin 4) (p : Fin 4096) :
    val_main_v27 (F := Ideal) x0 x1 x4 (ix3 b h p)
      = Finset.fold max (⊥ : EReal) (fun x => val_main_v26 (F := Ideal) x0 x1 x4 (ix4 b h p x)) Finset.univ := by
  have e : val_main_v27 (F := Ideal) x0 x1 x4 (ix3 b h p)
      = Finset.fold max (Ideal.ofBits FTy.f32 4286578688#32) (fun x => val_main_v26 (F := Ideal) x0 x1 x4 (ix4 b h p x)) Finset.univ := by
    unfold val_main_v27 val_main_cst_1
    generalize val_main_v26 (F := Ideal) x0 x1 x4 = s
    pointwise
  exact e

theorem v28_apply (i : S8x4x4096.Idx) : val_main_v28 (F := Ideal) i = (Ideal.ofBits FTy.f32 4286578688#32 : Ideal .f32) := by
  rw [val_main_v28_apply, val_main_cst_2_apply]; rfl

theorem v29_apply (b : Fin 8) (h : Fin 4) (p : Fin 4096) :
    val_main_v29 (F := Ideal) x0 x1 x4 (ix3 b h p) = val_main_v27 (F := Ideal) x0 x1 x4 (ix3 b h p) := by
  rw [val_main_v29_apply, v28_apply]
  exact max_word _

theorem v33_apply (b : Fin 8) (h : Fin 4) (p k : Fin 4096) :
    val_main_v33 (F := Ideal) x0 x1 x4 (ix4 b h p k)
      = Ideal.exp (val_main_v26 (F := Ideal) x0 x1 x4 (ix4 b h p k) - val_main_v29 (F := Ideal) x0 x1 x4 (ix3 b h p)) := by
  unfold val_main_v33 val_main_v32 val_main_v31 val_main_v30
  generalize val_main_v26 (F := Ideal) x0 x1 x4 = s
  generalize val_main_v29 (F := Ideal) x0 x1 x4 = y
  pointwise

theorem v34_apply (b : Fin 8) (h : Fin 4) (p : Fin 4096) :
    val_main_v34 (F := Ideal) x0 x1 x4 (ix3 b h p) = ∑ x, val_main_v33 (F := Ideal) x0 x1 x4 (ix4 b h p x) := by
  unfold val_main_v34 val_main_cst_3
  generalize val_main_v33 (F := Ideal) x0 x1 x4 = s
  pointwise

theorem v37_apply (b : Fin 8) (h : Fin 4) (p k : Fin 4096) :
    val_main_v37 (F := Ideal) x0 x1 x4 (ix4 b h p k)
      = Ideal.div (val_main_v33 (F := Ideal) x0 x1 x4 (ix4 b h p k)) (val_main_v34 (F := Ideal) x0 x1 x4 (ix3 b h p)) := by
  unfold val_main_v37 val_main_v36 val_main_v35
  generalize val_main_v33 (F := Ideal) x0 x1 x4 = s
  generalize val_main_v34 (F := Ideal) x0 x1 x4 = y
  pointwise

theorem v38_apply (b : Fin 8) (h : Fin 4) (p : Fin 4096) (d : Fin 64) :
    val_main_v38 (F := Ideal) x0 x1 x3 x4 (ix4 b h p d)
      = ∑ x, val_main_v37 (F := Ideal) x0 x1 x4 (ix4 b h p x) * x3 (ix2 (hd h d) (rowOf b x)) := by
  rw [show hd h d = ⟨h.val * 64 + d.val, by omega⟩ from Fin.ext (by show 64 * h.val + d.val = h.val * 64 + d.val; omega)]
  unfold val_main_v38 val_main_v9 val_main_v8 val_main_v7 val_main_v6
  generalize val_main_v37 (F := Ideal) x0 x1 x4 = s
  pointwise
  rfl

theorem v54_apply (n : Fin 32768) (j : Fin 256) :
    val_main_v54 (F := Ideal) x0 x1 x3 x4 x5 (ix2 n j)
      = normed (fun x => val_main_v38 (F := Ideal) x0 x1 x3 x4 (ix4 (batchOf n) (headOf j) (placeOf n) x)) (chanOf j) * x5 (ix1 j) := by
  unfold val_main_v54 val_main_v53 val_main_v52 val_main_v51 val_main_v50 val_main_v49 val_main_v48 val_main_v47 val_main_v46 val_main_v45
    val_main_v44 val_main_v43 val_main_v42 val_main_v41 val_main_v40 val_main_v39 val_main_cst_4 val_main_cst_5 val_main_cst_6
  generalize val_main_v38 (F := Ideal) x0 x1 x3 x4 = s
  pointwise
  rfl

/-- The unmasked score is the formula's. -/
theorem v20_score (b : Fin 8) (h : Fin 4) (p k : Fin 4096) :
    val_main_v20 (F := Ideal) x0 x1 x4 (ix4 b h p k) = score x0 x1 x4 b h p k.val := by
  rw [v20_apply, word_eighth]
  unfold score scoreE
  rw [dif_pos k.isLt]
  refine congrArg (fun y => y * ((8⁻¹ : ℝ) : EReal) + x4 (ix3 b (row8 h) p) - x4 (ix3 b (row8 h) k)) ?_
  exact Finset.sum_congr rfl fun x _ => mul_comm _ _

/-- The masked score is the formula's. -/
theorem v26_score (b : Fin 8) (h : Fin 4) (p k : Fin 4096) :
    val_main_v26 (F := Ideal) x0 x1 x4 (ix4 b h p k) = keyScore x0 x1 x4 b h p k.val := by
  rw [v26_apply, v20_score]
  rfl

/-- A greatest score, over the keys in their number. -/
theorem fold_best (N : ℕ) (s : ℕ → EReal) : Finset.fold max (⊥ : EReal) (fun x : Fin N => s x.val) Finset.univ = best N s := by
  show Finset.univ.sup (fun x : Fin N => s x.val) = (Finset.range N).sup s
  refine le_antisymm (Finset.sup_le fun x _ => Finset.le_sup (Finset.mem_range.2 x.isLt)) (Finset.sup_le fun k hk => ?_)
  exact Finset.le_sup (f := fun x : Fin N => s x.val) (Finset.mem_univ ⟨k, Finset.mem_range.1 hk⟩)

/-- The reference's mean is the formula's. -/
theorem v38_mean (b : Fin 8) (h : Fin 4) (p : Fin 4096) (d : Fin 64) :
    val_main_v38 (F := Ideal) x0 x1 x3 x4 (ix4 b h p d) = attended x0 x1 x3 x4 b h p d := by
  rw [v38_apply]
  unfold attended softmax
  rw [Finset.sum_range]
  refine Finset.sum_congr rfl fun k _ => ?_
  rw [v37_apply, v34_apply]
  simp only [v33_apply, v29_apply, v27_apply, v26_score]
  rw [fold_best 4096 (keyScore x0 x1 x4 b h p), Finset.sum_range]
  refine congrArg₂ (· * ·) rfl ?_
  unfold keyValue
  rw [dif_pos k.isLt]

/-- The reference's result. -/
theorem v54_eq : val_main_v54 (F := Ideal) x0 x1 x3 x4 x5 = attention x0 x1 x3 x4 x5 := by
  funext i
  obtain ⟨n, j, rfl⟩ : ∃ (n : Fin 32768) (j : Fin 256), i = ix2 n j := ⟨i 0, i 1, eq_ix2 i⟩
  rw [v54_apply]
  simp only [v38_mean]
  rfl

end Cert.Reference3Ideal.Fox
-- ==== Proof.FoxPre.lean ====
module
public import proofs.«01_k».proof.Defs
public import proofs.«01_k».proof.Proof.FoxSpec

/-!
# Reading the precondition

The precondition compares arrays; here each comparison is read at one entry.
-/

@[expose] public section

set_option maxRecDepth 65536

noncomputable section

namespace Cert.Kernel3Ideal.Fox

open Idealize.ShloMosaic Idealize.ShloMosaic.TcCoe Idealize.ShloMosaic.Tactic
open Cert.Kernel3Ideal.Gen

/-- The bit of a true comparison. -/
theorem of_bit (p : Prop) [Decidable p] (h : BitVec.ofBool (decide p) = 1#1) : p := by
  by_contra hp
  rw [decide_eq_false hp] at h
  exact absurd h (by decide)

theorem word_log_two : Ideal.log (Ideal.ofBits FTy.f32 1073741824#32) = ((Real.log 2 : ℝ) : EReal) := by
  have e : Ideal.ofBits FTy.f32 1073741824#32 = ((2 : ℝ) : EReal) := by
    show Ideal.ieee 8 23 (1073741824#32) = _
    simp only [Ideal.ieee, show ((1073741824#32).extractLsb' (8 + 23) 1 == 1#1) = false from by decide,
      show ((1073741824#32).extractLsb' 23 8).toNat = 128 from by decide,
      show ((1073741824#32).extractLsb' 0 23).toNat = 0 from by decide]
    norm_num
  rw [e]
  show (if (2 : ℝ) ≤ 0 then ⊥ else ((Real.log 2 : ℝ) : EReal)) = _
  rw [if_neg (by norm_num)]

/-- Solving `x · log 2 = -c` for `x`. -/
theorem over_log (x : EReal) (c : EReal) (h : x * ((Real.log 2 : ℝ) : EReal) = -c) : x = -c * log2E := by
  rw [← h, log2E, mul_assoc, ← EReal.coe_mul, mul_inv_cancel₀ log_two_pos.ne', EReal.coe_one, mul_one]

theorem four_cases (h : Fin 4) : h = 0 ∨ h = 1 ∨ h = 2 ∨ h = 3 := by revert h; decide

section
variable [Cert.Pre_gates_laid_out.Facts] (x0 : FVec Ideal S256x32768 .f32) (x1 x2 : FVec Ideal S32768x256 .bf16)
  (x3 : FVec Ideal S256x32768 .bf16) (x4 : FVec Ideal S8x8x4096 .f32) (x5 : FVec Ideal S256 .f32)

theorem pre_even (h : (Cert.Pre_gates_laid_out.fn (F := Ideal) x0 x1 x2 x3 x4 x5).1 = fun _ => 1#1)
    (b : Fin 8) (a : Fin 2) (k : Fin 4096) (n : Fin 32768) (j0 j1 j2 : Fin 256) (g : Fin 8)
    (hn : n.val = b.val * 4096 + k.val) (h0 : j0.val = a.val * 128 + 64) (h1 : j1.val = a.val * 128 + 64 + 1)
    (h2 : j2.val = a.val * 128 + 64 + 2) (hg : g.val = a.val * 2) :
    (x2 (ix2 n j0) + x2 (ix2 n j1) + x2 (ix2 n j2)) * ((Real.log 2 : ℝ) : EReal) = -x4 (ix3 b g k) := by
  rw [show n = (⟨b.val * 4096 + k.val, by omega⟩ : Fin 32768) from Fin.ext hn]
  rw [show j0 = (⟨a.val * 128 + 64, by omega⟩ : Fin 256) from Fin.ext h0]
  rw [show j1 = (⟨a.val * 128 + 64 + 1, by omega⟩ : Fin 256) from Fin.ext h1]
  rw [show j2 = (⟨a.val * 128 + 64 + 2, by omega⟩ : Fin 256) from Fin.ext h2]
  rw [show g = (⟨a.val * 2, by omega⟩ : Fin 8) from Fin.ext hg]
  have e : (Cert.Pre_gates_laid_out.fn (F := Ideal) x0 x1 x2 x3 x4 x5).1 (ix3 b k a)
      = BitVec.ofBool (decide ((x2 (ix2 ⟨b.val * 4096 + k.val, by omega⟩ ⟨a.val * 128 + 64, by omega⟩)
          + x2 (ix2 ⟨b.val * 4096 + k.val, by omega⟩ ⟨a.val * 128 + 64 + 1, by omega⟩)
          + x2 (ix2 ⟨b.val * 4096 + k.val, by omega⟩ ⟨a.val * 128 + 64 + 2, by omega⟩))
          * Ideal.log (Ideal.ofBits FTy.f32 1073741824#32) = -x4 (ix3 b ⟨a.val * 2, by omega⟩ k))) := by
    unfold Cert.Pre_gates_laid_out.fn Cert.Pre_gates_laid_out.fn_part1
    pointwise
  have g := of_bit _ (e.symm.trans (congrFun h _))
  rwa [word_log_two] at g

theorem pre_odd (h : (Cert.Pre_gates_laid_out.fn (F := Ideal) x0 x1 x2 x3 x4 x5).2.1 = fun _ => 1#1)
    (b : Fin 8) (a : Fin 2) (k : Fin 4096) (n : Fin 32768) (j0 j1 j2 : Fin 256) (g : Fin 8)
    (hn : n.val = b.val * 4096 + k.val) (h0 : j0.val = a.val * 128) (h1 : j1.val = a.val * 128 + 1)
    (h2 : j2.val = a.val * 128 + 2) (hg : g.val = a.val * 2 + 1) :
    (x2 (ix2 n j0) + x2 (ix2 n j1) + x2 (ix2 n j2)) * ((Real.log 2 : ℝ) : EReal) = -x4 (ix3 b g k) := by
  rw [show n = (⟨b.val * 4096 + k.val, by omega⟩ : Fin 32768) from Fin.ext hn]
  rw [show j0 = (⟨a.val * 128, by omega⟩ : Fin 256) from Fin.ext h0]
  rw [show j1 = (⟨a.val * 128 + 1, by omega⟩ : Fin 256) from Fin.ext h1]
  rw [show j2 = (⟨a.val * 128 + 2, by omega⟩ : Fin 256) from Fin.ext h2]
  rw [show g = (⟨a.val * 2 + 1, by omega⟩ : Fin 8) from Fin.ext hg]
  have e : (Cert.Pre_gates_laid_out.fn (F := Ideal) x0 x1 x2 x3 x4 x5).2.1 (ix3 b k a)
      = BitVec.ofBool (decide ((x2 (ix2 ⟨b.val * 4096 + k.val, by omega⟩ ⟨a.val * 128, by omega⟩)
          + x2 (ix2 ⟨b.val * 4096 + k.val, by omega⟩ ⟨a.val * 128 + 1, by omega⟩)
          + x2 (ix2 ⟨b.val * 4096 + k.val, by omega⟩ ⟨a.val * 128 + 2, by omega⟩))
          * Ideal.log (Ideal.ofBits FTy.f32 1073741824#32) = -x4 (ix3 b ⟨a.val * 2 + 1, by omega⟩ k))) := by
    unfold Cert.Pre_gates_laid_out.fn Cert.Pre_gates_laid_out.fn_part1
    pointwise
  have g := of_bit _ (e.symm.trans (congrFun h _))
  rwa [word_log_two] at g

theorem pre_one (h : (Cert.Pre_gates_laid_out.fn (F := Ideal) x0 x1 x2 x3 x4 x5).2.2 = fun _ => 1#1)
    (b : Fin 8) (a e : Fin 2) (k : Fin 4096) (n : Fin 32768) (j : Fin 256)
    (hn : n.val = b.val * 4096 + k.val) (hj : j.val = a.val * 128 + e.val * 64 + 3) :
    x2 (ix2 n j) = 1 := by
  rw [show n = (⟨b.val * 4096 + k.val, by omega⟩ : Fin 32768) from Fin.ext hn]
  rw [show j = (⟨a.val * 128 + e.val * 64 + 3, by omega⟩ : Fin 256) from Fin.ext hj]
  have e : (Cert.Pre_gates_laid_out.fn (F := Ideal) x0 x1 x2 x3 x4 x5).2.2 (ix4 b k a e)
      = BitVec.ofBool (decide (x2 (ix2 ⟨b.val * 4096 + k.val, by omega⟩ ⟨a.val * 128 + e.val * 64 + 3, by omega⟩) = 1)) := by
    unfold Cert.Pre_gates_laid_out.fn Cert.Pre_gates_laid_out.fn_part1
    pointwise
  exact of_bit _ (e.symm.trans (congrFun h _))

/-- The precondition, entry by entry. -/
theorem laid (h3 : (Cert.Pre_gates_laid_out.fn (F := Ideal) x0 x1 x2 x3 x4 x5).1 = fun _ => 1#1)
    (h4 : (Cert.Pre_gates_laid_out.fn (F := Ideal) x0 x1 x2 x3 x4 x5).2.1 = fun _ => 1#1)
    (h5 : (Cert.Pre_gates_laid_out.fn (F := Ideal) x0 x1 x2 x3 x4 x5).2.2 = fun _ => 1#1) : Laid x2 x4 := by
  refine ⟨fun b h k => ?_, fun b h k => ?_⟩
  · refine over_log _ _ ?_
    rcases four_cases h with e | e | e | e <;> subst e
    · exact pre_even x0 x1 x2 x3 x4 x5 h3 b 0 k _ _ _ _ _ rfl rfl rfl rfl rfl
    · exact pre_odd x0 x1 x2 x3 x4 x5 h4 b 0 k _ _ _ _ _ rfl rfl rfl rfl rfl
    · exact pre_even x0 x1 x2 x3 x4 x5 h3 b 1 k _ _ _ _ _ rfl rfl rfl rfl rfl
    · exact pre_odd x0 x1 x2 x3 x4 x5 h4 b 1 k _ _ _ _ _ rfl rfl rfl rfl rfl
  · rcases four_cases h with e | e | e | e <;> subst e
    · exact pre_one x0 x1 x2 x3 x4 x5 h5 b 0 0 k _ _ rfl rfl
    · exact pre_one x0 x1 x2 x3 x4 x5 h5 b 0 1 k _ _ rfl rfl
    · exact pre_one x0 x1 x2 x3 x4 x5 h5 b 1 0 k _ _ rfl rfl
    · exact pre_one x0 x1 x2 x3 x4 x5 h5 b 1 1 k _ _ rfl rfl

end

end Cert.Kernel3Ideal.Fox
-- ==== Proof.LowerBounds.lean ====
/-
  The lower bounds of the second mixer's forget gates, and the kernel that computes them.

  A channel has one logit per layer, two in all. Their softmax gives each layer a weight; a layer's lower bound is the sum of the weights
  up to it, less the first layer's weight, and not below zero.
-/
module

public import proofs.«01_k».proof.Proof.Gen.Kernel4Ideal.Value
public import Idealize.ShloMosaic.Lib.Pointwise

@[expose] public section

noncomputable section

open Idealize.ShloMosaic Idealize.ShloMosaic.TcCoe Idealize.ShloMosaic.Tactic Idealize.SL.Sem

namespace Cert.Kernel4Ideal.Bounds

open Cert.Kernel4Ideal Cert.Kernel4Ideal.Gen

/-- The exponential of a layer's logit less the greater of the two. -/
def lifted (x : Fin 2 → EReal) (l : Fin 2) : EReal := Ideal.exp (x l - max (x 0) (x 1))

/-- A layer's softmax weight. -/
def weight (x : Fin 2 → EReal) (l : Fin 2) : EReal := Ideal.div (lifted x l) (lifted x 0 + lifted x 1)

/-- The weights summed up to a layer. -/
def upTo (x : Fin 2 → EReal) (l : Fin 2) : EReal := if l = 0 then weight x 0 else weight x 0 + weight x 1

/-- A layer's lower bound. -/
def bound (x : Fin 2 → EReal) (l : Fin 2) : EReal := max (upTo x l - weight x 0) 0

/-- The lower bounds of every channel. -/
def want (a : FVec Ideal S2x256 .f32) : FVec Ideal S2x256 .f32 := fun i => bound (fun l => a (ix2 l (i 1))) (i 0)

theorem word_zero : Ideal.ofBits FTy.f32 0#32 = (0 : EReal) := by
  show Ideal.ieee 8 23 (0#32) = _
  simp [Ideal.ieee]

variable (v : Vec Ideal S2x256 .f32) (j : Fin 256)

theorem pay1_apply : k0_pay1 (F := Ideal) v (ix2 0 j) = max (v (ix2 0 j)) (v (ix2 1 j)) := by
  unfold k0_pay1
  pointwise

theorem pay2_apply : k0_pay2 (F := Ideal) v (ix2 0 j) = lifted (fun l => v (ix2 l j)) 0 := by
  unfold lifted
  rw [← pay1_apply]
  unfold k0_pay2
  generalize k0_pay1 (F := Ideal) v = y
  pointwise

theorem pay3_apply : k0_pay3 (F := Ideal) v (ix2 0 j) = lifted (fun l => v (ix2 l j)) 1 := by
  unfold lifted
  rw [← pay1_apply]
  unfold k0_pay3
  generalize k0_pay1 (F := Ideal) v = y
  pointwise

theorem pay4_apply : k0_pay4 (F := Ideal) v (ix2 0 j) = lifted (fun l => v (ix2 l j)) 0 + lifted (fun l => v (ix2 l j)) 1 := by
  rw [← pay2_apply, ← pay3_apply]
  rfl

theorem pay5_apply : k0_pay5 (F := Ideal) v (ix2 0 j) = weight (fun l => v (ix2 l j)) 0 := by
  unfold weight
  rw [← pay4_apply, ← pay2_apply]
  rfl

/-- The first row stored. -/
theorem pay6_apply : k0_pay6 (F := Ideal) v (ix2 0 j) = bound (fun l => v (ix2 l j)) 0 := by
  unfold bound upTo
  rw [if_pos rfl, ← pay5_apply, ← word_zero]
  rfl

/-- The second row stored. -/
theorem pay7_apply : k0_pay7 (F := Ideal) v (ix2 0 j) = bound (fun l => v (ix2 l j)) 1 := by
  unfold bound upTo
  rw [if_neg (by decide), show weight (fun l => v (ix2 l j)) 1
      = Ideal.div (k0_pay3 (F := Ideal) v (ix2 0 j)) (k0_pay4 (F := Ideal) v (ix2 0 j)) by rw [pay3_apply, pay4_apply]; rfl,
    ← pay5_apply, ← word_zero]
  rfl

/-- The result array is the lower bounds. -/
theorem result_eq : Cert.Kernel4Ideal.Value.G1 (F := Ideal) v = want v := by
  funext y
  refine View.canon_apply_of_pieces (show Vec Ideal S2x256 .f32 from want v) _ ?_ y (cover0_1 _ _ _)
  intro pc hpc x
  rcases List.mem_cons.mp hpc with rfl | hpc
  · obtain ⟨j, rfl⟩ : ∃ j : Fin 256, x = ix2 (0 : Fin 1) j :=
      ⟨x 1, (eq_ix2 x).trans (congrArg (fun p => ix2 p (x 1)) (Subsingleton.elim (α := Fin 1) _ _))⟩
    refine (pay7_apply v j).trans (congrArg (want v) (a₁ := ix2 1 j) (funext fun a => Fin.ext ?_))
    match a with
    | ⟨0, _⟩ => rfl
    | ⟨1, _⟩ => show j.val = 0 + 1 * j.val; omega
  · obtain rfl := List.mem_singleton.mp hpc
    obtain ⟨j, rfl⟩ : ∃ j : Fin 256, x = ix2 (0 : Fin 1) j :=
      ⟨x 1, (eq_ix2 x).trans (congrArg (fun p => ix2 p (x 1)) (Subsingleton.elim (α := Fin 1) _ _))⟩
    refine (pay6_apply v j).trans (congrArg (want v) (a₁ := ix2 0 j) (funext fun a => Fin.ext ?_))
    match a with
    | ⟨0, _⟩ => rfl
    | ⟨1, _⟩ => show j.val = 0 + 1 * j.val; omega

end Cert.Kernel4Ideal.Bounds

end
-- ==== Proof.LowerBoundsRef.lean ====
/-
  The reference's lower bounds are the same formula: its softmax and its running sum, read at one channel.
-/
module

public import proofs.«01_k».proof.Proof.LowerBounds
public import proofs.«01_k».proof.Proof.Gen.Reference4Ideal.Read
public import Idealize.ShloMosaic.Lib.Pointwise
public import Idealize.ShloMosaic.Lib.Routing.OpsOne

@[expose] public section

set_option maxRecDepth 65536

noncomputable section

namespace Cert.Reference4Ideal.Bounds

open Idealize.ShloMosaic Idealize.ShloMosaic.TcCoe Idealize.ShloMosaic.Tactic
open Cert.Reference4Ideal Cert.Reference4Ideal.Gen Cert.Reference4Ideal.Read
open Cert.Kernel4Ideal.Bounds (lifted weight upTo bound want word_zero)

theorem max_word (y : Ideal .f32) : FloatOps.maximumf (Ideal.ofBits FTy.f32 4286578688#32 : Ideal .f32) y = y :=
  max_eq_right (show (⊥ : EReal) ≤ y from bot_le)

/-- The greatest of two values. -/
theorem fold_two (f : Fin 2 → EReal) : Finset.fold max (⊥ : EReal) f Finset.univ = max (f 0) (f 1) := by
  rw [show (Finset.univ : Finset (Fin 2)) = {0, 1} from rfl, Finset.fold_insert (by decide), Finset.fold_singleton, max_eq_left (bot_le (a := f 1))]

variable (x : FVec Ideal S2x256 .f32) (j : Fin 256) (l : Fin 2)

/-- The greater logit. -/
theorem v0_apply : val_main_v0 (F := Ideal) x (ix1 j) = max (x (ix2 0 j)) (x (ix2 1 j)) := by
  have e : val_main_v0 (F := Ideal) x (ix1 j)
      = Finset.fold max (Ideal.ofBits FTy.f32 4286578688#32) (fun l => x (ix2 l j)) Finset.univ := by
    unfold val_main_v0 val_main_cst
    pointwise
  exact e.trans (fold_two fun l => x (ix2 l j))

theorem v1_apply (i : S256.Idx) : val_main_v1 (F := Ideal) i = (Ideal.ofBits FTy.f32 4286578688#32 : Ideal .f32) := by
  rw [val_main_v1_apply, val_main_cst_0_apply]; rfl

theorem v2_apply : val_main_v2 (F := Ideal) x (ix1 j) = max (x (ix2 0 j)) (x (ix2 1 j)) := by
  rw [val_main_v2_apply, v1_apply, ← v0_apply]
  exact max_word _

/-- The exponentials. -/
theorem v6_apply : val_main_v6 (F := Ideal) x (ix2 l j) = lifted (fun l => x (ix2 l j)) l := by
  unfold lifted
  rw [← v2_apply]
  unfold val_main_v6 val_main_v5 val_main_v4 val_main_v3
  generalize val_main_v2 (F := Ideal) x = y
  pointwise

/-- Their sum. -/
theorem v7_apply : val_main_v7 (F := Ideal) x (ix1 j) = lifted (fun l => x (ix2 l j)) 0 + lifted (fun l => x (ix2 l j)) 1 := by
  rw [← v6_apply, ← v6_apply, ← Fin.sum_univ_two (fun l => val_main_v6 (F := Ideal) x (ix2 l j))]
  unfold val_main_v7 val_main_cst_1
  generalize val_main_v6 (F := Ideal) x = s
  pointwise

/-- The softmax. -/
theorem v10_apply : val_main_v10 (F := Ideal) x (ix2 l j) = weight (fun l => x (ix2 l j)) l := by
  unfold weight
  rw [← v7_apply, ← v6_apply]
  unfold val_main_v10 val_main_v9 val_main_v8
  generalize val_main_v6 (F := Ideal) x = s
  generalize val_main_v7 (F := Ideal) x = y
  pointwise

/-- The rows a running sum's window meets: above the first row is padding. -/
def rowAbove (s : FVec Ideal S2x256 .f32) (j : Fin 256) (l n : ℕ) : EReal :=
  if h : 1 ≤ l + n ∧ l + n < 3 then s (ix2 ⟨l + n - 1, by omega⟩ j) else 0

/-- A running sum of two rows: a row is summed from the first row down to itself. -/
theorem cumsum_two (s : FVec Ideal S2x256 .f32) (z : FVec Ideal S_ .f32) (hz : ∀ i, z i = (0 : EReal)) :
    Host.reduceWindowAdd (F := Ideal) ![2, 1] ![1, 1] ![1, 0] ![0, 0] s z reduceWindows_S2x256_S2x256_w2s1p1_0_w1s1p0_0 h_S_ (ix2 l j)
      = (if l = 0 then s (ix2 0 j) else s (ix2 0 j) + s (ix2 1 j) : EReal) := by
  have hl := l.isLt
  have e : Host.reduceWindowAdd (F := Ideal) ![2, 1] ![1, 1] ![1, 0] ![0, 0] s z reduceWindows_S2x256_S2x256_w2s1p1_0_w1s1p0_0 h_S_ (ix2 l j)
      = ((List.finRange (Routing.shape2 2 1).numel).map fun n => n.val).foldl (fun (r : EReal) n => r + rowAbove s j l.val n) 0 := by
    rw [List.foldl_map, ← hz (Shape.Idx.first h_S_)]
    show List.foldl _ _ _ = _
    refine congrArg (fun f => List.foldl f (z (Shape.Idx.first h_S_) : EReal) (List.finRange (Routing.shape2 2 1).numel)) (funext fun r => funext fun n => ?_)
    refine congrArg (r + ·) ?_
    dsimp only
    have hw0 : ((Routing.shape2 2 1).rowMajor.symm n 0).val = n.val := by rw [Routing.symm_col]; rfl
    have hw1 : ((Routing.shape2 2 1).rowMajor.symm n 1).val = 0 := by rw [Routing.symm_col]; rfl
    have hn : n.val < 2 := (n.cast (Routing.numel_col 2)).isLt
    have hj := j.isLt
    unfold rowAbove
    split
    · next hin =>
      have h0 := (hin 0).1
      change 1 ≤ l.val * 1 + ((Routing.shape2 2 1).rowMajor.symm n 0).val at h0
      rw [hw0] at h0
      rw [dif_pos ⟨by omega, by omega⟩]
      refine congrArg s (funext fun a => Fin.ext ?_)
      match a with
      | ⟨0, _⟩ =>
        show l.val * 1 + ((Routing.shape2 2 1).rowMajor.symm n 0).val - 1 = l.val + n.val - 1
        rw [hw0, Nat.mul_one]
      | ⟨1, _⟩ =>
        show j.val * 1 + ((Routing.shape2 2 1).rowMajor.symm n 1).val - 0 = j.val
        rw [hw1]
        omega
    · next hin =>
      rw [dif_neg fun hle => hin fun a => by
        match a with
        | ⟨0, _⟩ =>
          show 1 ≤ l.val * 1 + ((Routing.shape2 2 1).rowMajor.symm n 0).val ∧ l.val * 1 + ((Routing.shape2 2 1).rowMajor.symm n 0).val - 1 < 2
          rw [hw0]
          omega
        | ⟨1, _⟩ =>
          show 0 ≤ j.val * 1 + ((Routing.shape2 2 1).rowMajor.symm n 1).val ∧ j.val * 1 + ((Routing.shape2 2 1).rowMajor.symm n 1).val - 0 < 256
          rw [hw1]
          omega]
      exact hz _
  rw [e, show ((List.finRange (Routing.shape2 2 1).numel).map fun n => n.val) = [0, 1] by decide]
  show (0 + rowAbove s j l.val 0 : EReal) + rowAbove s j l.val 1 = _
  match l with
  | 0 =>
    show (0 + rowAbove s j 0 0 : EReal) + rowAbove s j 0 1 = _
    unfold rowAbove
    rw [dif_neg (by decide), dif_pos (by decide), if_pos rfl, add_zero, zero_add]
    rfl
  | 1 =>
    show (0 + rowAbove s j 1 0 : EReal) + rowAbove s j 1 1 = _
    unfold rowAbove
    rw [dif_pos (by decide), dif_pos (by decide), if_neg (by decide), zero_add]
    rfl

/-- The running sum of the weights. -/
theorem v11_apply : val_main_v11 (F := Ideal) x (ix2 l j) = upTo (fun l => x (ix2 l j)) l := by
  unfold upTo
  rw [← v10_apply, ← v10_apply]
  exact cumsum_two j l _ _ fun _ => word_zero

theorem v13_apply : val_main_v13 (F := Ideal) x (ix2 l j) = weight (fun l => x (ix2 l j)) 0 := by
  rw [← v10_apply]
  unfold val_main_v13 val_main_v12
  generalize val_main_v10 (F := Ideal) x = s
  pointwise

/-- The reference's result is the lower bounds. -/
theorem result_eq : val_main_v16 (F := Ideal) x = want x := by
  funext i
  obtain ⟨l, j, rfl⟩ : ∃ (l : Fin 2) (j : Fin 256), i = ix2 l j := ⟨i 0, i 1, eq_ix2 i⟩
  show _ = bound (fun l => x (ix2 l j)) l
  unfold bound
  rw [← v11_apply, ← v13_apply x j l, ← word_zero]
  rfl

end Cert.Reference4Ideal.Bounds

end
-- ==== Proof.Discretised.lean ====
/-
  The discretisation of the first mixer's diagonal state space, and the kernel that computes it.

  A state has an eigenvalue (its real part kept below a small negative number) and its group a step size. The discretised eigenvalue is the
  exponential of the product of the two, given by magnitude and angle; the input coefficients are scaled by (that exponential − 1) over the
  eigenvalue, a product of complex numbers written in real parts.
-/
module

public import proofs.«01_k».proof.Proof.Gen.Kernel5Ideal.Frame
public import Idealize.ShloMosaic.Lib.Pointwise
public import Idealize.ShloMosaic.Lib.Pipeline.Value

@[expose] public section

noncomputable section

open Idealize.ShloMosaic Idealize.ShloMosaic.TcCoe Idealize.ShloMosaic.Tactic Idealize.SL.Sem

namespace Cert.Kernel5Ideal.Params

open Cert.Kernel5Ideal Cert.Kernel5Ideal.Gen

/-- The real part of an eigenvalue, kept at or below a small negative number. -/
def clipped (re : EReal) : EReal := min re (Ideal.ofBits FTy.f32 0xB8D1B717#32)

/-- The magnitude of the discretised eigenvalue, from the real part and the logarithm of the step. -/
def magnitude (re s : EReal) : EReal := Ideal.exp (clipped re * Ideal.exp s)

/-- The discretised eigenvalue's real part. -/
def eigRe (re im s : EReal) : EReal := magnitude re s * Ideal.cos (im * Ideal.exp s)

/-- The discretised eigenvalue's imaginary part. -/
def eigIm (re im s : EReal) : EReal := magnitude re s * Ideal.sin (im * Ideal.exp s)

/-- The eigenvalue's squared modulus. -/
def modulus (re im : EReal) : EReal := clipped re * clipped re + im * im

/-- The real part of (discretised eigenvalue − 1) / eigenvalue. -/
def scaleRe (re im s : EReal) : EReal :=
  Ideal.div ((eigRe re im s - Ideal.ofBits FTy.f32 0x3F800000#32) * clipped re + eigIm re im s * im) (modulus re im)

/-- The imaginary part of (discretised eigenvalue − 1) / eigenvalue. -/
def scaleIm (re im s : EReal) : EReal :=
  Ideal.div (eigIm re im s * clipped re - (eigRe re im s - Ideal.ofBits FTy.f32 0x3F800000#32) * im) (modulus re im)

/-- The real part of a scaled input coefficient. -/
def inRe (re im s b b' : EReal) : EReal := scaleRe re im s * b - scaleIm re im s * b'

/-- The imaginary part of a scaled input coefficient. -/
def inIm (re im s b b' : EReal) : EReal := scaleRe re im s * b' + scaleIm re im s * b

/-! ### What the kernel stores, at an index -/

section Stored

variable (v w s b b' : Vec Ideal S256x64 .f32) (r : Fin 256) (n : Fin 64)

theorem pay2_apply : k0_pay2 (F := Ideal) v (ix2 r n) = clipped (v (ix2 r n)) := by
  unfold k0_pay2 clipped
  pointwise

theorem pay3_apply : k0_pay3 (F := Ideal) w (ix2 r n) = w (ix2 r n) := by
  unfold k0_pay3
  pointwise

theorem pay4_apply : k0_pay4 (F := Ideal) s (ix2 r n) = Ideal.exp (s (ix2 r n)) := by
  unfold k0_pay4
  pointwise

theorem pay5_apply : k0_pay5 (F := Ideal) v s (ix2 r n) = magnitude (v (ix2 r n)) (s (ix2 r n)) := by
  unfold magnitude
  rw [← pay2_apply, ← pay4_apply]
  rfl

theorem pay6_apply : k0_pay6 (F := Ideal) v w s (ix2 r n) = eigRe (v (ix2 r n)) (w (ix2 r n)) (s (ix2 r n)) := by
  unfold eigRe
  rw [← pay5_apply, ← pay4_apply, ← pay3_apply w]
  rfl

theorem pay7_apply : k0_pay7 (F := Ideal) v w s (ix2 r n) = eigIm (v (ix2 r n)) (w (ix2 r n)) (s (ix2 r n)) := by
  unfold eigIm
  rw [← pay5_apply, ← pay4_apply, ← pay3_apply w]
  rfl

theorem pay8_apply : k0_pay8 (F := Ideal) v w (ix2 r n) = modulus (v (ix2 r n)) (w (ix2 r n)) := by
  unfold modulus
  rw [← pay2_apply, ← pay3_apply w]
  rfl

theorem pay9_apply : k0_pay9 (F := Ideal) v w s (ix2 r n) = scaleRe (v (ix2 r n)) (w (ix2 r n)) (s (ix2 r n)) := by
  unfold scaleRe
  rw [← pay8_apply, ← pay6_apply, ← pay7_apply, ← pay2_apply, ← pay3_apply w]
  rfl

theorem pay10_apply : k0_pay10 (F := Ideal) v w s (ix2 r n) = scaleIm (v (ix2 r n)) (w (ix2 r n)) (s (ix2 r n)) := by
  unfold scaleIm
  rw [← pay8_apply, ← pay6_apply, ← pay7_apply, ← pay2_apply, ← pay3_apply w]
  rfl

theorem pay13_apply : k0_pay13 (F := Ideal) v w s b b' (ix2 r n)
    = inRe (v (ix2 r n)) (w (ix2 r n)) (s (ix2 r n)) (b (ix2 r n)) (b' (ix2 r n)) := by
  unfold inRe
  rw [← pay9_apply, ← pay10_apply, ← show k0_pay11 (F := Ideal) b (ix2 r n) = b (ix2 r n) from pay3_apply b r n,
    ← show k0_pay12 (F := Ideal) b' (ix2 r n) = b' (ix2 r n) from pay3_apply b' r n]
  rfl

theorem pay1_apply : k0_pay1 (F := Ideal) (k0_pay9 v w s) (k0_pay10 v w s) (k0_pay11 b) (k0_pay12 b') (ix2 r n)
    = inIm (v (ix2 r n)) (w (ix2 r n)) (s (ix2 r n)) (b (ix2 r n)) (b' (ix2 r n)) := by
  unfold inIm
  rw [← pay9_apply, ← pay10_apply, ← show k0_pay11 (F := Ideal) b (ix2 r n) = b (ix2 r n) from pay3_apply b r n,
    ← show k0_pay12 (F := Ideal) b' (ix2 r n) = b' (ix2 r n) from pay3_apply b' r n]
  rfl

end Stored

/-! ### The four arrays after the call: the one block is the whole array -/

variable (m : (ℓ : Loc nD τ sig) → Buf (Elt Ideal) ℓ)

theorem origin : (![0, 0] : Fin 2 → Nat) = fun _ => 0 := funext fun a => by fin_cases a <;> rfl

/-- A window's block index is zero on both axes. -/
theorem at0 : ∀ t : Fin cfg0.N, win0_0.index t (0 : Fin 2) = 0 ∧ win0_0.index t (1 : Fin 2) = 0 :=
  (by decide +kernel : ∀ t : Fin grid0.N, _)

/-- An index of a window's block is the same index of its array. -/
theorem emb0 (t : Fin cfg0.N) (j : S256x64.Idx) : ((cfg0.win 0).blk t).view.emb j = j := by
  obtain ⟨e0, e1⟩ := at0 t
  funext a; apply Fin.ext
  match a with
  | ⟨0, _⟩ => show win0_0.index t (0 : Fin 2) * 256 + 1 * (j 0).val = (j 0).val; omega
  | ⟨1, _⟩ => show win0_0.index t (1 : Fin 2) * 64 + 1 * (j 1).val = (j 1).val; omega

theorem at1 : ∀ t : Fin cfg0.N, win0_1.index t (0 : Fin 2) = 0 ∧ win0_1.index t (1 : Fin 2) = 0 :=
  (by decide +kernel : ∀ t : Fin grid0.N, _)

theorem emb1 (t : Fin cfg0.N) (j : S256x64.Idx) : ((cfg0.win 1).blk t).view.emb j = j := by
  obtain ⟨e0, e1⟩ := at1 t
  funext a; apply Fin.ext
  match a with
  | ⟨0, _⟩ => show win0_1.index t (0 : Fin 2) * 256 + 1 * (j 0).val = (j 0).val; omega
  | ⟨1, _⟩ => show win0_1.index t (1 : Fin 2) * 64 + 1 * (j 1).val = (j 1).val; omega

theorem at2 : ∀ t : Fin cfg0.N, win0_2.index t (0 : Fin 2) = 0 ∧ win0_2.index t (1 : Fin 2) = 0 :=
  (by decide +kernel : ∀ t : Fin grid0.N, _)

theorem emb2 (t : Fin cfg0.N) (j : S256x64.Idx) : ((cfg0.win 2).blk t).view.emb j = j := by
  obtain ⟨e0, e1⟩ := at2 t
  funext a; apply Fin.ext
  match a with
  | ⟨0, _⟩ => show win0_2.index t (0 : Fin 2) * 256 + 1 * (j 0).val = (j 0).val; omega
  | ⟨1, _⟩ => show win0_2.index t (1 : Fin 2) * 64 + 1 * (j 1).val = (j 1).val; omega

theorem at3 : ∀ t : Fin cfg0.N, win0_3.index t (0 : Fin 2) = 0 ∧ win0_3.index t (1 : Fin 2) = 0 :=
  (by decide +kernel : ∀ t : Fin grid0.N, _)

theorem emb3 (t : Fin cfg0.N) (j : S256x64.Idx) : ((cfg0.win 3).blk t).view.emb j = j := by
  obtain ⟨e0, e1⟩ := at3 t
  funext a; apply Fin.ext
  match a with
  | ⟨0, _⟩ => show win0_3.index t (0 : Fin 2) * 256 + 1 * (j 0).val = (j 0).val; omega
  | ⟨1, _⟩ => show win0_3.index t (1 : Fin 2) * 64 + 1 * (j 1).val = (j 1).val; omega

theorem at4 : ∀ t : Fin cfg0.N, win0_4.index t (0 : Fin 2) = 0 ∧ win0_4.index t (1 : Fin 2) = 0 :=
  (by decide +kernel : ∀ t : Fin grid0.N, _)

theorem emb4 (t : Fin cfg0.N) (j : S256x64.Idx) : ((cfg0.win 4).blk t).view.emb j = j := by
  obtain ⟨e0, e1⟩ := at4 t
  funext a; apply Fin.ext
  match a with
  | ⟨0, _⟩ => show win0_4.index t (0 : Fin 2) * 256 + 1 * (j 0).val = (j 0).val; omega
  | ⟨1, _⟩ => show win0_4.index t (1 : Fin 2) * 64 + 1 * (j 1).val = (j 1).val; omega

theorem at5 : ∀ t : Fin cfg0.N, win0_5.index t (0 : Fin 2) = 0 ∧ win0_5.index t (1 : Fin 2) = 0 :=
  (by decide +kernel : ∀ t : Fin grid0.N, _)

theorem emb5 (t : Fin cfg0.N) (j : S256x64.Idx) : ((cfg0.win 5).blk t).view.emb j = j := by
  obtain ⟨e0, e1⟩ := at5 t
  funext a; apply Fin.ext
  match a with
  | ⟨0, _⟩ => show win0_5.index t (0 : Fin 2) * 256 + 1 * (j 0).val = (j 0).val; omega
  | ⟨1, _⟩ => show win0_5.index t (1 : Fin 2) * 64 + 1 * (j 1).val = (j 1).val; omega

theorem at6 : ∀ t : Fin cfg0.N, win0_6.index t (0 : Fin 2) = 0 ∧ win0_6.index t (1 : Fin 2) = 0 :=
  (by decide +kernel : ∀ t : Fin grid0.N, _)

theorem emb6 (t : Fin cfg0.N) (j : S256x64.Idx) : ((cfg0.win 6).blk t).view.emb j = j := by
  obtain ⟨e0, e1⟩ := at6 t
  funext a; apply Fin.ext
  match a with
  | ⟨0, _⟩ => show win0_6.index t (0 : Fin 2) * 256 + 1 * (j 0).val = (j 0).val; omega
  | ⟨1, _⟩ => show win0_6.index t (1 : Fin 2) * 64 + 1 * (j 1).val = (j 1).val; omega

theorem at7 : ∀ t : Fin cfg0.N, win0_7.index t (0 : Fin 2) = 0 ∧ win0_7.index t (1 : Fin 2) = 0 :=
  (by decide +kernel : ∀ t : Fin grid0.N, _)

theorem emb7 (t : Fin cfg0.N) (j : S256x64.Idx) : ((cfg0.win 7).blk t).view.emb j = j := by
  obtain ⟨e0, e1⟩ := at7 t
  funext a; apply Fin.ext
  match a with
  | ⟨0, _⟩ => show win0_7.index t (0 : Fin 2) * 256 + 1 * (j 0).val = (j 0).val; omega
  | ⟨1, _⟩ => show win0_7.index t (1 : Fin 2) * 64 + 1 * (j 1).val = (j 1).val; omega

theorem at8 : ∀ t : Fin cfg0.N, win0_8.index t (0 : Fin 2) = 0 ∧ win0_8.index t (1 : Fin 2) = 0 :=
  (by decide +kernel : ∀ t : Fin grid0.N, _)

theorem emb8 (t : Fin cfg0.N) (j : S256x64.Idx) : ((cfg0.win 8).blk t).view.emb j = j := by
  obtain ⟨e0, e1⟩ := at8 t
  funext a; apply Fin.ext
  match a with
  | ⟨0, _⟩ => show win0_8.index t (0 : Fin 2) * 256 + 1 * (j 0).val = (j 0).val; omega
  | ⟨1, _⟩ => show win0_8.index t (1 : Fin 2) * 64 + 1 * (j 1).val = (j 1).val; omega

/-- An input window's block is its array. -/
theorem block0 (c : Dev nD) (t : Fin cfg0.N) : iblk m c 0 t = V m c main_v5 := by
  funext j; show V m c main_v5 (((cfg0.win 0).blk t).view.emb j) = V m c main_v5 j; rw [emb0]

theorem block1 (c : Dev nD) (t : Fin cfg0.N) : iblk m c 1 t = V m c main_v7 := by
  funext j; show V m c main_v7 (((cfg0.win 1).blk t).view.emb j) = V m c main_v7 j; rw [emb1]

theorem block2 (c : Dev nD) (t : Fin cfg0.N) : iblk m c 2 t = V m c main_v3 := by
  funext j; show V m c main_v3 (((cfg0.win 2).blk t).view.emb j) = V m c main_v3 j; rw [emb2]

theorem block3 (c : Dev nD) (t : Fin cfg0.N) : iblk m c 3 t = V m c main_v9 := by
  funext j; show V m c main_v9 (((cfg0.win 3).blk t).view.emb j) = V m c main_v9 j; rw [emb3]

theorem block4 (c : Dev nD) (t : Fin cfg0.N) : iblk m c 4 t = V m c main_v11 := by
  funext j; show V m c main_v11 (((cfg0.win 4).blk t).view.emb j) = V m c main_v11 j; rw [emb4]

/-- The real parts of the discretised eigenvalues. -/
theorem array5 (c : Dev nD) : (dats m 0 c).arrAt 5 cfg0.N = (k0_pay6 (F := Ideal) (V m c main_v5) (V m c main_v7) (V m c main_v3) : Vec Ideal S256x64 .f32) := by
  refine (dats m 0 c).arrAt_eq_of_cover 5 _ (fun t _ => ?_) fun i => ⟨(⟨0, by decide⟩ : Fin cfg0.N), flush0_5 _, by
    have h := ((cfg0.win 5).blk (⟨0, by decide⟩ : Fin cfg0.N)).view.emb_mem_set i
    rwa [emb5] at h⟩
  show (cfg0.win 5).cut (grid0.coords t) ((dats m 0 c).after 5 t) = _
  rw [after0_5, block0, block1, block2, block3, block4]
  unfold out0_5
  simp only [View.ld_unit_zero (S := S256x64) origin]
  funext j
  rw [View.canon_unit_zero (S := S256x64) origin]
  exact (congrArg (k0_pay6 (F := Ideal) (V m c main_v5) (V m c main_v7) (V m c main_v3) : Vec Ideal S256x64 .f32) (emb5 t j)).symm

/-- The imaginary parts of the discretised eigenvalues. -/
theorem array6 (c : Dev nD) : (dats m 0 c).arrAt 6 cfg0.N = (k0_pay7 (F := Ideal) (V m c main_v5) (V m c main_v7) (V m c main_v3) : Vec Ideal S256x64 .f32) := by
  refine (dats m 0 c).arrAt_eq_of_cover 6 _ (fun t _ => ?_) fun i => ⟨(⟨0, by decide⟩ : Fin cfg0.N), flush0_6 _, by
    have h := ((cfg0.win 6).blk (⟨0, by decide⟩ : Fin cfg0.N)).view.emb_mem_set i
    rwa [emb6] at h⟩
  show (cfg0.win 6).cut (grid0.coords t) ((dats m 0 c).after 6 t) = _
  rw [after0_6, block0, block1, block2, block3, block4]
  unfold out0_6
  simp only [View.ld_unit_zero (S := S256x64) origin]
  funext j
  rw [View.canon_unit_zero (S := S256x64) origin]
  exact (congrArg (k0_pay7 (F := Ideal) (V m c main_v5) (V m c main_v7) (V m c main_v3) : Vec Ideal S256x64 .f32) (emb6 t j)).symm

/-- The real parts of the scaled input coefficients. -/
theorem array7 (c : Dev nD) : (dats m 0 c).arrAt 7 cfg0.N = (k0_pay13 (F := Ideal) (V m c main_v5) (V m c main_v7) (V m c main_v3) (V m c main_v9) (V m c main_v11) : Vec Ideal S256x64 .f32) := by
  refine (dats m 0 c).arrAt_eq_of_cover 7 _ (fun t _ => ?_) fun i => ⟨(⟨0, by decide⟩ : Fin cfg0.N), flush0_7 _, by
    have h := ((cfg0.win 7).blk (⟨0, by decide⟩ : Fin cfg0.N)).view.emb_mem_set i
    rwa [emb7] at h⟩
  show (cfg0.win 7).cut (grid0.coords t) ((dats m 0 c).after 7 t) = _
  rw [after0_7, block0, block1, block2, block3, block4]
  unfold out0_7
  simp only [View.ld_unit_zero (S := S256x64) origin]
  funext j
  rw [View.canon_unit_zero (S := S256x64) origin]
  exact (congrArg (k0_pay13 (F := Ideal) (V m c main_v5) (V m c main_v7) (V m c main_v3) (V m c main_v9) (V m c main_v11) : Vec Ideal S256x64 .f32) (emb7 t j)).symm

/-- The imaginary parts of the scaled input coefficients. -/
theorem array8 (c : Dev nD) : (dats m 0 c).arrAt 8 cfg0.N = (k0_pay1 (F := Ideal) (k0_pay9 (V m c main_v5) (V m c main_v7) (V m c main_v3)) (k0_pay10 (V m c main_v5) (V m c main_v7) (V m c main_v3))
      (k0_pay11 (V m c main_v9)) (k0_pay12 (V m c main_v11)) : Vec Ideal S256x64 .f32) := by
  refine (dats m 0 c).arrAt_eq_of_cover 8 _ (fun t _ => ?_) fun i => ⟨(⟨0, by decide⟩ : Fin cfg0.N), flush0_8 _, by
    have h := ((cfg0.win 8).blk (⟨0, by decide⟩ : Fin cfg0.N)).view.emb_mem_set i
    rwa [emb8] at h⟩
  show (cfg0.win 8).cut (grid0.coords t) ((dats m 0 c).after 8 t) = _
  rw [after0_8, block0, block1, block2, block3, block4]
  unfold out0_8
  simp only [View.ld_unit_zero (S := S256x64) origin]
  funext j
  rw [View.canon_unit_zero (S := S256x64) origin]
  exact (congrArg (k0_pay1 (F := Ideal) (k0_pay9 (V m c main_v5) (V m c main_v7) (V m c main_v3)) (k0_pay10 (V m c main_v5) (V m c main_v7) (V m c main_v3))
      (k0_pay11 (V m c main_v9)) (k0_pay12 (V m c main_v11)) : Vec Ideal S256x64 .f32) (emb8 t j)).symm

/-! ### What is prepared before the call: every row of a group holds that group's entry -/

theorem pre0 (c : Dev nD) (r : Fin 256) (n : Fin 64) : (V m c main_v5 : FVec Ideal S256x64 .f32) (ix2 r n)
    = (m ((c : Thread nD τ).loc main_arg0) : FVec Ideal S16x64 .f32) (ix2 ⟨r.val / 16, by omega⟩ n) := by
  have e : (V m c main_v5 : FVec Ideal S256x64 .f32) = (shapeCast S256x64 (broadcastInDim S16x16x64 ![0, 2] bcast_S16x64_S16x16x64_0_2
      (m ((c : Thread nD τ).loc main_arg0) : FVec Ideal S16x64 .f32)) shapeCasts_S16x16x64_S256x64 : FVec Ideal S256x64 .f32) := by
    show StableHlo.after hostOps0 (fun b => m (c, b)) (main_v5 : Ref sig .tc) = _
    after_results_simp <;> rfl
  rw [e]
  generalize (m ((c : Thread nD τ).loc main_arg0) : FVec Ideal S16x64 .f32) = x
  pointwise

theorem pre1 (c : Dev nD) (r : Fin 256) (n : Fin 64) : (V m c main_v7 : FVec Ideal S256x64 .f32) (ix2 r n)
    = (m ((c : Thread nD τ).loc main_arg1) : FVec Ideal S16x64 .f32) (ix2 ⟨r.val / 16, by omega⟩ n) := by
  have e : (V m c main_v7 : FVec Ideal S256x64 .f32) = (shapeCast S256x64 (broadcastInDim S16x16x64 ![0, 2] bcast_S16x64_S16x16x64_0_2
      (m ((c : Thread nD τ).loc main_arg1) : FVec Ideal S16x64 .f32)) shapeCasts_S16x16x64_S256x64 : FVec Ideal S256x64 .f32) := by
    show StableHlo.after hostOps0 (fun b => m (c, b)) (main_v7 : Ref sig .tc) = _
    after_results_simp <;> rfl
  rw [e]
  generalize (m ((c : Thread nD τ).loc main_arg1) : FVec Ideal S16x64 .f32) = x
  pointwise

theorem pre6 (c : Dev nD) (r : Fin 256) (n : Fin 64) : (V m c main_v3 : FVec Ideal S256x64 .f32) (ix2 r n)
    = (m ((c : Thread nD τ).loc main_arg6) : FVec Ideal S16 .f32) (ix1 ⟨r.val / 16, by omega⟩) := by
  have e : (V m c main_v3 : FVec Ideal S256x64 .f32) = (broadcastInDim S256x64 ![0, 1] bcast_S256x1_S256x64_0_1
      (shapeCast S256x1 (broadcastInDim S16x16x1 ![0, 2] bcast_S16x1_S16x16x1_0_2 (broadcastInDim S16x1 ![0] bcast_S16_S16x1_0
        (m ((c : Thread nD τ).loc main_arg6) : FVec Ideal S16 .f32))) shapeCasts_S16x16x1_S256x1) : FVec Ideal S256x64 .f32) := by
    show StableHlo.after hostOps0 (fun b => m (c, b)) (main_v3 : Ref sig .tc) = _
    after_results_simp <;> rfl
  rw [e]
  generalize (m ((c : Thread nD τ).loc main_arg6) : FVec Ideal S16 .f32) = x
  pointwise

theorem pre2 (c : Dev nD) (r : Fin 256) (n : Fin 64) : (V m c main_v9 : FVec Ideal S256x64 .f32) (ix2 r n)
    = (m ((c : Thread nD τ).loc main_arg2) : FVec Ideal S16x64x16 .f32) (ix3 ⟨r.val / 16, by omega⟩ n ⟨r.val % 16, by omega⟩) := by
  have e : (V m c main_v9 : FVec Ideal S256x64 .f32) = (shapeCast S256x64 (transpose S16x16x64 [0, 2, 1]
      (m ((c : Thread nD τ).loc main_arg2) : FVec Ideal S16x64x16 .f32) transposes_S16x64x16_S16x16x64_0_2_1)
      shapeCasts_S16x16x64_S256x64 : FVec Ideal S256x64 .f32) := by
    show StableHlo.after hostOps0 (fun b => m (c, b)) (main_v9 : Ref sig .tc) = _
    after_results_simp <;> rfl
  rw [e]
  generalize (m ((c : Thread nD τ).loc main_arg2) : FVec Ideal S16x64x16 .f32) = x
  pointwise

theorem pre3 (c : Dev nD) (r : Fin 256) (n : Fin 64) : (V m c main_v11 : FVec Ideal S256x64 .f32) (ix2 r n)
    = (m ((c : Thread nD τ).loc main_arg3) : FVec Ideal S16x64x16 .f32) (ix3 ⟨r.val / 16, by omega⟩ n ⟨r.val % 16, by omega⟩) := by
  have e : (V m c main_v11 : FVec Ideal S256x64 .f32) = (shapeCast S256x64 (transpose S16x16x64 [0, 2, 1]
      (m ((c : Thread nD τ).loc main_arg3) : FVec Ideal S16x64x16 .f32) transposes_S16x64x16_S16x16x64_0_2_1)
      shapeCasts_S16x16x64_S256x64 : FVec Ideal S256x64 .f32) := by
    show StableHlo.after hostOps0 (fun b => m (c, b)) (main_v11 : Ref sig .tc) = _
    after_results_simp <;> rfl
  rw [e]
  generalize (m ((c : Thread nD τ).loc main_arg3) : FVec Ideal S16x64x16 .f32) = x
  pointwise

end Cert.Kernel5Ideal.Params

end
-- ==== Proof.Tables.lean ====
/-
  The two tables of ones and zeros with which the first mixer's parameters are placed: an entry is one where the feature, or the state, of its
  row is in the group of its column.
-/
module

public import proofs.«01_k».proof.Proof.Gen.Kernel5Ideal.Frame
public import Idealize.ShloMosaic.Lib.Pointwise

@[expose] public section

noncomputable section

open Idealize.ShloMosaic Idealize.ShloMosaic.TcCoe Idealize.ShloMosaic.Tactic Idealize.SL.Sem

namespace Cert.Kernel5Ideal.Params

open Cert.Kernel5Ideal Cert.Kernel5Ideal.Gen

theorem word_one : Ideal.ofBits FTy.f32 0x3F800000#32 = (1 : EReal) := by
  show Ideal.ieee 8 23 (0x3F800000#32) = _
  simp [Ideal.ieee]
  rw [← EReal.coe_mul]
  norm_num

theorem word_zero : Ideal.ofBits FTy.f32 0#32 = (0 : EReal) := by
  show Ideal.ieee 8 23 (0#32) = _
  simp [Ideal.ieee]

theorem lit0_eq : ∀ (r : Fin 256) (p : Fin 16), lit0 ⟨r.val * 16 + p.val, by omega⟩ = if r.val / 16 = p.val then 0x3F800000#32 else 0#32 := by
  decide +kernel

theorem lit1_eq : ∀ (q : Fin 1024) (p : Fin 16), lit1 ⟨q.val * 16 + p.val, by omega⟩ = if q.val / 64 = p.val then 0x3F800000#32 else 0#32 := by
  decide +kernel

/-- Which group a feature is in, as ones and zeros. -/
abbrev tableR : FVec Ideal S256x16 .f32 := fun i => FloatOps.ofBits .f32 (lit0 (S256x16.rowMajor i))
/-- Which group a state is in, as ones and zeros. -/
abbrev tableQ : FVec Ideal S1024x16 .f32 := fun i => FloatOps.ofBits .f32 (lit1 (S1024x16.rowMajor i))

theorem tableR_apply (r : Fin 256) (p : Fin 16) : tableR (ix2 r p) = if r.val / 16 = p.val then (1 : EReal) else 0 := by
  have e : S256x16.rowMajor (ix2 r p) = ⟨r.val * 16 + p.val, by show _ < 4096; omega⟩ := Fin.ext (Shape.rowMajor_val_two (ix2 r p))
  show Ideal.ofBits FTy.f32 (lit0 (S256x16.rowMajor (ix2 r p))) = _
  rw [e, show lit0 (⟨r.val * 16 + p.val, by show _ < 4096; omega⟩ : Fin 4096) = _ from lit0_eq r p]
  split
  · exact word_one
  · exact word_zero

theorem tableQ_apply (q : Fin 1024) (p : Fin 16) : tableQ (ix2 q p) = if q.val / 64 = p.val then (1 : EReal) else 0 := by
  have e : S1024x16.rowMajor (ix2 q p) = ⟨q.val * 16 + p.val, by show _ < 16384; omega⟩ := Fin.ext (Shape.rowMajor_val_two (ix2 q p))
  show Ideal.ofBits FTy.f32 (lit1 (S1024x16.rowMajor (ix2 q p))) = _
  rw [e, show lit1 (⟨q.val * 16 + p.val, by show _ < 16384; omega⟩ : Fin 16384) = _ from lit1_eq q p]
  split
  · exact word_one
  · exact word_zero

end Cert.Kernel5Ideal.Params

end
-- ==== Proof.Placed.lean ====
/-
  Placing the discretised parameters: the eigenvalues in two rows, the input and output coefficients of the 16 groups in block-diagonal
  matrices, and the kernel's results read so.

  Around its call the kernel places an array by a table of ones and zeros: an entry times one on its group's block, times zero off it.
-/
module

public import proofs.«01_k».proof.Proof.Discretised
public import proofs.«01_k».proof.Proof.Tables

@[expose] public section

noncomputable section

open Idealize.ShloMosaic Idealize.ShloMosaic.TcCoe Idealize.ShloMosaic.Tactic Idealize.SL.Sem

namespace Cert.Kernel5Ideal.Params

open Cert.Kernel5Ideal Cert.Kernel5Ideal.Gen

/-- A group and a state in it, from their position in the row of all states. -/
abbrev groupOf (q : Fin 1024) : Fin 16 := ⟨q.val / 64, by omega⟩
abbrev stateOf (q : Fin 1024) : Fin 64 := ⟨q.val % 64, by omega⟩

/-- A group and a feature in it, from their position in the row of all features. -/
abbrev ownerOf (r : Fin 256) : Fin 16 := ⟨r.val / 16, by omega⟩
abbrev featureOf (r : Fin 256) : Fin 16 := ⟨r.val % 16, by omega⟩

/-- The discretised eigenvalues: real parts above, imaginary parts below. -/
def wantEig (x0 x1 : FVec Ideal S16x64 .f32) (x6 : FVec Ideal S16 .f32) : FVec Ideal S2x1024 .f32 := fun i =>
  if (i 0).val < 1 then eigRe (x0 (ix2 (groupOf (i 1)) (stateOf (i 1)))) (x1 (ix2 (groupOf (i 1)) (stateOf (i 1)))) (x6 (ix1 (groupOf (i 1))))
  else eigIm (x0 (ix2 (groupOf (i 1)) (stateOf (i 1)))) (x1 (ix2 (groupOf (i 1)) (stateOf (i 1)))) (x6 (ix1 (groupOf (i 1))))

/-- A half of the input matrix at a feature and a state: the scaled coefficient within a group, zero across groups. -/
def inHalf (f : EReal → EReal → EReal → EReal → EReal → EReal) (x0 x1 : FVec Ideal S16x64 .f32) (x2 x3 : FVec Ideal S16x64x16 .f32)
    (x6 : FVec Ideal S16 .f32) (r : Fin 256) (q : Fin 1024) : EReal :=
  if r.val / 16 = q.val / 64 then f (x0 (ix2 (ownerOf r) (stateOf q))) (x1 (ix2 (ownerOf r) (stateOf q))) (x6 (ix1 (ownerOf r)))
    (x2 (ix3 (ownerOf r) (stateOf q) (featureOf r))) (x3 (ix3 (ownerOf r) (stateOf q) (featureOf r))) else 0

/-- The input matrix: real parts of all states, then imaginary parts. -/
def wantIn (x0 x1 : FVec Ideal S16x64 .f32) (x2 x3 : FVec Ideal S16x64x16 .f32) (x6 : FVec Ideal S16 .f32) : FVec Ideal S256x2048 .bf16 :=
  fun i => if h : (i 1).val < 1024 then inHalf inRe x0 x1 x2 x3 x6 (i 0) ⟨(i 1).val, h⟩
    else inHalf inIm x0 x1 x2 x3 x6 (i 0) ⟨(i 1).val - 1024, by have := (i 1).isLt; change (i 1).val < 2048 at this; omega⟩

/-- A half of the output matrix at a state and a feature: the coefficient within a group, zero across groups. -/
def outHalf (x : FVec Ideal S16x16x64 .f32) (q : Fin 1024) (r : Fin 256) : EReal :=
  if q.val / 64 = r.val / 16 then x (ix3 (groupOf q) (featureOf r) (stateOf q)) else 0

/-- The output matrix: the real parts of all states, then the negated imaginary parts. -/
def wantOut (x4 x5 : FVec Ideal S16x16x64 .f32) : FVec Ideal S2048x256 .bf16 :=
  fun i => if h : (i 0).val < 1024 then outHalf x4 ⟨(i 0).val, h⟩ (i 1)
    else -outHalf x5 ⟨(i 0).val - 1024, by have := (i 0).isLt; change (i 0).val < 2048 at this; omega⟩ (i 1)

/-! ### The operations after the call, over any contents -/

section After

variable (U : Valuation τ sig (Elt Ideal))

theorem after19 : StableHlo.after hostOps1 U (main_v19 : Ref sig .tc) = (concatenate S2x1024 0
    [⟨S1x1024, (broadcastInDim S1x1024 ![1] bcast_S1024_S1x1024_1 (shapeCast S1024 (Host.slice S16x64 ![0, 0] ![16, 1] (U (main_v12_0 : Ref sig .tc) : FVec Ideal S256x64 .f32) slicesBy_S256x64_S16x64_0s16_0s1) shapeCasts_S16x64_S1024) : FVec Ideal S1x1024 .f32)⟩,
     ⟨S1x1024, (broadcastInDim S1x1024 ![1] bcast_S1024_S1x1024_1 (shapeCast S1024 (Host.slice S16x64 ![0, 0] ![16, 1] (U (main_v12_1 : Ref sig .tc) : FVec Ideal S256x64 .f32) slicesBy_S256x64_S16x64_0s16_0s1) shapeCasts_S16x64_S1024) : FVec Ideal S1x1024 .f32)⟩]
    concatenates_S1x1024_S1x1024_S2x1024_d0 : FVec Ideal S2x1024 .f32) := by
  after_results_simp <;> (try dsimp only [Matrix.cons_val]) <;> (try after_results_simp) <;> rfl

/-- An array placed by the table of features. -/
abbrev placedR (x : FVec Ideal S256x64 .f32) (t : FVec Ideal S256x16 .f32) : FVec Ideal S256x1024 .f32 :=
  shapeCast S256x1024 (mulf (broadcastInDim S256x16x64 ![0, 1, 2] bcast_S256x1x64_S256x16x64_0_1_2 (broadcastInDim S256x1x64 ![0, 2] bcast_S256x64_S256x1x64_0_2 x))
    (broadcastInDim S256x16x64 ![0, 1, 2] bcast_S256x16x1_S256x16x64_0_1_2 (broadcastInDim S256x16x1 ![0, 1] bcast_S256x16_S256x16x1_0_1 t))) shapeCasts_S256x16x64_S256x1024

theorem after33 : StableHlo.after hostOps1 U (main_v33 : Ref sig .tc) = (truncf .bf16 (concatenate S256x2048 1
    [⟨S256x1024, placedR (U (main_v12_2 : Ref sig .tc)) (U (main_cst : Ref sig .tc))⟩, ⟨S256x1024, placedR (U (main_v12_3 : Ref sig .tc)) (U (main_cst : Ref sig .tc))⟩]
    concatenates_S256x1024_S256x1024_S256x2048_d1) bitsLt_bf16_f32 : FVec Ideal S256x2048 .bf16) := by
  after_results_simp <;> (try dsimp only [Matrix.cons_val]) <;> (try after_results_simp) <;> rfl

/-- An argument placed by the table of states. -/
abbrev placedQ (x : FVec Ideal S16x16x64 .f32) (t : FVec Ideal S1024x16 .f32) : FVec Ideal S1024x256 .f32 :=
  shapeCast S1024x256 (mulf (broadcastInDim S1024x16x16 ![0, 1, 2] bcast_S1024x1x16_S1024x16x16_0_1_2 (broadcastInDim S1024x1x16 ![0, 2] bcast_S1024x16_S1024x1x16_0_2
      (shapeCast S1024x16 (transpose S16x64x16 [0, 2, 1] x transposes_S16x16x64_S16x64x16_0_2_1) shapeCasts_S16x64x16_S1024x16)))
    (broadcastInDim S1024x16x16 ![0, 1, 2] bcast_S1024x16x1_S1024x16x16_0_1_2 (broadcastInDim S1024x16x1 ![0, 1] bcast_S1024x16_S1024x16x1_0_1 t))) shapeCasts_S1024x16x16_S1024x256

theorem after52 : StableHlo.after hostOps1 U (main_v52 : Ref sig .tc) = (truncf .bf16 (concatenate S2048x256 0
    [⟨S1024x256, placedQ (U (main_arg4 : Ref sig .tc)) (U (main_cst_0 : Ref sig .tc))⟩, ⟨S1024x256, (Host.negf (placedQ (U (main_arg5 : Ref sig .tc)) (U (main_cst_0 : Ref sig .tc))) : FVec Ideal S1024x256 .f32)⟩]
    concatenates_S1024x256_S1024x256_S2048x256_d0) bitsLt_bf16_f32 : FVec Ideal S2048x256 .bf16) := by
  after_results_simp <;> (try dsimp only [Matrix.cons_val]) <;> (try after_results_simp) <;> rfl

end After

theorem placedR_apply (x : FVec Ideal S256x64 .f32) (r : Fin 256) (q : Fin 1024) :
    placedR x tableR (ix2 r q) = if r.val / 16 = q.val / 64 then x (ix2 r (stateOf q)) else 0 := by
  have h : placedR x tableR (ix2 r q) = x (ix2 r (stateOf q)) * tableR (ix2 r (groupOf q)) := by
    unfold placedR
    generalize tableR = t
    pointwise
  rw [h, tableR_apply]
  split
  · exact mul_one _
  · exact mul_zero _

theorem placedQ_apply (x : FVec Ideal S16x16x64 .f32) (q : Fin 1024) (r : Fin 256) :
    placedQ x tableQ (ix2 q r) = outHalf x q r := by
  have h : placedQ x tableQ (ix2 q r) = x (ix3 (groupOf q) (featureOf r) (stateOf q)) * tableQ (ix2 q (ownerOf r)) := by
    unfold placedQ
    generalize tableQ = t
    pointwise
  unfold outHalf
  rw [h, tableQ_apply]
  split
  · exact mul_one _
  · exact mul_zero _

end Cert.Kernel5Ideal.Params

end
-- ==== Proof.Placement.lean ====
/-
  What the kernel computing the first mixer's parameters leaves in its three results.
-/
module

public import proofs.«01_k».proof.Proof.Placed

@[expose] public section

noncomputable section

open Idealize.ShloMosaic Idealize.ShloMosaic.TcCoe Idealize.ShloMosaic.Tactic Idealize.SL.Sem

namespace Cert.Kernel5Ideal.Params

open Cert.Kernel5Ideal Cert.Kernel5Ideal.Gen

variable (m : (ℓ : Loc nD τ sig) → Buf (Elt Ideal) ℓ) (ρ : Dev nD → PrngReg)

/-- The buffers after the call. -/
abbrev U (c : Dev nD) : Valuation τ sig (Elt Ideal) :=
  Pipeline.withArrays (cfgs 0).spec c (V0 m c) fun w => (dats m 0 c).arrAt w (cfgs 0).N

theorem U5 (c : Dev nD) : U m c (main_v12_0 : Ref sig .tc) = (dats m 0 c).arrAt 5 cfg0.N :=
  Pipeline.withArrays_arr spec0 launch0.win.arr_inj c (V0 m c) (fun w => (dats m 0 c).arrAt w (cfgs 0).N) 5
theorem U6 (c : Dev nD) : U m c (main_v12_1 : Ref sig .tc) = (dats m 0 c).arrAt 6 cfg0.N :=
  Pipeline.withArrays_arr spec0 launch0.win.arr_inj c (V0 m c) (fun w => (dats m 0 c).arrAt w (cfgs 0).N) 6
theorem U7 (c : Dev nD) : U m c (main_v12_2 : Ref sig .tc) = (dats m 0 c).arrAt 7 cfg0.N :=
  Pipeline.withArrays_arr spec0 launch0.win.arr_inj c (V0 m c) (fun w => (dats m 0 c).arrAt w (cfgs 0).N) 7
theorem U8 (c : Dev nD) : U m c (main_v12_3 : Ref sig .tc) = (dats m 0 c).arrAt 8 cfg0.N :=
  Pipeline.withArrays_arr spec0 launch0.win.arr_inj c (V0 m c) (fun w => (dats m 0 c).arrAt w (cfgs 0).N) 8

theorem U_tableR (c : Dev nD) : U m c (main_cst : Ref sig .tc) = tableR := by
  refine (Pipeline.withArrays_of_ne spec0 c (V0 m c) _ main_cst (by decide)).trans ?_
  show StableHlo.after hostOps0 (fun b => m (c, b)) (main_cst : Ref sig .tc) = _
  after_results_simp <;> rfl

theorem U_tableQ (c : Dev nD) : U m c (main_cst_0 : Ref sig .tc) = tableQ := by
  refine (Pipeline.withArrays_of_ne spec0 c (V0 m c) _ main_cst_0 (by decide)).trans ?_
  show StableHlo.after hostOps0 (fun b => m (c, b)) (main_cst_0 : Ref sig .tc) = _
  after_results_simp <;> rfl

theorem U_arg4 (c : Dev nD) : U m c (main_arg4 : Ref sig .tc) = m ((c : Thread nD τ).loc main_arg4) :=
  (Pipeline.withArrays_of_ne spec0 c (V0 m c) _ main_arg4 (by decide)).trans (V_main_arg4 m c)

theorem U_arg5 (c : Dev nD) : U m c (main_arg5 : Ref sig .tc) = m ((c : Thread nD τ).loc main_arg5) :=
  (Pipeline.withArrays_of_ne spec0 c (V0 m c) _ main_arg5 (by decide)).trans (V_main_arg5 m c)

/-- The seven arguments on a device. -/
abbrev a0 (c : Dev nD) : FVec Ideal S16x64 .f32 := m ((c : Thread nD τ).loc main_arg0)
abbrev a1 (c : Dev nD) : FVec Ideal S16x64 .f32 := m ((c : Thread nD τ).loc main_arg1)
abbrev a2 (c : Dev nD) : FVec Ideal S16x64x16 .f32 := m ((c : Thread nD τ).loc main_arg2)
abbrev a3 (c : Dev nD) : FVec Ideal S16x64x16 .f32 := m ((c : Thread nD τ).loc main_arg3)
abbrev a4 (c : Dev nD) : FVec Ideal S16x16x64 .f32 := m ((c : Thread nD τ).loc main_arg4)
abbrev a5 (c : Dev nD) : FVec Ideal S16x16x64 .f32 := m ((c : Thread nD τ).loc main_arg5)
abbrev a6 (c : Dev nD) : FVec Ideal S16 .f32 := m ((c : Thread nD τ).loc main_arg6)

theorem U5_apply (c : Dev nD) (r : Fin 256) (n : Fin 64) : (U m c (main_v12_0 : Ref sig .tc) : FVec Ideal S256x64 .f32) (ix2 r n)
    = eigRe (a0 m c (ix2 (ownerOf r) n)) (a1 m c (ix2 (ownerOf r) n)) (a6 m c (ix1 (ownerOf r))) := by
  rw [U5, array5, pay6_apply, pre0, pre1, pre6]

theorem U6_apply (c : Dev nD) (r : Fin 256) (n : Fin 64) : (U m c (main_v12_1 : Ref sig .tc) : FVec Ideal S256x64 .f32) (ix2 r n)
    = eigIm (a0 m c (ix2 (ownerOf r) n)) (a1 m c (ix2 (ownerOf r) n)) (a6 m c (ix1 (ownerOf r))) := by
  rw [U6, array6, pay7_apply, pre0, pre1, pre6]

theorem U7_apply (c : Dev nD) (r : Fin 256) (n : Fin 64) : (U m c (main_v12_2 : Ref sig .tc) : FVec Ideal S256x64 .f32) (ix2 r n)
    = inRe (a0 m c (ix2 (ownerOf r) n)) (a1 m c (ix2 (ownerOf r) n)) (a6 m c (ix1 (ownerOf r)))
      (a2 m c (ix3 (ownerOf r) n (featureOf r))) (a3 m c (ix3 (ownerOf r) n (featureOf r))) := by
  rw [U7, array7, pay13_apply, pre0, pre1, pre6, pre2, pre3]

theorem U8_apply (c : Dev nD) (r : Fin 256) (n : Fin 64) : (U m c (main_v12_3 : Ref sig .tc) : FVec Ideal S256x64 .f32) (ix2 r n)
    = inIm (a0 m c (ix2 (ownerOf r) n)) (a1 m c (ix2 (ownerOf r) n)) (a6 m c (ix1 (ownerOf r)))
      (a2 m c (ix3 (ownerOf r) n (featureOf r))) (a3 m c (ix3 (ownerOf r) n (featureOf r))) := by
  rw [U8, array8, pay1_apply, pre0, pre1, pre6, pre2, pre3]

/-- The rows of the eigenvalues. -/
theorem result19 (c : Dev nD) : StableHlo.after hostOps1 (U m c) (main_v19 : Ref sig .tc) = wantEig (a0 m c) (a1 m c) (a6 m c) := by
  rw [after19]
  have h5 := U5_apply m c
  have h6 := U6_apply m c
  generalize (U m c (main_v12_0 : Ref sig .tc) : FVec Ideal S256x64 .f32) = x at h5 ⊢
  generalize (U m c (main_v12_1 : Ref sig .tc) : FVec Ideal S256x64 .f32) = y at h6 ⊢
  funext i
  obtain ⟨k, q, rfl⟩ : ∃ (k : Fin 2) (q : Fin 1024), i = ix2 k q := ⟨i 0, i 1, eq_ix2 i⟩
  have own : ∀ h : 16 * (q.val / 64) < 256, ownerOf ⟨16 * (q.val / 64), h⟩ = groupOf q := fun h => Fin.ext (by
    show 16 * (q.val / 64) / 16 = q.val / 64
    omega)
  unfold wantEig
  pointwise
  by_cases hk : k.val < 1
  · simp only [if_pos hk, dif_pos hk]
    rw [h5, own]
  · simp only [if_neg hk, dif_neg hk]
    rw [h6, own]

/-- The input matrix. -/
theorem result33 (c : Dev nD) : StableHlo.after hostOps1 (U m c) (main_v33 : Ref sig .tc) = wantIn (a0 m c) (a1 m c) (a2 m c) (a3 m c) (a6 m c) := by
  rw [after33, U_tableR]
  have h7 := fun r q => (placedR_apply (U m c (main_v12_2 : Ref sig .tc) : FVec Ideal S256x64 .f32) r q).trans (by rw [U7_apply])
  have h8 := fun r q => (placedR_apply (U m c (main_v12_3 : Ref sig .tc) : FVec Ideal S256x64 .f32) r q).trans (by rw [U8_apply])
  generalize placedR (U m c (main_v12_2 : Ref sig .tc)) tableR = x at h7 ⊢
  generalize placedR (U m c (main_v12_3 : Ref sig .tc)) tableR = y at h8 ⊢
  funext i
  obtain ⟨r, q, rfl⟩ : ∃ (r : Fin 256) (q : Fin 2048), i = ix2 r q := ⟨i 0, i 1, eq_ix2 i⟩
  unfold wantIn inHalf
  pointwise
  by_cases hq : q.val < 1024
  · rw [dif_pos hq, dif_pos hq]
    exact h7 r _
  · rw [dif_neg hq, dif_neg hq]
    exact h8 r _

/-- The output matrix. -/
theorem result52 (c : Dev nD) : StableHlo.after hostOps1 (U m c) (main_v52 : Ref sig .tc) = wantOut (a4 m c) (a5 m c) := by
  rw [after52, U_tableQ, U_arg4, U_arg5]
  have h4 := placedQ_apply (a4 m c)
  have h5 := placedQ_apply (a5 m c)
  generalize placedQ (a4 m c) tableQ = x at h4 ⊢
  generalize placedQ (a5 m c) tableQ = y at h5 ⊢
  funext i
  obtain ⟨q, r, rfl⟩ : ∃ (q : Fin 2048) (r : Fin 256), i = ix2 q r := ⟨i 0, i 1, eq_ix2 i⟩
  unfold wantOut
  pointwise
  by_cases hq : q.val < 1024
  · rw [dif_pos hq, dif_pos hq]
    exact h4 _ r
  · rw [dif_neg hq, dif_neg hq]
    exact congrArg (fun z : EReal => -z) (h5 _ r)

/-- The kernel's run: its three results, the arguments unchanged. -/
theorem run : θ_run defs (onTc (τ := τ) (main (F := Ideal))) ⟨m, fun _ => 0, ρ⟩ fun r => ∀ c : Dev nD,
      r.2.mem ((c : Thread nD τ).loc main_v19) = wantEig (a0 m c) (a1 m c) (a6 m c)
      ∧ r.2.mem ((c : Thread nD τ).loc main_v33) = wantIn (a0 m c) (a1 m c) (a2 m c) (a3 m c) (a6 m c)
      ∧ r.2.mem ((c : Thread nD τ).loc main_v52) = wantOut (a4 m c) (a5 m c) :=
  (θ_run defs _ _).mono (fun r h c =>
    ⟨((h c).2 main_v19 (Pipeline.mem_restRefs_of main_v19 (by decide) (by decide))).trans (result19 m c),
     ((h c).2 main_v33 (Pipeline.mem_restRefs_of main_v33 (by decide) (by decide))).trans (result33 m c),
     ((h c).2 main_v52 (Pipeline.mem_restRefs_of main_v52 (by decide) (by decide))).trans (result52 m c)⟩)
    (run_main m ρ)

end Cert.Kernel5Ideal.Params

end
-- ==== Proof.PlacementRef.lean ====
/-
  The reference's parameters of the first mixer: the same three results.
-/
module

public import proofs.«01_k».proof.Proof.Placed
public import proofs.«01_k».proof.Proof.Gen.Reference5Ideal.Run
public import proofs.«01_k».proof.Proof.Gen.Reference5Ideal.Read

@[expose] public section

noncomputable section

open Idealize.ShloMosaic Idealize.ShloMosaic.TcCoe Idealize.ShloMosaic.Tactic Idealize.SL.Sem

namespace Cert.Reference5Ideal.Params

open Cert.Reference5Ideal Cert.Reference5Ideal.Read
open Cert.Kernel5Ideal.Params

variable (x0 x1 : FVec Ideal S16x64 .f32) (x2 x3 : FVec Ideal S16x64x16 .f32) (x4 x5 : FVec Ideal S16x16x64 .f32) (x6 : FVec Ideal S16 .f32)

/-! ### The discretisation, a group and a state at a time -/

section Discretise

variable (g : Fin 16) (n : Fin 64)

theorem v1_apply : val_main_v1 (F := Ideal) x0 (ix2 g n) = clipped (x0 (ix2 g n)) := by
  unfold val_main_v1 val_main_v0 val_main_cst clipped
  pointwise

theorem v4_apply : val_main_v4 (F := Ideal) x6 (ix2 g n) = Ideal.exp (x6 (ix1 g)) := by
  unfold val_main_v4 val_main_v3 val_main_v2
  pointwise

theorem v6_apply : val_main_v6 (F := Ideal) x0 x6 (ix2 g n) = magnitude (x0 (ix2 g n)) (x6 (ix1 g)) := by
  unfold magnitude
  rw [← v1_apply, ← v4_apply x6 g n]
  rfl

theorem v10_apply : val_main_v10 (F := Ideal) x0 x1 x6 (ix2 g n) = eigRe (x0 (ix2 g n)) (x1 (ix2 g n)) (x6 (ix1 g)) := by
  unfold eigRe
  rw [← v6_apply, ← v4_apply x6 g n]
  rfl

theorem v14_apply : val_main_v14 (F := Ideal) x0 x1 x6 (ix2 g n) = eigIm (x0 (ix2 g n)) (x1 (ix2 g n)) (x6 (ix1 g)) := by
  unfold eigIm
  rw [← v6_apply, ← v4_apply x6 g n]
  rfl

theorem v17_apply : val_main_v17 (F := Ideal) x0 x1 (ix2 g n) = modulus (x0 (ix2 g n)) (x1 (ix2 g n)) := by
  unfold modulus
  rw [← v1_apply]
  rfl

theorem v18_apply : val_main_v18 (F := Ideal) (ix2 g n) = Ideal.ofBits FTy.f32 0x3F800000#32 := rfl

theorem v23_apply : val_main_v23 (F := Ideal) x0 x1 x6 (ix2 g n) = scaleRe (x0 (ix2 g n)) (x1 (ix2 g n)) (x6 (ix1 g)) := by
  unfold scaleRe
  rw [← v17_apply, ← v10_apply, ← v14_apply, ← v1_apply]
  rfl

theorem v29_apply : val_main_v29 (F := Ideal) x0 x1 x6 (ix2 g n) = scaleIm (x0 (ix2 g n)) (x1 (ix2 g n)) (x6 (ix1 g)) := by
  unfold scaleIm
  rw [← v17_apply, ← v10_apply, ← v14_apply, ← v1_apply]
  rfl

variable (p : Fin 16)

theorem v36_apply : val_main_v36 (F := Ideal) x0 x1 x2 x3 x6 (ix3 g n p)
    = inRe (x0 (ix2 g n)) (x1 (ix2 g n)) (x6 (ix1 g)) (x2 (ix3 g n p)) (x3 (ix3 g n p)) := by
  unfold inRe
  rw [← v23_apply, ← v29_apply]
  unfold val_main_v36 val_main_v32 val_main_v35 val_main_v31 val_main_v34 val_main_v30 val_main_v33
  generalize val_main_v23 (F := Ideal) x0 x1 x6 = y
  generalize val_main_v29 (F := Ideal) x0 x1 x6 = z
  pointwise

theorem v43_apply : val_main_v43 (F := Ideal) x0 x1 x2 x3 x6 (ix3 g n p)
    = inIm (x0 (ix2 g n)) (x1 (ix2 g n)) (x6 (ix1 g)) (x2 (ix3 g n p)) (x3 (ix3 g n p)) := by
  unfold inIm
  rw [← v23_apply, ← v29_apply]
  unfold val_main_v43 val_main_v39 val_main_v42 val_main_v38 val_main_v41 val_main_v37 val_main_v40
  generalize val_main_v23 (F := Ideal) x0 x1 x6 = y
  generalize val_main_v29 (F := Ideal) x0 x1 x6 = z
  pointwise

end Discretise

/-! ### The placing -/

/-- The same group or not, as a bit. -/
theorem v50_apply (g h : Fin 16) : val_main_v50 (F := Ideal) (ix2 g h) = BitVec.ofBool (decide (g.val = h.val)) := by
  unfold val_main_v50 val_main_v48 val_main_v49 val_main_v45 val_main_v47 val_main_v44 val_main_v46
  pointwise
  revert g h
  decide +kernel

/-- A choice by such a bit. -/
theorem select_same {P : Prop} [Decidable P] (a b : EReal) : Scalar.select (BitVec.ofBool (decide P)) a b = if P then a else b := by
  by_cases h : P
  · rw [if_pos h, decide_eq_true h]; rfl
  · rw [if_neg h, decide_eq_false h]; rfl

theorem zero_apply : (id (constant (F := Ideal) S_ .f32 0#32) ix0 : EReal) = 0 := Cert.Kernel5Ideal.Params.word_zero

theorem v60_apply (r : Fin 256) (q : Fin 1024) : val_main_v60 (F := Ideal) x0 x1 x2 x3 x6 (ix2 r q) = inHalf inRe x0 x1 x2 x3 x6 r q := by
  unfold inHalf
  rw [← v36_apply]
  unfold val_main_v60 val_main_v59 val_main_call0_v1 val_main_call0_v2 val_main_call0_v3 val_main_v56 val_main_v58 val_main_v57 val_main_call0_v0 val_main_cst_2
  have e := v50_apply
  generalize val_main_v50 (F := Ideal) = d at e ⊢
  generalize val_main_v36 (F := Ideal) x0 x1 x2 x3 x6 = y
  pointwise
  have same : d (ix2 (ownerOf r) (groupOf q)) = BitVec.ofBool (decide (r.val / 16 = q.val / 64)) := e _ _
  rw [zero_apply]
  exact (congrArg (fun b => Scalar.select b _ _) same).trans (select_same _ _)

theorem v65_apply (r : Fin 256) (q : Fin 1024) : val_main_v65 (F := Ideal) x0 x1 x2 x3 x6 (ix2 r q) = inHalf inIm x0 x1 x2 x3 x6 r q := by
  unfold inHalf
  rw [← v43_apply]
  unfold val_main_v65 val_main_v64 val_main_call1_v1 val_main_call1_v2 val_main_call1_v3 val_main_v61 val_main_v63 val_main_v62 val_main_call1_v0 val_main_cst_3
  have e := v50_apply
  generalize val_main_v50 (F := Ideal) = d at e ⊢
  generalize val_main_v43 (F := Ideal) x0 x1 x2 x3 x6 = y
  pointwise
  have same : d (ix2 (ownerOf r) (groupOf q)) = BitVec.ofBool (decide (r.val / 16 = q.val / 64)) := e _ _
  rw [zero_apply]
  exact (congrArg (fun b => Scalar.select b _ _) same).trans (select_same _ _)

theorem v72_apply (q : Fin 1024) (r : Fin 256) : val_main_v72 (F := Ideal) x4 (ix2 q r) = outHalf x4 q r := by
  unfold outHalf
  unfold val_main_v72 val_main_v71 val_main_call2_v1 val_main_call2_v2 val_main_call2_v3 val_main_v68 val_main_v70 val_main_v69 val_main_call2_v0 val_main_cst_4
  have e := v50_apply
  generalize val_main_v50 (F := Ideal) = d at e ⊢
  pointwise
  have same : d (ix2 (groupOf q) (ownerOf r)) = BitVec.ofBool (decide (q.val / 64 = r.val / 16)) := e _ _
  rw [zero_apply]
  exact (congrArg (fun b => Scalar.select b _ _) same).trans (select_same _ _)

theorem v77_apply (q : Fin 1024) (r : Fin 256) : val_main_v77 (F := Ideal) x5 (ix2 q r) = outHalf x5 q r := by
  unfold outHalf
  unfold val_main_v77 val_main_v76 val_main_call3_v1 val_main_call3_v2 val_main_call3_v3 val_main_v73 val_main_v75 val_main_v74 val_main_call3_v0 val_main_cst_5
  have e := v50_apply
  generalize val_main_v50 (F := Ideal) = d at e ⊢
  pointwise
  have same : d (ix2 (groupOf q) (ownerOf r)) = BitVec.ofBool (decide (q.val / 64 = r.val / 16)) := e _ _
  rw [zero_apply]
  exact (congrArg (fun b => Scalar.select b _ _) same).trans (select_same _ _)

/-- The rows of the eigenvalues. -/
theorem result55 : val_main_v55 (F := Ideal) x0 x1 x6 = wantEig x0 x1 x6 := by
  have e10 := v10_apply x0 x1 x6
  have e14 := v14_apply x0 x1 x6
  unfold val_main_v55 val_main_v53 val_main_v54 val_main_v51 val_main_v52
  generalize val_main_v10 (F := Ideal) x0 x1 x6 = y at e10 ⊢
  generalize val_main_v14 (F := Ideal) x0 x1 x6 = z at e14 ⊢
  funext i
  obtain ⟨k, q, rfl⟩ : ∃ (k : Fin 2) (q : Fin 1024), i = ix2 k q := ⟨i 0, i 1, eq_ix2 i⟩
  unfold wantEig
  pointwise
  by_cases hk : k.val < 1
  · simp only [if_pos hk, dif_pos hk]
    rw [e10]
  · simp only [if_neg hk, dif_neg hk]
    rw [e14]

/-- The input matrix. -/
theorem result67 : val_main_v67 (F := Ideal) x0 x1 x2 x3 x6 = wantIn x0 x1 x2 x3 x6 := by
  have e60 := v60_apply x0 x1 x2 x3 x6
  have e65 := v65_apply x0 x1 x2 x3 x6
  unfold val_main_v67 val_main_v66
  generalize val_main_v60 (F := Ideal) x0 x1 x2 x3 x6 = y at e60 ⊢
  generalize val_main_v65 (F := Ideal) x0 x1 x2 x3 x6 = z at e65 ⊢
  funext i
  obtain ⟨r, q, rfl⟩ : ∃ (r : Fin 256) (q : Fin 2048), i = ix2 r q := ⟨i 0, i 1, eq_ix2 i⟩
  unfold wantIn
  pointwise
  by_cases hq : q.val < 1024
  · rw [dif_pos hq, dif_pos hq]
    exact e60 r _
  · rw [dif_neg hq, dif_neg hq]
    exact e65 r _

/-- The output matrix. -/
theorem result80 : val_main_v80 (F := Ideal) x4 x5 = wantOut x4 x5 := by
  have e72 := v72_apply x4
  have e77 := v77_apply x5
  unfold val_main_v80 val_main_v79 val_main_v78
  generalize val_main_v72 (F := Ideal) x4 = y at e72 ⊢
  generalize val_main_v77 (F := Ideal) x5 = z at e77 ⊢
  funext i
  obtain ⟨q, r, rfl⟩ : ∃ (q : Fin 2048) (r : Fin 256), i = ix2 q r := ⟨i 0, i 1, eq_ix2 i⟩
  unfold wantOut
  pointwise
  by_cases hq : q.val < 1024
  · rw [dif_pos hq, dif_pos hq]
    exact e72 _ r
  · rw [dif_neg hq, dif_neg hq]
    exact congrArg (fun w : EReal => -w) (e77 _ r)

end Cert.Reference5Ideal.Params

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_gates_laid_out
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Final
public import proofs.«01_k».proof.Proof.Ref
public import proofs.«01_k».proof.Proof.InProj
public import proofs.«01_k».proof.Proof.InProjRef
public import proofs.«01_k».proof.Proof.FoxFrame
public import proofs.«01_k».proof.Proof.FoxBitsFrame
public import proofs.«01_k».proof.Proof.FoxFinal
public import proofs.«01_k».proof.Proof.FoxRef
public import proofs.«01_k».proof.Proof.FoxPre
public import proofs.«01_k».proof.Proof.LowerBounds
public import proofs.«01_k».proof.Proof.LowerBoundsRef
public import proofs.«01_k».proof.Proof.Placement
public import proofs.«01_k».proof.Proof.PlacementRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts
  Cert.Kernel2.Gen.facts Cert.Kernel2Ideal.Gen.facts Cert.Reference2Ideal.Gen.facts
  Cert.Kernel3.Gen.facts Cert.Kernel3Ideal.Gen.facts Cert.Reference3Ideal.Gen.facts Cert.Pre_gates_laid_out.Gen.facts
  Cert.Kernel4.Gen.facts Cert.Kernel4Ideal.Gen.facts Cert.Reference4Ideal.Gen.facts
  Cert.Kernel5.Gen.facts Cert.Kernel5Ideal.Gen.facts Cert.Reference5Ideal.Gen.facts

theorem reference_quiescent : Cert.quiescent_ReferenceIdeal := fun m ρ _ =>
  (θ_run Cert.ReferenceIdeal.defs _ _).mono (fun r h => ⟨fun c => (h c).2, sem_eq_zero_of_no_sems (by decide) _⟩)
    (Cert.ReferenceIdeal.Value.run (F := Ideal) m ρ)

theorem values : Cert.algebraic_KernelIdeal_ReferenceIdeal := by
  intro m ρ m' ρ' _ hag
  refine ⟨fun c => Cert.KernelIdeal.Final.want m c, ?_, ?_⟩
  · exact (θ_run Cert.KernelIdeal.defs _ _).mono (fun _ h c => ⟨(h c).1.trans (Cert.KernelIdeal.Final.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v54_eq (F := Ideal) _).trans ?_
    refine (Cert.ReferenceIdeal.Rows.result_eq _ _ _ _ _ _ _ _ _ _ _ _).trans ?_
    obtain ⟨h0, h1, h2, h3, h4, h5, h6, h7, h8, h9, h10, h11⟩ := hag c
    exact Cert.KernelIdeal.Final.tokens_congr h0 h1 h2 h3 h4 h5 h6 h7 h8 h9 h10 h11

theorem reference2_quiescent : Cert.quiescent_Reference2Ideal := fun m ρ _ =>
  (θ_run Cert.Reference2Ideal.defs _ _).mono (fun r h => ⟨fun c => (h c).2.2.2.2.2.2.2, sem_eq_zero_of_no_sems (by decide) _⟩)
    (Cert.Reference2Ideal.Value.run (F := Ideal) m ρ)

section InProj

open Cert.Kernel2Ideal.Final Cert.Reference2Ideal.Read Cert.Reference2Ideal.Columns

theorem values2 : Cert.algebraic_Kernel2Ideal_Reference2Ideal := by
  intro m ρ m' ρ' _ hag
  refine ⟨fun c => want4 (argH m c) (argG m c) (argW m c), fun c => want5 (argH m c) (argG m c) (argW m c),
    fun c => want6 (argH m c) (argG m c) (argW m c), fun c => want7 (argH m c) (argG m c) (argW m c),
    fun c => want8 (argH m c) (argG m c) (argW m c), fun c => want9 (argH m c) (argG m c) (argW m c),
    fun c => want10 (argH m c) (argG m c) (argW m c), ?_, ?_⟩
  · refine (θ_run Cert.Kernel2Ideal.defs _ _).mono (fun _ h c => ?_) (Cert.Kernel2Ideal.Value.run_blocks (F := Ideal) m ρ)
    obtain ⟨h4, h5, h6, h7, h8, h9, h10, hargs⟩ := h c
    exact ⟨h4.trans (final4 m c), h5.trans (final5 m c), h6.trans (final6 m c), h7.trans (final7 m c), h8.trans (final8 m c),
      h9.trans (final9 m c), h10.trans (final10 m c), hargs⟩
  · refine (θ_run Cert.Reference2Ideal.defs _ _).mono (fun _ h c => ?_) (Cert.Reference2Ideal.Value.run (F := Ideal) m' ρ')
    obtain ⟨h31, h34, h35, h36, h37, h39, h42, hargs⟩ := h c
    obtain ⟨e0, e1, e2⟩ := hag c
    refine ⟨h31.trans ?_, h34.trans ?_, h35.trans ?_, h36.trans ?_, h37.trans ?_, h39.trans ?_, h42.trans ?_, hargs⟩
    · rw [e0, e1, e2]
      exact (val_main_v31_eq (F := Ideal) _ _ _).trans (v31_eq _ _ _)
    · refine (val_main_v34_eq (F := Ideal) m' c).trans ?_
      rw [e0, e1, e2]
      exact v34_eq _ _ _
    · rw [e0, e1, e2]
      exact (val_main_v35_eq (F := Ideal) _ _ _).trans (v35_eq _ _ _)
    · refine (val_main_v36_eq (F := Ideal) m' c).trans ?_
      rw [e0, e1, e2]
      exact v36_eq _ _ _
    · rw [e0, e1, e2]
      exact (val_main_v37_eq (F := Ideal) _ _ _).trans (v37_eq _ _ _)
    · rw [e0, e1, e2]
      exact (val_main_v39_eq (F := Ideal) _ _ _).trans (v39_eq _ _ _)
    · rw [e0, e1, e2]
      exact (val_main_v42_eq (F := Ideal) _ _ _).trans (v42_eq _ _ _)

end InProj

theorem reference3_quiescent : Cert.quiescent_Reference3Ideal := fun m ρ _ =>
  (θ_run Cert.Reference3Ideal.defs _ _).mono (fun r h => ⟨fun c => (h c).2, sem_eq_zero_of_no_sems (by decide) _⟩)
    (Cert.Reference3Ideal.Value.run (F := Ideal) m ρ)

/-- The three named constants of the attention call are the reals their names stand for. -/
theorem names3 : Cert.preserves_Kernel3_Kernel3Ideal := ⟨IdealRules.named_const.statement _ _ _ _ _ rfl,
  IdealRules.named_const.statement _ _ _ _ _ rfl, IdealRules.named_const.statement _ _ _ _ _ rfl⟩

section Fox

open Cert.Kernel3Ideal.Fox

/-- Both attention programs end with the causal softmax mean, normalised and scaled. -/
theorem values3 : Cert.algebraic_Kernel3Ideal_Reference3Ideal_pre_gates_laid_out := by
  intro m ρ m' ρ' hpre hag
  have L := fun c => laid _ _ _ _ _ _ (hpre c).1 (hpre c).2.1 (hpre c).2.2
  refine ⟨fun c => result m c, ?_, ?_⟩
  · exact (θ_run Cert.Kernel3Ideal.defs _ _).mono (fun _ h c => ⟨(((h.2 c).1 6).trans (final m c (L c))), h.1 c⟩)
      (θ_run_and (unchanged m ρ) (run_main m ρ))
  · refine (θ_run Cert.Reference3Ideal.defs _ _).mono (fun _ h c => ?_) (Cert.Reference3Ideal.Value.run (F := Ideal) m' ρ')
    obtain ⟨hv, hargs⟩ := h c
    obtain ⟨e0, e1, e2, e3, e4, e5⟩ := hag c
    refine ⟨hv.trans ?_, hargs⟩
    refine (Cert.Reference3Ideal.Read.val_main_v54_eq (F := Ideal) m' c).trans ?_
    rw [e0, e1, e3, e4, e5]
    exact Cert.Reference3Ideal.Fox.v54_eq _ _ _ _ _

end Fox

theorem reference4_quiescent : Cert.quiescent_Reference4Ideal := fun m ρ _ =>
  (θ_run Cert.Reference4Ideal.defs _ _).mono (fun r h => ⟨fun c => (h c).2, sem_eq_zero_of_no_sems (by decide) _⟩)
    (Cert.Reference4Ideal.Value.run (F := Ideal) m ρ)

/-- Both programs end with the lower bounds of the forget gates. -/
theorem values4 : Cert.algebraic_Kernel4Ideal_Reference4Ideal := by
  intro m ρ m' ρ' _ hag
  refine ⟨fun c => Cert.Kernel4Ideal.Bounds.want (m ((c.tc : Thread Cert.Kernel4Ideal.nD Cert.Kernel4Ideal.τ).loc Cert.Kernel4Ideal.main_arg0)), ?_, ?_⟩
  · exact (θ_run Cert.Kernel4Ideal.defs _ _).mono (fun _ h c => ⟨(h c).1.trans (Cert.Kernel4Ideal.Bounds.result_eq _), (h c).2⟩)
      (Cert.Kernel4Ideal.Value.run (F := Ideal) m ρ)
  · refine (θ_run Cert.Reference4Ideal.defs _ _).mono (fun _ h c => ⟨(h c).1.trans ?_, (h c).2⟩)
      (Cert.Reference4Ideal.Value.run (F := Ideal) m' ρ')
    rw [hag c]
    exact (Cert.Reference4Ideal.Read.val_main_v16_eq (F := Ideal) _).trans (Cert.Reference4Ideal.Bounds.result_eq _)

theorem reference5_quiescent : Cert.quiescent_Reference5Ideal := fun m ρ _ =>
  (θ_run Cert.Reference5Ideal.defs _ _).mono (fun r h => ⟨fun c => (h c).2.2.2, sem_eq_zero_of_no_sems (by decide) _⟩)
    (Cert.Reference5Ideal.Value.run (F := Ideal) m ρ)

section Params

open Cert.Kernel5Ideal.Params

/-- Both programs end with the first mixer's discretised parameters, placed. -/
theorem values5 : Cert.algebraic_Kernel5Ideal_Reference5Ideal := by
  intro m ρ m' ρ' _ hag
  refine ⟨fun c => wantEig (a0 m c) (a1 m c) (a6 m c), fun c => wantIn (a0 m c) (a1 m c) (a2 m c) (a3 m c) (a6 m c),
    fun c => wantOut (a4 m c) (a5 m c), ?_, ?_⟩
  · refine (θ_run Cert.Kernel5Ideal.defs _ _).mono (fun _ h c => ?_) (θ_run_and (Cert.Kernel5Ideal.Gen.unchanged m ρ) (run m ρ))
    obtain ⟨h19, h33, h52⟩ := h.2 c
    exact ⟨h19, h33, h52, h.1 c⟩
  · refine (θ_run Cert.Reference5Ideal.defs _ _).mono (fun _ h c => ?_) (Cert.Reference5Ideal.Value.run (F := Ideal) m' ρ')
    obtain ⟨h55, h67, h80, hargs⟩ := h c
    obtain ⟨e0, e1, e2, e3, e4, e5, e6⟩ := hag c
    refine ⟨h55.trans ?_, h67.trans ?_, h80.trans ?_, hargs⟩
    · rw [e0, e1, e6]
      exact (Cert.Reference5Ideal.Read.val_main_v55_eq (F := Ideal) _ _ _).trans (Cert.Reference5Ideal.Params.result55 _ _ _)
    · refine (Cert.Reference5Ideal.Read.val_main_v67_eq (F := Ideal) m' c).trans ?_
      rw [e0, e1, e2, e3, e6]
      exact Cert.Reference5Ideal.Params.result67 _ _ _ _ _
    · rw [e4, e5]
      exact (Cert.Reference5Ideal.Read.val_main_v80_eq (F := Ideal) _ _).trans (Cert.Reference5Ideal.Params.result80 _ _)

end Params

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_gates_laid_out.Gen.facts,
  fun m ρ _ => Cert.Kernel.Gen.frame m ρ, fun m ρ _ => Cert.KernelIdeal.Gen.frame m ρ, reference_quiescent,
  fun m ρ _ => Cert.Kernel2.Gen.frame m ρ, fun m ρ _ => Cert.Kernel2Ideal.Gen.frame m ρ, reference2_quiescent,
  fun m ρ _ => Cert.Kernel3.Fox.frame m ρ, fun m ρ _ => Cert.Kernel3Ideal.Fox.frame m ρ,
  fun m ρ _ => Cert.Kernel3Ideal.Fox.frame m ρ, reference3_quiescent, fun m ρ _ => reference3_quiescent m ρ trivial,
  fun m ρ _ => Cert.Kernel4.Gen.frame m ρ, fun m ρ _ => Cert.Kernel4Ideal.Gen.frame m ρ, reference4_quiescent,
  fun m ρ _ => Cert.Kernel5.Gen.frame m ρ, fun m ρ _ => Cert.Kernel5Ideal.Gen.frame m ρ, reference5_quiescent,
  trivial, values, trivial, values2, names3, values3, trivial, values4, trivial, values5⟩

end Cert.Proof

end
